-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_separated [hPre_separated : Cert.Pre_separated.Facts] (m : (ℓ : Loc Cert.KernelIdeal.nD Cert.KernelIdeal.τ Cert.KernelIdeal.sig) → Buf (Elt Ideal) ℓ) : Prop :=
  ∀ c : Dev Cert.KernelIdeal.nD,
    (Cert.Pre_separated.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_separated [hPre_separated : Cert.Pre_separated.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_separated.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_KernelIdeal_pre_separated [hKernelIdeal : Cert.KernelIdeal.Facts] [hPre_separated : Cert.Pre_separated.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_separated m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_ReferenceIdeal_pre_separated [hReferenceIdeal : Cert.ReferenceIdeal.Facts] [hPre_separated : Cert.Pre_separated.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_separated m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def preserves_Kernel_KernelIdeal : Prop :=
  True

def algebraic_KernelIdeal_ReferenceIdeal_pre_separated [hKernelIdeal : Cert.KernelIdeal.Facts] [hReferenceIdeal : Cert.ReferenceIdeal.Facts] [hPre_separated : Cert.Pre_separated.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_separated m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v20)) (v1 : (c : Dev Cert.KernelIdeal.nD) → Buf (Elt Ideal) ((c.tc : Thread Cert.KernelIdeal.nD Cert.KernelIdeal.τ).loc Cert.KernelIdeal.main_v21)) (v2 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_v21) = v1 c
          ∧ r.2.mem ((c.tc : Thread Cert.KernelIdeal.nD Cert.KernelIdeal.τ).loc Cert.KernelIdeal.main_v22) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v49) = v0 c
          ∧ r.2.mem ((c.tc : Thread Cert.ReferenceIdeal.nD Cert.ReferenceIdeal.τ).loc Cert.ReferenceIdeal.main_v48) = v1 c
          ∧ r.2.mem ((c.tc : Thread Cert.ReferenceIdeal.nD Cert.ReferenceIdeal.τ).loc Cert.ReferenceIdeal.main_v19) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_separated : Cert.Pre_separated.Facts),
    quiescent_Kernel (hKernel := hKernel)
    ∧ quiescent_KernelIdeal (hKernelIdeal := hKernelIdeal)
    ∧ quiescent_KernelIdeal_pre_separated (hKernelIdeal := hKernelIdeal) (hPre_separated := hPre_separated)
    ∧ quiescent_ReferenceIdeal (hReferenceIdeal := hReferenceIdeal)
    ∧ quiescent_ReferenceIdeal_pre_separated (hReferenceIdeal := hReferenceIdeal) (hPre_separated := hPre_separated)
    ∧ preserves_Kernel_KernelIdeal
    ∧ algebraic_KernelIdeal_ReferenceIdeal_pre_separated (hKernelIdeal := hKernelIdeal) (hReferenceIdeal := hReferenceIdeal) (hPre_separated := hPre_separated)
-- ==== Pre_separated.lean ====
abbrev S4096x68 : Shape := ⟨2, ![4096, 68]⟩
abbrev S4096x64x3 : Shape := ⟨3, ![4096, 64, 3]⟩
abbrev S4096x64x2 : Shape := ⟨3, ![4096, 64, 2]⟩
abbrev S256x68 : Shape := ⟨2, ![256, 68]⟩
abbrev S256 : Shape := ⟨1, ![256]⟩
abbrev S256x7 : Shape := ⟨2, ![256, 7]⟩
abbrev S1x512 : Shape := ⟨2, ![1, 512]⟩
abbrev S1 : Shape := ⟨1, ![1]⟩
abbrev S68x256 : Shape := ⟨2, ![68, 256]⟩
abbrev S4096x256 : Shape := ⟨2, ![4096, 256]⟩
abbrev S1x256 : Shape := ⟨2, ![1, 256]⟩
abbrev S4096x1x256 : Shape := ⟨3, ![4096, 1, 256]⟩
abbrev S4096x64x256 : Shape := ⟨3, ![4096, 64, 256]⟩
abbrev S4096x64x7 : Shape := ⟨3, ![4096, 64, 7]⟩
abbrev S7x256 : Shape := ⟨2, ![7, 256]⟩
abbrev S1x1x256 : Shape := ⟨3, ![1, 1, 256]⟩
abbrev S4096x64x512 : Shape := ⟨3, ![4096, 64, 512]⟩
abbrev S512x1 : Shape := ⟨2, ![512, 1]⟩
abbrev S4096x64x1 : Shape := ⟨3, ![4096, 64, 1]⟩
abbrev S1x1x1 : Shape := ⟨3, ![1, 1, 1]⟩
abbrev S4096x64 : Shape := ⟨2, ![4096, 64]⟩
abbrev S4096x9 : Shape := ⟨2, ![4096, 9]⟩
abbrev S_ : Shape := ⟨0, ![]⟩
abbrev S4096x1 : Shape := ⟨2, ![4096, 1]⟩

class Facts : Prop where
  transposes_S256x68_S68x256_1_0 : S256x68.Transposes [1, 0] S68x256
  bcast_S256_S1x256_1 : S256.BroadcastsInDim S1x256 (![1] : Fin 1 → Fin S1x256.rank)
  bcast_S1x256_S4096x256_0_1 : S1x256.BroadcastsInDim S4096x256 (![0, 1] : Fin 2 → Fin S4096x256.rank)
  bcast_S4096x256_S4096x1x256_0_2 : S4096x256.BroadcastsInDim S4096x1x256 (![0, 2] : Fin 2 → Fin S4096x1x256.rank)
  bcast_S4096x1x256_S4096x64x256_0_1_2 : S4096x1x256.BroadcastsInDim S4096x64x256 (![0, 1, 2] : Fin 3 → Fin S4096x64x256.rank)
  concatenates_S4096x64x3_S4096x64x2_S4096x64x2_S4096x64x7_d2 : Shape.Concatenates [S4096x64x3, S4096x64x2, S4096x64x2] S4096x64x7 2
  transposes_S256x7_S7x256_1_0 : S256x7.Transposes [1, 0] S7x256
  bcast_S256_S1x1x256_2 : S256.BroadcastsInDim S1x1x256 (![2] : Fin 1 → Fin S1x1x256.rank)
  bcast_S1x1x256_S4096x64x256_0_1_2 : S1x1x256.BroadcastsInDim S4096x64x256 (![0, 1, 2] : Fin 3 → Fin S4096x64x256.rank)
  concatenates_S4096x64x256_S4096x64x256_S4096x64x512_d2 : Shape.Concatenates [S4096x64x256, S4096x64x256] S4096x64x512 2
  transposes_S1x512_S512x1_1_0 : S1x512.Transposes [1, 0] S512x1
  bcast_S1_S1x1x1_2 : S1.BroadcastsInDim S1x1x1 (![2] : Fin 1 → Fin S1x1x1.rank)
  bcast_S1x1x1_S4096x64x1_0_1_2 : S1x1x1.BroadcastsInDim S4096x64x1 (![0, 1, 2] : Fin 3 → Fin S4096x64x1.rank)
  shapeCasts_S4096x64x1_S4096x64 : S4096x64x1.ShapeCasts S4096x64
  sliceFits_S4096x64_S4096x9 : S4096x64.Slices (fun _ => 0) S4096x9
  bcast_S_S4096x64 : S_.BroadcastsInDim S4096x64 (![] : Fin 0 → Fin S4096x64.rank)
  reducesTo_S4096x64_S_d0_1 : S4096x64.ReducesTo [0, 1] S_
  h_S_ : 0 < S_.numel
  slices_S4096x9_S4096x1_0_7 : S4096x9.Slices ![0, 7] S4096x1
  slices_S4096x9_S4096x1_0_8 : S4096x9.Slices ![0, 8] S4096x1
  reducesTo_S4096x1_S_d0_1 : S4096x1.ReducesTo [0, 1] S_
  dot_S4096x68_S68x256_S4096x256_1_0_0_1_n_n_wf : DotDims.WF S4096x68 S68x256 S4096x256 [1] [0] [0] [1] [] []
  dot_S4096x64x7_S7x256_S4096x64x256_2_0_01_1_n_n_wf : DotDims.WF S4096x64x7 S7x256 S4096x64x256 [2] [0] [0, 1] [1] [] []
  dot_S4096x64x512_S512x1_S4096x64x1_2_0_01_1_n_n_wf : DotDims.WF S4096x64x512 S512x1 S4096x64x1 [2] [0] [0, 1] [1] [] []

variable [Facts]

def dot_S4096x68_S68x256_S4096x256_1_0_0_1_n_n : DotDims S4096x68 S68x256 S4096x256 where
  lhsContracting := [1]
  rhsContracting := [0]
  lhsNonContracting := [0]
  rhsNonContracting := [1]
  lhsBatch := []
  rhsBatch := []
  wf := dot_S4096x68_S68x256_S4096x256_1_0_0_1_n_n_wf
def dot_S4096x64x7_S7x256_S4096x64x256_2_0_01_1_n_n : DotDims S4096x64x7 S7x256 S4096x64x256 where
  lhsContracting := [2]
  rhsContracting := [0]
  lhsNonContracting := [0, 1]
  rhsNonContracting := [1]
  lhsBatch := []
  rhsBatch := []
  wf := dot_S4096x64x7_S7x256_S4096x64x256_2_0_01_1_n_n_wf
def dot_S4096x64x512_S512x1_S4096x64x1_2_0_01_1_n_n : DotDims S4096x64x512 S512x1 S4096x64x1 where
  lhsContracting := [2]
  rhsContracting := [0]
  lhsNonContracting := [0, 1]
  rhsNonContracting := [1]
  lhsBatch := []
  rhsBatch := []
  wf := dot_S4096x64x512_S512x1_S4096x64x1_2_0_01_1_n_n_wf
def fn_part1 {F : FTy → Type} [FloatOps F] (main_values : FVec F S4096x9 .f32) (main_v20 : FVec F S4096x64 .f32) (main_cst : FVec F S_ .f32) : IVec S_ 1 :=
  let main_v21 : FVec F S4096x64 .f32 := broadcastInDim S4096x64 ![] bcast_S_S4096x64 main_cst
  let main_v22 : IVec S4096x64 1 := cmpf .olt main_v20 main_v21
  let main_c : IVec S_ 1 := constantI S_ 1 1#1
  let main_v23 : IVec S_ 1 := (fun x v => Host.reduce IntOp.andi x v reducesTo_S4096x64_S_d0_1 h_S_) main_v22 main_c
  let main_v24 : FVec F S4096x1 .f32 := (extractStridedSlice S4096x1 ![0, 7] · slices_S4096x9_S4096x1_0_7) main_values
  let main_v25 : FVec F S4096x1 .f32 := (extractStridedSlice S4096x1 ![0, 8] · slices_S4096x9_S4096x1_0_8) main_values
  let main_v26 : IVec S4096x1 1 := cmpf .ogt main_v24 main_v25
  let main_c_0 : IVec S_ 1 := constantI S_ 1 1#1
  let main_v27 : IVec S_ 1 := (fun x v => Host.reduce IntOp.andi x v reducesTo_S4096x1_S_d0_1 h_S_) main_v26 main_c_0
  let main_v28 : IVec S_ 1 := andi main_v23 main_v27
  main_v28

def fn {F : FTy → Type} [FloatOps F] (main_arg0 : FVec F S4096x68 .f32) (main_arg1 : FVec F S4096x64x3 .f32) (main_arg2 : FVec F S4096x64x2 .f32) (main_arg3 : FVec F S4096x64x2 .f32) (main_arg4 : FVec F S256x68 .f32) (main_arg5 : FVec F S256 .f32) (main_arg6 : FVec F S256x7 .f32) (main_arg7 : FVec F S256 .f32) (main_arg8 : FVec F S1x512 .f32) (main_arg9 : FVec F S1 .f32) : IVec S_ 1 :=
  let main_v0 : FVec F S68x256 .f32 := (transpose S68x256 [1, 0] · transposes_S256x68_S68x256_1_0) main_arg4
  let main_v1 : FVec F S4096x256 .f32 := (fun l r => Host.dotGeneral dot_S4096x68_S68x256_S4096x256_1_0_0_1_n_n none l r) main_arg0 main_v0
  let main_v2 : FVec F S1x256 .f32 := broadcastInDim S1x256 ![1] bcast_S256_S1x256_1 main_arg5
  let main_v3 : FVec F S4096x256 .f32 := broadcastInDim S4096x256 ![0, 1] bcast_S1x256_S4096x256_0_1 main_v2
  let main_v4 : FVec F S4096x256 .f32 := addf main_v1 main_v3
  let main_v5 : FVec F S4096x1x256 .f32 := broadcastInDim S4096x1x256 ![0, 2] bcast_S4096x256_S4096x1x256_0_2 main_v4
  let main_v6 : FVec F S4096x64x256 .f32 := broadcastInDim S4096x64x256 ![0, 1, 2] bcast_S4096x1x256_S4096x64x256_0_1_2 main_v5
  let main_v7 : FVec F S4096x64x7 .f32 := concatenate S4096x64x7 2 [⟨S4096x64x3, main_arg1⟩, ⟨S4096x64x2, main_arg2⟩, ⟨S4096x64x2, main_arg3⟩] concatenates_S4096x64x3_S4096x64x2_S4096x64x2_S4096x64x7_d2
  let main_v8 : FVec F S7x256 .f32 := (transpose S7x256 [1, 0] · transposes_S256x7_S7x256_1_0) main_arg6
  let main_v9 : FVec F S4096x64x256 .f32 := (fun l r => Host.dotGeneral dot_S4096x64x7_S7x256_S4096x64x256_2_0_01_1_n_n none l r) main_v7 main_v8
  let main_v10 : FVec F S1x1x256 .f32 := broadcastInDim S1x1x256 ![2] bcast_S256_S1x1x256_2 main_arg7
  let main_v11 : FVec F S4096x64x256 .f32 := broadcastInDim S4096x64x256 ![0, 1, 2] bcast_S1x1x256_S4096x64x256_0_1_2 main_v10
  let main_v12 : FVec F S4096x64x256 .f32 := addf main_v9 main_v11
  let main_v13 : FVec F S4096x64x512 .f32 := (fun a b => concatenate S4096x64x512 2 [⟨S4096x64x256, a⟩, ⟨S4096x64x256, b⟩] concatenates_S4096x64x256_S4096x64x256_S4096x64x512_d2) main_v12 main_v6
  let main_v14 : FVec F S512x1 .f32 := (transpose S512x1 [1, 0] · transposes_S1x512_S512x1_1_0) main_arg8
  let main_v15 : FVec F S4096x64x1 .f32 := (fun l r => Host.dotGeneral dot_S4096x64x512_S512x1_S4096x64x1_2_0_01_1_n_n none l r) main_v13 main_v14
  let main_v16 : FVec F S1x1x1 .f32 := broadcastInDim S1x1x1 ![2] bcast_S1_S1x1x1_2 main_arg9
  let main_v17 : FVec F S4096x64x1 .f32 := broadcastInDim S4096x64x1 ![0, 1, 2] bcast_S1x1x1_S4096x64x1_0_1_2 main_v16
  let main_v18 : FVec F S4096x64x1 .f32 := addf main_v15 main_v17
  let main_v19 : FVec F S4096x64 .f32 := shapeCast S4096x64 main_v18 shapeCasts_S4096x64x1_S4096x64
  let main_values : FVec F S4096x9 .f32 := (fun x => (Host.topK S4096x9 1 (FloatOps.cmpfTotal .gt) x sliceFits_S4096x64_S4096x9).1) main_v19
  let main_indices : IVec S4096x9 32 := (fun x => (Host.topK S4096x9 1 (FloatOps.cmpfTotal .gt) x sliceFits_S4096x64_S4096x9).2) main_v19
  let main_v20 : FVec F S4096x64 .f32 := Host.absf main_v19
  let main_cst : FVec F S_ .f32 := constant S_ .f32 0x7F800000#32
  fn_part1 (F := F) main_values main_v20 main_cst
-- ==== Kernel.lean ====
abbrev S4096x68 : Shape := ⟨2, ![4096, 68]⟩
abbrev S4096x64x3 : Shape := ⟨3, ![4096, 64, 3]⟩
abbrev S4096x64x2 : Shape := ⟨3, ![4096, 64, 2]⟩
abbrev S256x68 : Shape := ⟨2, ![256, 68]⟩
abbrev S256 : Shape := ⟨1, ![256]⟩
abbrev S256x7 : Shape := ⟨2, ![256, 7]⟩
abbrev S1x512 : Shape := ⟨2, ![1, 512]⟩
abbrev S1 : Shape := ⟨1, ![1]⟩
abbrev S3x64x4096 : Shape := ⟨3, ![3, 64, 4096]⟩
abbrev S3x262144 : Shape := ⟨2, ![3, 262144]⟩
abbrev S2x64x4096 : Shape := ⟨3, ![2, 64, 4096]⟩
abbrev S2x262144 : Shape := ⟨2, ![2, 262144]⟩
abbrev S7x262144 : Shape := ⟨2, ![7, 262144]⟩
abbrev S256x1 : Shape := ⟨2, ![256, 1]⟩
abbrev S1x256 : Shape := ⟨2, ![1, 256]⟩
abbrev S1x262144 : Shape := ⟨2, ![1, 262144]⟩
abbrev S7x4096 : Shape := ⟨2, ![7, 4096]⟩
abbrev S1x4096 : Shape := ⟨2, ![1, 4096]⟩
abbrev S256x4096 : Shape := ⟨2, ![256, 4096]⟩
abbrev S68x4096 : Shape := ⟨2, ![68, 4096]⟩
abbrev S1x1 : Shape := ⟨2, ![1, 1]⟩
abbrev S64x4096 : Shape := ⟨2, ![64, 4096]⟩
abbrev S4096 : Shape := ⟨1, ![4096]⟩
abbrev S12288 : Shape := ⟨1, ![12288]⟩
abbrev S262144 : Shape := ⟨1, ![262144]⟩
abbrev S64x128 : Shape := ⟨2, ![64, 128]⟩
abbrev S128 : Shape := ⟨1, ![128]⟩
abbrev S3x64x128 : Shape := ⟨3, ![3, 64, 128]⟩
abbrev S384 : Shape := ⟨1, ![384]⟩
abbrev S8192 : Shape := ⟨1, ![8192]⟩
abbrev S_ : Shape := ⟨0, ![]⟩
abbrev S1x64x128 : Shape := ⟨3, ![1, 64, 128]⟩
abbrev S16 : Shape := ⟨1, ![16]⟩
abbrev S4096x3 : Shape := ⟨2, ![4096, 3]⟩
abbrev S4096x64 : Shape := ⟨2, ![4096, 64]⟩

abbrev nBuf : Table → Nat
  | .hbm => 35
  | .local .tc .vmem => 13
  | .local .scVector .vmem => 6
  | _ => 0

abbrev bufTy : (tb : Table) → Fin (nBuf tb) → BufTy
  | .hbm, ⟨0, _⟩ => ⟨S4096x68, .f32⟩
  | .hbm, ⟨1, _⟩ => ⟨S4096x64x3, .f32⟩
  | .hbm, ⟨2, _⟩ => ⟨S4096x64x2, .f32⟩
  | .hbm, ⟨3, _⟩ => ⟨S4096x64x2, .f32⟩
  | .hbm, ⟨4, _⟩ => ⟨S256x68, .f32⟩
  | .hbm, ⟨5, _⟩ => ⟨S256, .f32⟩
  | .hbm, ⟨6, _⟩ => ⟨S256x7, .f32⟩
  | .hbm, ⟨7, _⟩ => ⟨S256, .f32⟩
  | .hbm, ⟨8, _⟩ => ⟨S1x512, .f32⟩
  | .hbm, ⟨9, _⟩ => ⟨S1, .f32⟩
  | .hbm, ⟨10, _⟩ => ⟨S3x64x4096, .f32⟩
  | .hbm, ⟨11, _⟩ => ⟨S3x262144, .f32⟩
  | .hbm, ⟨12, _⟩ => ⟨S2x64x4096, .f32⟩
  | .hbm, ⟨13, _⟩ => ⟨S2x262144, .f32⟩
  | .hbm, ⟨14, _⟩ => ⟨S2x64x4096, .f32⟩
  | .hbm, ⟨15, _⟩ => ⟨S2x262144, .f32⟩
  | .hbm, ⟨16, _⟩ => ⟨S7x262144, .f32⟩
  | .hbm, ⟨17, _⟩ => ⟨S256x1, .f32⟩
  | .hbm, ⟨18, _⟩ => ⟨S1x256, .f32⟩
  | .hbm, ⟨19, _⟩ => ⟨S1x262144, .f32⟩
  | .hbm, ⟨20, _⟩ => ⟨S68x4096, .f32⟩
  | .hbm, ⟨21, _⟩ => ⟨S256x1, .f32⟩
  | .hbm, ⟨22, _⟩ => ⟨S1x256, .f32⟩
  | .hbm, ⟨23, _⟩ => ⟨S1x1, .f32⟩
  | .hbm, ⟨24, _⟩ => ⟨S1x4096, .f32⟩
  | .hbm, ⟨25, _⟩ => ⟨S64x4096, .f32⟩
  | .hbm, ⟨26, _⟩ => ⟨S4096, .f32⟩
  | .hbm, ⟨27, _⟩ => ⟨S3x262144, .f32⟩
  | .hbm, ⟨28, _⟩ => ⟨S3x64x4096, .f32⟩
  | .hbm, ⟨29, _⟩ => ⟨S12288, .f32⟩
  | .hbm, ⟨30, _⟩ => ⟨S262144, .f32⟩
  | .hbm, ⟨31, _⟩ => ⟨S262144, .f32⟩
  | .hbm, ⟨32, _⟩ => ⟨S4096x3, .f32⟩
  | .hbm, ⟨33, _⟩ => ⟨S4096x64, .f32⟩
  | .hbm, ⟨34, _⟩ => ⟨S4096x64, .f32⟩
  | .local .tc .vmem, ⟨0, _⟩ => ⟨S7x4096, .f32⟩
  | .local .tc .vmem, ⟨1, _⟩ => ⟨S7x4096, .f32⟩
  | .local .tc .vmem, ⟨2, _⟩ => ⟨S256x7, .f32⟩
  | .local .tc .vmem, ⟨3, _⟩ => ⟨S256x1, .f32⟩
  | .local .tc .vmem, ⟨4, _⟩ => ⟨S1x256, .f32⟩
  | .local .tc .vmem, ⟨5, _⟩ => ⟨S1x4096, .f32⟩
  | .local .tc .vmem, ⟨6, _⟩ => ⟨S1x4096, .f32⟩
  | .local .tc .vmem, ⟨7, _⟩ => ⟨S68x4096, .f32⟩
  | .local .tc .vmem, ⟨8, _⟩ => ⟨S256x68, .f32⟩
  | .local .tc .vmem, ⟨9, _⟩ => ⟨S256x1, .f32⟩
  | .local .tc .vmem, ⟨10, _⟩ => ⟨S1x256, .f32⟩
  | .local .tc .vmem, ⟨11, _⟩ => ⟨S1x1, .f32⟩
  | .local .tc .vmem, ⟨12, _⟩ => ⟨S1x4096, .f32⟩
  | .local .scVector .vmem, ⟨0, _⟩ => ⟨S64x128, .f32⟩
  | .local .scVector .vmem, ⟨1, _⟩ => ⟨S128, .f32⟩
  | .local .scVector .vmem, ⟨2, _⟩ => ⟨S3x64x128, .f32⟩
  | .local .scVector .vmem, ⟨3, _⟩ => ⟨S384, .f32⟩
  | .local .scVector .vmem, ⟨4, _⟩ => ⟨S8192, .f32⟩
  | .local .scVector .vmem, ⟨5, _⟩ => ⟨S8192, .f32⟩
  | _, _ => ⟨S4096x68, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => false
  | ⟨14, _⟩ => false
  | ⟨15, _⟩ => false
  | ⟨16, _⟩ => false
  | ⟨17, _⟩ => false
  | ⟨18, _⟩ => false
  | ⟨19, _⟩ => false
  | ⟨20, _⟩ => false
  | _ => false

abbrev sig : RefSig :=
  ofTables nBuf rfl bufTy 4 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19_0 : Ref sig .tc := ⟨.hbm, 29, rfl⟩
abbrev main_v19_1 : Ref sig .tc := ⟨.hbm, 30, rfl⟩
abbrev main_v19_2 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v15_scv : Ref sig .scVector := ⟨.hbm, 25, rfl⟩
abbrev main_v16_scv : Ref sig .scVector := ⟨.hbm, 26, rfl⟩
abbrev main_v18_scv : Ref sig .scVector := ⟨.hbm, 28, rfl⟩
abbrev main_v19_0_scv : Ref sig .scVector := ⟨.hbm, 29, rfl⟩
abbrev main_v19_1_scv : Ref sig .scVector := ⟨.hbm, 30, rfl⟩
abbrev main_v19_2_scv : Ref sig .scVector := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc1_stg0_0 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg5_0 : Ref sig .tc := ⟨.vmem, 12, rfl⟩
abbrev cc2_scratch0 : Ref sig .scVector := ⟨.vmem, 0, rfl⟩
abbrev cc2_scratch1 : Ref sig .scVector := ⟨.vmem, 1, rfl⟩
abbrev cc2_scratch2 : Ref sig .scVector := ⟨.vmem, 2, rfl⟩
abbrev cc2_scratch3 : Ref sig .scVector := ⟨.vmem, 3, rfl⟩
abbrev cc2_scratch4 : Ref sig .scVector := ⟨.vmem, 4, rfl⟩
abbrev cc2_scratch5 : Ref sig .scVector := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc1_sem0_0 : DmaSem sig := 7
abbrev cc1_sem1_0 : DmaSem sig := 8
abbrev cc1_sem2_0 : DmaSem sig := 9
abbrev cc1_sem3_0 : DmaSem sig := 10
abbrev cc1_sem4_0 : DmaSem sig := 11
abbrev cc1_sem5_0 : DmaSem sig := 12
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S7x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x7 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := .none

abbrev stage1_0 : Fin 1 → Memref sig .tc .vmem S68x4096 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S256x68 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev stage1_2 : Fin 1 → Memref sig .tc .vmem S256x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))

abbrev stage1_3 : Fin 1 → Memref sig .tc .vmem S1x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))

abbrev stage1_4 : Fin 1 → Memref sig .tc .vmem S1x1 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))

abbrev stage1_5 : Fin 1 → Memref sig .tc .vmem S1x4096 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))

abbrev grid2 : Pipeline.Grid := ⟨2, ![2, 16], ![false, false]⟩

def k2_off1 (i : grid2.Coords) : Fin 2 → Nat :=
  let c0_i32_17_r0 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  ![0, v2.toNat]
def k2_off2 (i : grid2.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32_0 : BitVec 32 := 128#32
  let v3 : BitVec 32 := Scalar.muli v1 c128_i32_0
  ![v3.toNat]
def k2_off3 (i : grid2.Coords) : Fin 3 → Nat :=
  let c0_i32 : BitVec 32 := 0#32
  let c0_i32_19_r2 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32_1 : BitVec 32 := 128#32
  let v4 : BitVec 32 := Scalar.muli v1 c128_i32_1
  ![0, 0, v4.toNat]
def k2_off4 (i : grid2.Coords) : Fin 3 → Nat :=
  let c1_i32 : BitVec 32 := 1#32
  let c0_i32_19_r3 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32_3 : BitVec 32 := 128#32
  let v5 : BitVec 32 := Scalar.muli v1 c128_i32_3
  ![1, 0, v5.toNat]
def k2_off5 (i : grid2.Coords) : Fin 3 → Nat :=
  let c2_i32_6 : BitVec 32 := 2#32
  let c0_i32_19_r4 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32_5 : BitVec 32 := 128#32
  let v6 : BitVec 32 := Scalar.muli v1 c128_i32_5
  ![2, 0, v6.toNat]
@[reducible] def k2_t1_loop : Scf.Loop 32 :=
  let c0_i32_9 : BitVec 32 := 0#32
  let c512_i32 : BitVec 32 := 512#32
  let v9 : BitVec 32 := Scalar.addi c0_i32_9 c512_i32
  let c1_i32_10 : BitVec 32 := 1#32
  ⟨c0_i32_9, v9, c1_i32_10⟩

def k2_chk1 (v16 : IVec S16 32) : Prop :=
  (∀ a x, ((![v16] : Fin 1 → IVec S16 32) a x).toNat < S8192.size a)
theorem k2_idx1_inb : ∀ (v16 : IVec S16 32) (k2_hw1 : k2_chk1 v16), ∀ a x, ((![v16] : Fin 1 → IVec S16 32) a x).toNat < S8192.size a := fun v16 k2_hw1 => k2_hw1
@[reducible] def k2_t2_loop : Scf.Loop 32 :=
  let c0_i32_13 : BitVec 32 := 0#32
  let c8_i32 : BitVec 32 := 8#32
  let v10 : BitVec 32 := Scalar.addi c0_i32_13 c8_i32
  let c1_i32_14 : BitVec 32 := 1#32
  ⟨c0_i32_13, v10, c1_i32_14⟩

def k2_chk2 (v16 : IVec S16 32) : Prop :=
  (∀ a x, ((![v16] : Fin 1 → IVec S16 32) a x).toNat < S128.size a)
theorem k2_idx2_inb : ∀ (v16 : IVec S16 32) (k2_hw2 : k2_chk2 v16), ∀ a x, ((![v16] : Fin 1 → IVec S16 32) a x).toNat < S128.size a := fun v16 k2_hw2 => k2_hw2

def k2_chk3 (v16 : IVec S16 32) (v52 : IVec S16 32) : Prop :=
  (∀ a x, ((![v52, v16] : Fin 2 → IVec S16 32) a x).toNat < S64x128.size a)
theorem k2_idx3_inb : ∀ (v16 : IVec S16 32) (v52 : IVec S16 32) (k2_hw3 : k2_chk3 v16 v52), ∀ a x, ((![v52, v16] : Fin 2 → IVec S16 32) a x).toNat < S64x128.size a := fun v16 v52 k2_hw3 => k2_hw3

def k2_chk4 (v56 : IVec S16 32) : Prop :=
  (∀ a x, ((![v56] : Fin 1 → IVec S16 32) a x).toNat < S8192.size a)
theorem k2_idx4_inb : ∀ (v56 : IVec S16 32) (k2_hw4 : k2_chk4 v56), ∀ a x, ((![v56] : Fin 1 → IVec S16 32) a x).toNat < S8192.size a := fun v56 k2_hw4 => k2_hw4

def k2_chk5 (v16 : IVec S16 32) (v98 : IVec S16 32) : Prop :=
  (∀ a x, ((![v98, v16] : Fin 2 → IVec S16 32) a x).toNat < S64x128.size a)
theorem k2_idx5_inb : ∀ (v16 : IVec S16 32) (v98 : IVec S16 32) (k2_hw5 : k2_chk5 v16 v98), ∀ a x, ((![v98, v16] : Fin 2 → IVec S16 32) a x).toNat < S64x128.size a := fun v16 v98 k2_hw5 => k2_hw5

def k2_chk6 (v102 : IVec S16 32) : Prop :=
  (∀ a x, ((![v102] : Fin 1 → IVec S16 32) a x).toNat < S8192.size a)
theorem k2_idx6_inb : ∀ (v102 : IVec S16 32) (k2_hw6 : k2_chk6 v102), ∀ a x, ((![v102] : Fin 1 → IVec S16 32) a x).toNat < S8192.size a := fun v102 k2_hw6 => k2_hw6

def k2_chk7 (v16 : IVec S16 32) (v144 : IVec S16 32) : Prop :=
  (∀ a x, ((![v144, v16] : Fin 2 → IVec S16 32) a x).toNat < S64x128.size a)
theorem k2_idx7_inb : ∀ (v16 : IVec S16 32) (v144 : IVec S16 32) (k2_hw7 : k2_chk7 v16 v144), ∀ a x, ((![v144, v16] : Fin 2 → IVec S16 32) a x).toNat < S64x128.size a := fun v16 v144 k2_hw7 => k2_hw7

def k2_chk8 (v148 : IVec S16 32) : Prop :=
  (∀ a x, ((![v148] : Fin 1 → IVec S16 32) a x).toNat < S8192.size a)
theorem k2_idx8_inb : ∀ (v148 : IVec S16 32) (k2_hw8 : k2_chk8 v148), ∀ a x, ((![v148] : Fin 1 → IVec S16 32) a x).toNat < S8192.size a := fun v148 k2_hw8 => k2_hw8

def k2_chk9 (v16 : IVec S16 32) (v190 : IVec S16 32) : Prop :=
  (∀ a x, ((![v190, v16] : Fin 2 → IVec S16 32) a x).toNat < S64x128.size a)
theorem k2_idx9_inb : ∀ (v16 : IVec S16 32) (v190 : IVec S16 32) (k2_hw9 : k2_chk9 v16 v190), ∀ a x, ((![v190, v16] : Fin 2 → IVec S16 32) a x).toNat < S64x128.size a := fun v16 v190 k2_hw9 => k2_hw9

def k2_chk10 (v194 : IVec S16 32) : Prop :=
  (∀ a x, ((![v194] : Fin 1 → IVec S16 32) a x).toNat < S8192.size a)
theorem k2_idx10_inb : ∀ (v194 : IVec S16 32) (k2_hw10 : k2_chk10 v194), ∀ a x, ((![v194] : Fin 1 → IVec S16 32) a x).toNat < S8192.size a := fun v194 k2_hw10 => k2_hw10

def k2_chk11 (v16 : IVec S16 32) (v236 : IVec S16 32) : Prop :=
  (∀ a x, ((![v236, v16] : Fin 2 → IVec S16 32) a x).toNat < S64x128.size a)
theorem k2_idx11_inb : ∀ (v16 : IVec S16 32) (v236 : IVec S16 32) (k2_hw11 : k2_chk11 v16 v236), ∀ a x, ((![v236, v16] : Fin 2 → IVec S16 32) a x).toNat < S64x128.size a := fun v16 v236 k2_hw11 => k2_hw11

def k2_chk12 (v240 : IVec S16 32) : Prop :=
  (∀ a x, ((![v240] : Fin 1 → IVec S16 32) a x).toNat < S8192.size a)
theorem k2_idx12_inb : ∀ (v240 : IVec S16 32) (k2_hw12 : k2_chk12 v240), ∀ a x, ((![v240] : Fin 1 → IVec S16 32) a x).toNat < S8192.size a := fun v240 k2_hw12 => k2_hw12

def k2_chk13 (v16 : IVec S16 32) (v282 : IVec S16 32) : Prop :=
  (∀ a x, ((![v282, v16] : Fin 2 → IVec S16 32) a x).toNat < S64x128.size a)
theorem k2_idx13_inb : ∀ (v16 : IVec S16 32) (v282 : IVec S16 32) (k2_hw13 : k2_chk13 v16 v282), ∀ a x, ((![v282, v16] : Fin 2 → IVec S16 32) a x).toNat < S64x128.size a := fun v16 v282 k2_hw13 => k2_hw13

def k2_chk14 (v286 : IVec S16 32) : Prop :=
  (∀ a x, ((![v286] : Fin 1 → IVec S16 32) a x).toNat < S8192.size a)
theorem k2_idx14_inb : ∀ (v286 : IVec S16 32) (k2_hw14 : k2_chk14 v286), ∀ a x, ((![v286] : Fin 1 → IVec S16 32) a x).toNat < S8192.size a := fun v286 k2_hw14 => k2_hw14

def k2_chk15 (v16 : IVec S16 32) (v328 : IVec S16 32) : Prop :=
  (∀ a x, ((![v328, v16] : Fin 2 → IVec S16 32) a x).toNat < S64x128.size a)
theorem k2_idx15_inb : ∀ (v16 : IVec S16 32) (v328 : IVec S16 32) (k2_hw15 : k2_chk15 v16 v328), ∀ a x, ((![v328, v16] : Fin 2 → IVec S16 32) a x).toNat < S64x128.size a := fun v16 v328 k2_hw15 => k2_hw15

def k2_chk16 (v332 : IVec S16 32) : Prop :=
  (∀ a x, ((![v332] : Fin 1 → IVec S16 32) a x).toNat < S8192.size a)
theorem k2_idx16_inb : ∀ (v332 : IVec S16 32) (k2_hw16 : k2_chk16 v332), ∀ a x, ((![v332] : Fin 1 → IVec S16 32) a x).toNat < S8192.size a := fun v332 k2_hw16 => k2_hw16

def k2_chk17 (v16 : IVec S16 32) (v374 : IVec S16 32) : Prop :=
  (∀ a x, ((![v374, v16] : Fin 2 → IVec S16 32) a x).toNat < S64x128.size a)
theorem k2_idx17_inb : ∀ (v16 : IVec S16 32) (v374 : IVec S16 32) (k2_hw17 : k2_chk17 v16 v374), ∀ a x, ((![v374, v16] : Fin 2 → IVec S16 32) a x).toNat < S64x128.size a := fun v16 v374 k2_hw17 => k2_hw17

def k2_chk18 (v378 : IVec S16 32) : Prop :=
  (∀ a x, ((![v378] : Fin 1 → IVec S16 32) a x).toNat < S8192.size a)
theorem k2_idx18_inb : ∀ (v378 : IVec S16 32) (k2_hw18 : k2_chk18 v378), ∀ a x, ((![v378] : Fin 1 → IVec S16 32) a x).toNat < S8192.size a := fun v378 k2_hw18 => k2_hw18

def k2_chk19 (v16 : IVec S16 32) (v420 : IVec S16 32) : Prop :=
  (∀ a x, ((![v420, v16] : Fin 2 → IVec S16 32) a x).toNat < S64x128.size a)
theorem k2_idx19_inb : ∀ (v16 : IVec S16 32) (v420 : IVec S16 32) (k2_hw19 : k2_chk19 v16 v420), ∀ a x, ((![v420, v16] : Fin 2 → IVec S16 32) a x).toNat < S64x128.size a := fun v16 v420 k2_hw19 => k2_hw19

def k2_chk20 (v424 : IVec S16 32) : Prop :=
  (∀ a x, ((![v424] : Fin 1 → IVec S16 32) a x).toNat < S8192.size a)
theorem k2_idx20_inb : ∀ (v424 : IVec S16 32) (k2_hw20 : k2_chk20 v424), ∀ a x, ((![v424] : Fin 1 → IVec S16 32) a x).toNat < S8192.size a := fun v424 k2_hw20 => k2_hw20

def k2_chk21 (v16 : IVec S16 32) (v466 : IVec S16 32) : Prop :=
  (∀ a x, ((![v466, v16] : Fin 2 → IVec S16 32) a x).toNat < S64x128.size a)
theorem k2_idx21_inb : ∀ (v16 : IVec S16 32) (v466 : IVec S16 32) (k2_hw21 : k2_chk21 v16 v466), ∀ a x, ((![v466, v16] : Fin 2 → IVec S16 32) a x).toNat < S64x128.size a := fun v16 v466 k2_hw21 => k2_hw21

def k2_chk22 (v470 : IVec S16 32) : Prop :=
  (∀ a x, ((![v470] : Fin 1 → IVec S16 32) a x).toNat < S8192.size a)
theorem k2_idx22_inb : ∀ (v470 : IVec S16 32) (k2_hw22 : k2_chk22 v470), ∀ a x, ((![v470] : Fin 1 → IVec S16 32) a x).toNat < S8192.size a := fun v470 k2_hw22 => k2_hw22

def k2_chk23 (v16 : IVec S16 32) (v512 : IVec S16 32) : Prop :=
  (∀ a x, ((![v512, v16] : Fin 2 → IVec S16 32) a x).toNat < S64x128.size a)
theorem k2_idx23_inb : ∀ (v16 : IVec S16 32) (v512 : IVec S16 32) (k2_hw23 : k2_chk23 v16 v512), ∀ a x, ((![v512, v16] : Fin 2 → IVec S16 32) a x).toNat < S64x128.size a := fun v16 v512 k2_hw23 => k2_hw23

def k2_chk24 (v516 : IVec S16 32) : Prop :=
  (∀ a x, ((![v516] : Fin 1 → IVec S16 32) a x).toNat < S8192.size a)
theorem k2_idx24_inb : ∀ (v516 : IVec S16 32) (k2_hw24 : k2_chk24 v516), ∀ a x, ((![v516] : Fin 1 → IVec S16 32) a x).toNat < S8192.size a := fun v516 k2_hw24 => k2_hw24

def k2_chk25 (v16 : IVec S16 32) (v558 : IVec S16 32) : Prop :=
  (∀ a x, ((![v558, v16] : Fin 2 → IVec S16 32) a x).toNat < S64x128.size a)
theorem k2_idx25_inb : ∀ (v16 : IVec S16 32) (v558 : IVec S16 32) (k2_hw25 : k2_chk25 v16 v558), ∀ a x, ((![v558, v16] : Fin 2 → IVec S16 32) a x).toNat < S64x128.size a := fun v16 v558 k2_hw25 => k2_hw25

def k2_chk26 (v562 : IVec S16 32) : Prop :=
  (∀ a x, ((![v562] : Fin 1 → IVec S16 32) a x).toNat < S8192.size a)
theorem k2_idx26_inb : ∀ (v562 : IVec S16 32) (k2_hw26 : k2_chk26 v562), ∀ a x, ((![v562] : Fin 1 → IVec S16 32) a x).toNat < S8192.size a := fun v562 k2_hw26 => k2_hw26

def k2_chk27 (v16 : IVec S16 32) (v604 : IVec S16 32) : Prop :=
  (∀ a x, ((![v604, v16] : Fin 2 → IVec S16 32) a x).toNat < S64x128.size a)
theorem k2_idx27_inb : ∀ (v16 : IVec S16 32) (v604 : IVec S16 32) (k2_hw27 : k2_chk27 v16 v604), ∀ a x, ((![v604, v16] : Fin 2 → IVec S16 32) a x).toNat < S64x128.size a := fun v16 v604 k2_hw27 => k2_hw27

def k2_chk28 (v608 : IVec S16 32) : Prop :=
  (∀ a x, ((![v608] : Fin 1 → IVec S16 32) a x).toNat < S8192.size a)
theorem k2_idx28_inb : ∀ (v608 : IVec S16 32) (k2_hw28 : k2_chk28 v608), ∀ a x, ((![v608] : Fin 1 → IVec S16 32) a x).toNat < S8192.size a := fun v608 k2_hw28 => k2_hw28

def k2_chk29 (v16 : IVec S16 32) (v650 : IVec S16 32) : Prop :=
  (∀ a x, ((![v650, v16] : Fin 2 → IVec S16 32) a x).toNat < S64x128.size a)
theorem k2_idx29_inb : ∀ (v16 : IVec S16 32) (v650 : IVec S16 32) (k2_hw29 : k2_chk29 v16 v650), ∀ a x, ((![v650, v16] : Fin 2 → IVec S16 32) a x).toNat < S64x128.size a := fun v16 v650 k2_hw29 => k2_hw29

def k2_chk30 (v654 : IVec S16 32) : Prop :=
  (∀ a x, ((![v654] : Fin 1 → IVec S16 32) a x).toNat < S8192.size a)
theorem k2_idx30_inb : ∀ (v654 : IVec S16 32) (k2_hw30 : k2_chk30 v654), ∀ a x, ((![v654] : Fin 1 → IVec S16 32) a x).toNat < S8192.size a := fun v654 k2_hw30 => k2_hw30

def k2_chk31 (v16 : IVec S16 32) (v696 : IVec S16 32) : Prop :=
  (∀ a x, ((![v696, v16] : Fin 2 → IVec S16 32) a x).toNat < S64x128.size a)
theorem k2_idx31_inb : ∀ (v16 : IVec S16 32) (v696 : IVec S16 32) (k2_hw31 : k2_chk31 v16 v696), ∀ a x, ((![v696, v16] : Fin 2 → IVec S16 32) a x).toNat < S64x128.size a := fun v16 v696 k2_hw31 => k2_hw31

def k2_chk32 (v700 : IVec S16 32) : Prop :=
  (∀ a x, ((![v700] : Fin 1 → IVec S16 32) a x).toNat < S8192.size a)
theorem k2_idx32_inb : ∀ (v700 : IVec S16 32) (k2_hw32 : k2_chk32 v700), ∀ a x, ((![v700] : Fin 1 → IVec S16 32) a x).toNat < S8192.size a := fun v700 k2_hw32 => k2_hw32

def k2_chk33 (v16 : IVec S16 32) (v742 : IVec S16 32) : Prop :=
  (∀ a x, ((![v742, v16] : Fin 2 → IVec S16 32) a x).toNat < S64x128.size a)
theorem k2_idx33_inb : ∀ (v16 : IVec S16 32) (v742 : IVec S16 32) (k2_hw33 : k2_chk33 v16 v742), ∀ a x, ((![v742, v16] : Fin 2 → IVec S16 32) a x).toNat < S64x128.size a := fun v16 v742 k2_hw33 => k2_hw33

def k2_chk34 (v746 : IVec S16 32) : Prop :=
  (∀ a x, ((![v746] : Fin 1 → IVec S16 32) a x).toNat < S8192.size a)
theorem k2_idx34_inb : ∀ (v746 : IVec S16 32) (k2_hw34 : k2_chk34 v746), ∀ a x, ((![v746] : Fin 1 → IVec S16 32) a x).toNat < S8192.size a := fun v746 k2_hw34 => k2_hw34

def k2_chk35 (v16 : IVec S16 32) (v788 : IVec S16 32) : Prop :=
  (∀ a x, ((![v788, v16] : Fin 2 → IVec S16 32) a x).toNat < S64x128.size a)
theorem k2_idx35_inb : ∀ (v16 : IVec S16 32) (v788 : IVec S16 32) (k2_hw35 : k2_chk35 v16 v788), ∀ a x, ((![v788, v16] : Fin 2 → IVec S16 32) a x).toNat < S64x128.size a := fun v16 v788 k2_hw35 => k2_hw35

def k2_chk36 (v792 : IVec S16 32) : Prop :=
  (∀ a x, ((![v792] : Fin 1 → IVec S16 32) a x).toNat < S8192.size a)
theorem k2_idx36_inb : ∀ (v792 : IVec S16 32) (k2_hw36 : k2_chk36 v792), ∀ a x, ((![v792] : Fin 1 → IVec S16 32) a x).toNat < S8192.size a := fun v792 k2_hw36 => k2_hw36

def k2_chk37 (v16 : IVec S16 32) (v834 : IVec S16 32) : Prop :=
  (∀ a x, ((![v834, v16] : Fin 2 → IVec S16 32) a x).toNat < S64x128.size a)
theorem k2_idx37_inb : ∀ (v16 : IVec S16 32) (v834 : IVec S16 32) (k2_hw37 : k2_chk37 v16 v834), ∀ a x, ((![v834, v16] : Fin 2 → IVec S16 32) a x).toNat < S64x128.size a := fun v16 v834 k2_hw37 => k2_hw37

def k2_chk38 (v838 : IVec S16 32) : Prop :=
  (∀ a x, ((![v838] : Fin 1 → IVec S16 32) a x).toNat < S8192.size a)
theorem k2_idx38_inb : ∀ (v838 : IVec S16 32) (k2_hw38 : k2_chk38 v838), ∀ a x, ((![v838] : Fin 1 → IVec S16 32) a x).toNat < S8192.size a := fun v838 k2_hw38 => k2_hw38

def k2_chk39 (v16 : IVec S16 32) (v880 : IVec S16 32) : Prop :=
  (∀ a x, ((![v880, v16] : Fin 2 → IVec S16 32) a x).toNat < S64x128.size a)
theorem k2_idx39_inb : ∀ (v16 : IVec S16 32) (v880 : IVec S16 32) (k2_hw39 : k2_chk39 v16 v880), ∀ a x, ((![v880, v16] : Fin 2 → IVec S16 32) a x).toNat < S64x128.size a := fun v16 v880 k2_hw39 => k2_hw39

def k2_chk40 (v884 : IVec S16 32) : Prop :=
  (∀ a x, ((![v884] : Fin 1 → IVec S16 32) a x).toNat < S8192.size a)
theorem k2_idx40_inb : ∀ (v884 : IVec S16 32) (k2_hw40 : k2_chk40 v884), ∀ a x, ((![v884] : Fin 1 → IVec S16 32) a x).toNat < S8192.size a := fun v884 k2_hw40 => k2_hw40

def k2_chk41 (v16 : IVec S16 32) (v926 : IVec S16 32) : Prop :=
  (∀ a x, ((![v926, v16] : Fin 2 → IVec S16 32) a x).toNat < S64x128.size a)
theorem k2_idx41_inb : ∀ (v16 : IVec S16 32) (v926 : IVec S16 32) (k2_hw41 : k2_chk41 v16 v926), ∀ a x, ((![v926, v16] : Fin 2 → IVec S16 32) a x).toNat < S64x128.size a := fun v16 v926 k2_hw41 => k2_hw41

def k2_chk42 (v930 : IVec S16 32) : Prop :=
  (∀ a x, ((![v930] : Fin 1 → IVec S16 32) a x).toNat < S8192.size a)
theorem k2_idx42_inb : ∀ (v930 : IVec S16 32) (k2_hw42 : k2_chk42 v930), ∀ a x, ((![v930] : Fin 1 → IVec S16 32) a x).toNat < S8192.size a := fun v930 k2_hw42 => k2_hw42

def k2_chk43 (v16 : IVec S16 32) (v972 : IVec S16 32) : Prop :=
  (∀ a x, ((![v972, v16] : Fin 2 → IVec S16 32) a x).toNat < S64x128.size a)
theorem k2_idx43_inb : ∀ (v16 : IVec S16 32) (v972 : IVec S16 32) (k2_hw43 : k2_chk43 v16 v972), ∀ a x, ((![v972, v16] : Fin 2 → IVec S16 32) a x).toNat < S64x128.size a := fun v16 v972 k2_hw43 => k2_hw43

def k2_chk44 (v976 : IVec S16 32) : Prop :=
  (∀ a x, ((![v976] : Fin 1 → IVec S16 32) a x).toNat < S8192.size a)
theorem k2_idx44_inb : ∀ (v976 : IVec S16 32) (k2_hw44 : k2_chk44 v976), ∀ a x, ((![v976] : Fin 1 → IVec S16 32) a x).toNat < S8192.size a := fun v976 k2_hw44 => k2_hw44

def k2_chk45 (v16 : IVec S16 32) (v1018 : IVec S16 32) : Prop :=
  (∀ a x, ((![v1018, v16] : Fin 2 → IVec S16 32) a x).toNat < S64x128.size a)
theorem k2_idx45_inb : ∀ (v16 : IVec S16 32) (v1018 : IVec S16 32) (k2_hw45 : k2_chk45 v16 v1018), ∀ a x, ((![v1018, v16] : Fin 2 → IVec S16 32) a x).toNat < S64x128.size a := fun v16 v1018 k2_hw45 => k2_hw45

def k2_chk46 (v1022 : IVec S16 32) : Prop :=
  (∀ a x, ((![v1022] : Fin 1 → IVec S16 32) a x).toNat < S8192.size a)
theorem k2_idx46_inb : ∀ (v1022 : IVec S16 32) (k2_hw46 : k2_chk46 v1022), ∀ a x, ((![v1022] : Fin 1 → IVec S16 32) a x).toNat < S8192.size a := fun v1022 k2_hw46 => k2_hw46

def k2_chk47 (v16 : IVec S16 32) (v1064 : IVec S16 32) : Prop :=
  (∀ a x, ((![v1064, v16] : Fin 2 → IVec S16 32) a x).toNat < S64x128.size a)
theorem k2_idx47_inb : ∀ (v16 : IVec S16 32) (v1064 : IVec S16 32) (k2_hw47 : k2_chk47 v16 v1064), ∀ a x, ((![v1064, v16] : Fin 2 → IVec S16 32) a x).toNat < S64x128.size a := fun v16 v1064 k2_hw47 => k2_hw47

def k2_chk48 (v1068 : IVec S16 32) : Prop :=
  (∀ a x, ((![v1068] : Fin 1 → IVec S16 32) a x).toNat < S8192.size a)
theorem k2_idx48_inb : ∀ (v1068 : IVec S16 32) (k2_hw48 : k2_chk48 v1068), ∀ a x, ((![v1068] : Fin 1 → IVec S16 32) a x).toNat < S8192.size a := fun v1068 k2_hw48 => k2_hw48

def k2_chk49 (v16 : IVec S16 32) (v1110 : IVec S16 32) : Prop :=
  (∀ a x, ((![v1110, v16] : Fin 2 → IVec S16 32) a x).toNat < S64x128.size a)
theorem k2_idx49_inb : ∀ (v16 : IVec S16 32) (v1110 : IVec S16 32) (k2_hw49 : k2_chk49 v16 v1110), ∀ a x, ((![v1110, v16] : Fin 2 → IVec S16 32) a x).toNat < S64x128.size a := fun v16 v1110 k2_hw49 => k2_hw49

def k2_chk50 (v1114 : IVec S16 32) : Prop :=
  (∀ a x, ((![v1114] : Fin 1 → IVec S16 32) a x).toNat < S8192.size a)
theorem k2_idx50_inb : ∀ (v1114 : IVec S16 32) (k2_hw50 : k2_chk50 v1114), ∀ a x, ((![v1114] : Fin 1 → IVec S16 32) a x).toNat < S8192.size a := fun v1114 k2_hw50 => k2_hw50

def k2_chk51 (v16 : IVec S16 32) (v1156 : IVec S16 32) : Prop :=
  (∀ a x, ((![v1156, v16] : Fin 2 → IVec S16 32) a x).toNat < S64x128.size a)
theorem k2_idx51_inb : ∀ (v16 : IVec S16 32) (v1156 : IVec S16 32) (k2_hw51 : k2_chk51 v16 v1156), ∀ a x, ((![v1156, v16] : Fin 2 → IVec S16 32) a x).toNat < S64x128.size a := fun v16 v1156 k2_hw51 => k2_hw51

def k2_chk52 (v1160 : IVec S16 32) : Prop :=
  (∀ a x, ((![v1160] : Fin 1 → IVec S16 32) a x).toNat < S8192.size a)
theorem k2_idx52_inb : ∀ (v1160 : IVec S16 32) (k2_hw52 : k2_chk52 v1160), ∀ a x, ((![v1160] : Fin 1 → IVec S16 32) a x).toNat < S8192.size a := fun v1160 k2_hw52 => k2_hw52

def k2_chk53 (v16 : IVec S16 32) (v1202 : IVec S16 32) : Prop :=
  (∀ a x, ((![v1202, v16] : Fin 2 → IVec S16 32) a x).toNat < S64x128.size a)
theorem k2_idx53_inb : ∀ (v16 : IVec S16 32) (v1202 : IVec S16 32) (k2_hw53 : k2_chk53 v16 v1202), ∀ a x, ((![v1202, v16] : Fin 2 → IVec S16 32) a x).toNat < S64x128.size a := fun v16 v1202 k2_hw53 => k2_hw53

def k2_chk54 (v1206 : IVec S16 32) : Prop :=
  (∀ a x, ((![v1206] : Fin 1 → IVec S16 32) a x).toNat < S8192.size a)
theorem k2_idx54_inb : ∀ (v1206 : IVec S16 32) (k2_hw54 : k2_chk54 v1206), ∀ a x, ((![v1206] : Fin 1 → IVec S16 32) a x).toNat < S8192.size a := fun v1206 k2_hw54 => k2_hw54

def k2_chk55 (v16 : IVec S16 32) (v1248 : IVec S16 32) : Prop :=
  (∀ a x, ((![v1248, v16] : Fin 2 → IVec S16 32) a x).toNat < S64x128.size a)
theorem k2_idx55_inb : ∀ (v16 : IVec S16 32) (v1248 : IVec S16 32) (k2_hw55 : k2_chk55 v16 v1248), ∀ a x, ((![v1248, v16] : Fin 2 → IVec S16 32) a x).toNat < S64x128.size a := fun v16 v1248 k2_hw55 => k2_hw55

def k2_chk56 (v1252 : IVec S16 32) : Prop :=
  (∀ a x, ((![v1252] : Fin 1 → IVec S16 32) a x).toNat < S8192.size a)
theorem k2_idx56_inb : ∀ (v1252 : IVec S16 32) (k2_hw56 : k2_chk56 v1252), ∀ a x, ((![v1252] : Fin 1 → IVec S16 32) a x).toNat < S8192.size a := fun v1252 k2_hw56 => k2_hw56

def k2_chk57 (v16 : IVec S16 32) (v1294 : IVec S16 32) : Prop :=
  (∀ a x, ((![v1294, v16] : Fin 2 → IVec S16 32) a x).toNat < S64x128.size a)
theorem k2_idx57_inb : ∀ (v16 : IVec S16 32) (v1294 : IVec S16 32) (k2_hw57 : k2_chk57 v16 v1294), ∀ a x, ((![v1294, v16] : Fin 2 → IVec S16 32) a x).toNat < S64x128.size a := fun v16 v1294 k2_hw57 => k2_hw57

def k2_chk58 (v1298 : IVec S16 32) : Prop :=
  (∀ a x, ((![v1298] : Fin 1 → IVec S16 32) a x).toNat < S8192.size a)
theorem k2_idx58_inb : ∀ (v1298 : IVec S16 32) (k2_hw58 : k2_chk58 v1298), ∀ a x, ((![v1298] : Fin 1 → IVec S16 32) a x).toNat < S8192.size a := fun v1298 k2_hw58 => k2_hw58

def k2_chk59 (v16 : IVec S16 32) (v1340 : IVec S16 32) : Prop :=
  (∀ a x, ((![v1340, v16] : Fin 2 → IVec S16 32) a x).toNat < S64x128.size a)
theorem k2_idx59_inb : ∀ (v16 : IVec S16 32) (v1340 : IVec S16 32) (k2_hw59 : k2_chk59 v16 v1340), ∀ a x, ((![v1340, v16] : Fin 2 → IVec S16 32) a x).toNat < S64x128.size a := fun v16 v1340 k2_hw59 => k2_hw59

def k2_chk60 (v1344 : IVec S16 32) : Prop :=
  (∀ a x, ((![v1344] : Fin 1 → IVec S16 32) a x).toNat < S8192.size a)
theorem k2_idx60_inb : ∀ (v1344 : IVec S16 32) (k2_hw60 : k2_chk60 v1344), ∀ a x, ((![v1344] : Fin 1 → IVec S16 32) a x).toNat < S8192.size a := fun v1344 k2_hw60 => k2_hw60

def k2_chk61 (v16 : IVec S16 32) (v1386 : IVec S16 32) : Prop :=
  (∀ a x, ((![v1386, v16] : Fin 2 → IVec S16 32) a x).toNat < S64x128.size a)
theorem k2_idx61_inb : ∀ (v16 : IVec S16 32) (v1386 : IVec S16 32) (k2_hw61 : k2_chk61 v16 v1386), ∀ a x, ((![v1386, v16] : Fin 2 → IVec S16 32) a x).toNat < S64x128.size a := fun v16 v1386 k2_hw61 => k2_hw61

def k2_chk62 (v1390 : IVec S16 32) : Prop :=
  (∀ a x, ((![v1390] : Fin 1 → IVec S16 32) a x).toNat < S8192.size a)
theorem k2_idx62_inb : ∀ (v1390 : IVec S16 32) (k2_hw62 : k2_chk62 v1390), ∀ a x, ((![v1390] : Fin 1 → IVec S16 32) a x).toNat < S8192.size a := fun v1390 k2_hw62 => k2_hw62

def k2_chk63 (v16 : IVec S16 32) (v1432 : IVec S16 32) : Prop :=
  (∀ a x, ((![v1432, v16] : Fin 2 → IVec S16 32) a x).toNat < S64x128.size a)
theorem k2_idx63_inb : ∀ (v16 : IVec S16 32) (v1432 : IVec S16 32) (k2_hw63 : k2_chk63 v16 v1432), ∀ a x, ((![v1432, v16] : Fin 2 → IVec S16 32) a x).toNat < S64x128.size a := fun v16 v1432 k2_hw63 => k2_hw63

def k2_chk64 (v1436 : IVec S16 32) : Prop :=
  (∀ a x, ((![v1436] : Fin 1 → IVec S16 32) a x).toNat < S8192.size a)
theorem k2_idx64_inb : ∀ (v1436 : IVec S16 32) (k2_hw64 : k2_chk64 v1436), ∀ a x, ((![v1436] : Fin 1 → IVec S16 32) a x).toNat < S8192.size a := fun v1436 k2_hw64 => k2_hw64

def k2_chk65 (v16 : IVec S16 32) (v1478 : IVec S16 32) : Prop :=
  (∀ a x, ((![v1478, v16] : Fin 2 → IVec S16 32) a x).toNat < S64x128.size a)
theorem k2_idx65_inb : ∀ (v16 : IVec S16 32) (v1478 : IVec S16 32) (k2_hw65 : k2_chk65 v16 v1478), ∀ a x, ((![v1478, v16] : Fin 2 → IVec S16 32) a x).toNat < S64x128.size a := fun v16 v1478 k2_hw65 => k2_hw65

def k2_chk66 (v1482 : IVec S16 32) : Prop :=
  (∀ a x, ((![v1482] : Fin 1 → IVec S16 32) a x).toNat < S8192.size a)
theorem k2_idx66_inb : ∀ (v1482 : IVec S16 32) (k2_hw66 : k2_chk66 v1482), ∀ a x, ((![v1482] : Fin 1 → IVec S16 32) a x).toNat < S8192.size a := fun v1482 k2_hw66 => k2_hw66

def k2_chk67 (v16 : IVec S16 32) (v1524 : IVec S16 32) : Prop :=
  (∀ a x, ((![v1524, v16] : Fin 2 → IVec S16 32) a x).toNat < S64x128.size a)
theorem k2_idx67_inb : ∀ (v16 : IVec S16 32) (v1524 : IVec S16 32) (k2_hw67 : k2_chk67 v16 v1524), ∀ a x, ((![v1524, v16] : Fin 2 → IVec S16 32) a x).toNat < S64x128.size a := fun v16 v1524 k2_hw67 => k2_hw67

def k2_chk68 (v1528 : IVec S16 32) : Prop :=
  (∀ a x, ((![v1528] : Fin 1 → IVec S16 32) a x).toNat < S8192.size a)
theorem k2_idx68_inb : ∀ (v1528 : IVec S16 32) (k2_hw68 : k2_chk68 v1528), ∀ a x, ((![v1528] : Fin 1 → IVec S16 32) a x).toNat < S8192.size a := fun v1528 k2_hw68 => k2_hw68

def k2_chk69 (v16 : IVec S16 32) (v1570 : IVec S16 32) : Prop :=
  (∀ a x, ((![v1570, v16] : Fin 2 → IVec S16 32) a x).toNat < S64x128.size a)
theorem k2_idx69_inb : ∀ (v16 : IVec S16 32) (v1570 : IVec S16 32) (k2_hw69 : k2_chk69 v16 v1570), ∀ a x, ((![v1570, v16] : Fin 2 → IVec S16 32) a x).toNat < S64x128.size a := fun v16 v1570 k2_hw69 => k2_hw69

def k2_chk70 (v1574 : IVec S16 32) : Prop :=
  (∀ a x, ((![v1574] : Fin 1 → IVec S16 32) a x).toNat < S8192.size a)
theorem k2_idx70_inb : ∀ (v1574 : IVec S16 32) (k2_hw70 : k2_chk70 v1574), ∀ a x, ((![v1574] : Fin 1 → IVec S16 32) a x).toNat < S8192.size a := fun v1574 k2_hw70 => k2_hw70

def k2_chk71 (v16 : IVec S16 32) (v1616 : IVec S16 32) : Prop :=
  (∀ a x, ((![v1616, v16] : Fin 2 → IVec S16 32) a x).toNat < S64x128.size a)
theorem k2_idx71_inb : ∀ (v16 : IVec S16 32) (v1616 : IVec S16 32) (k2_hw71 : k2_chk71 v16 v1616), ∀ a x, ((![v1616, v16] : Fin 2 → IVec S16 32) a x).toNat < S64x128.size a := fun v16 v1616 k2_hw71 => k2_hw71

def k2_chk72 (v1620 : IVec S16 32) : Prop :=
  (∀ a x, ((![v1620] : Fin 1 → IVec S16 32) a x).toNat < S8192.size a)
theorem k2_idx72_inb : ∀ (v1620 : IVec S16 32) (k2_hw72 : k2_chk72 v1620), ∀ a x, ((![v1620] : Fin 1 → IVec S16 32) a x).toNat < S8192.size a := fun v1620 k2_hw72 => k2_hw72

def k2_chk73 (v16 : IVec S16 32) (v1662 : IVec S16 32) : Prop :=
  (∀ a x, ((![v1662, v16] : Fin 2 → IVec S16 32) a x).toNat < S64x128.size a)
theorem k2_idx73_inb : ∀ (v16 : IVec S16 32) (v1662 : IVec S16 32) (k2_hw73 : k2_chk73 v16 v1662), ∀ a x, ((![v1662, v16] : Fin 2 → IVec S16 32) a x).toNat < S64x128.size a := fun v16 v1662 k2_hw73 => k2_hw73

def k2_chk74 (v1666 : IVec S16 32) : Prop :=
  (∀ a x, ((![v1666] : Fin 1 → IVec S16 32) a x).toNat < S8192.size a)
theorem k2_idx74_inb : ∀ (v1666 : IVec S16 32) (k2_hw74 : k2_chk74 v1666), ∀ a x, ((![v1666] : Fin 1 → IVec S16 32) a x).toNat < S8192.size a := fun v1666 k2_hw74 => k2_hw74

def k2_chk75 (v16 : IVec S16 32) (v1708 : IVec S16 32) : Prop :=
  (∀ a x, ((![v1708, v16] : Fin 2 → IVec S16 32) a x).toNat < S64x128.size a)
theorem k2_idx75_inb : ∀ (v16 : IVec S16 32) (v1708 : IVec S16 32) (k2_hw75 : k2_chk75 v16 v1708), ∀ a x, ((![v1708, v16] : Fin 2 → IVec S16 32) a x).toNat < S64x128.size a := fun v16 v1708 k2_hw75 => k2_hw75

def k2_chk76 (v1712 : IVec S16 32) : Prop :=
  (∀ a x, ((![v1712] : Fin 1 → IVec S16 32) a x).toNat < S8192.size a)
theorem k2_idx76_inb : ∀ (v1712 : IVec S16 32) (k2_hw76 : k2_chk76 v1712), ∀ a x, ((![v1712] : Fin 1 → IVec S16 32) a x).toNat < S8192.size a := fun v1712 k2_hw76 => k2_hw76

def k2_chk77 (v16 : IVec S16 32) (v1754 : IVec S16 32) : Prop :=
  (∀ a x, ((![v1754, v16] : Fin 2 → IVec S16 32) a x).toNat < S64x128.size a)
theorem k2_idx77_inb : ∀ (v16 : IVec S16 32) (v1754 : IVec S16 32) (k2_hw77 : k2_chk77 v16 v1754), ∀ a x, ((![v1754, v16] : Fin 2 → IVec S16 32) a x).toNat < S64x128.size a := fun v16 v1754 k2_hw77 => k2_hw77

def k2_chk78 (v1758 : IVec S16 32) : Prop :=
  (∀ a x, ((![v1758] : Fin 1 → IVec S16 32) a x).toNat < S8192.size a)
theorem k2_idx78_inb : ∀ (v1758 : IVec S16 32) (k2_hw78 : k2_chk78 v1758), ∀ a x, ((![v1758] : Fin 1 → IVec S16 32) a x).toNat < S8192.size a := fun v1758 k2_hw78 => k2_hw78

def k2_chk79 (v16 : IVec S16 32) (v1800 : IVec S16 32) : Prop :=
  (∀ a x, ((![v1800, v16] : Fin 2 → IVec S16 32) a x).toNat < S64x128.size a)
theorem k2_idx79_inb : ∀ (v16 : IVec S16 32) (v1800 : IVec S16 32) (k2_hw79 : k2_chk79 v16 v1800), ∀ a x, ((![v1800, v16] : Fin 2 → IVec S16 32) a x).toNat < S64x128.size a := fun v16 v1800 k2_hw79 => k2_hw79

def k2_chk80 (v1804 : IVec S16 32) : Prop :=
  (∀ a x, ((![v1804] : Fin 1 → IVec S16 32) a x).toNat < S8192.size a)
theorem k2_idx80_inb : ∀ (v1804 : IVec S16 32) (k2_hw80 : k2_chk80 v1804), ∀ a x, ((![v1804] : Fin 1 → IVec S16 32) a x).toNat < S8192.size a := fun v1804 k2_hw80 => k2_hw80

def k2_chk81 (v16 : IVec S16 32) (v1846 : IVec S16 32) : Prop :=
  (∀ a x, ((![v1846, v16] : Fin 2 → IVec S16 32) a x).toNat < S64x128.size a)
theorem k2_idx81_inb : ∀ (v16 : IVec S16 32) (v1846 : IVec S16 32) (k2_hw81 : k2_chk81 v16 v1846), ∀ a x, ((![v1846, v16] : Fin 2 → IVec S16 32) a x).toNat < S64x128.size a := fun v16 v1846 k2_hw81 => k2_hw81

def k2_chk82 (v1850 : IVec S16 32) : Prop :=
  (∀ a x, ((![v1850] : Fin 1 → IVec S16 32) a x).toNat < S8192.size a)
theorem k2_idx82_inb : ∀ (v1850 : IVec S16 32) (k2_hw82 : k2_chk82 v1850), ∀ a x, ((![v1850] : Fin 1 → IVec S16 32) a x).toNat < S8192.size a := fun v1850 k2_hw82 => k2_hw82

def k2_chk83 (v16 : IVec S16 32) (v1892 : IVec S16 32) : Prop :=
  (∀ a x, ((![v1892, v16] : Fin 2 → IVec S16 32) a x).toNat < S64x128.size a)
theorem k2_idx83_inb : ∀ (v16 : IVec S16 32) (v1892 : IVec S16 32) (k2_hw83 : k2_chk83 v16 v1892), ∀ a x, ((![v1892, v16] : Fin 2 → IVec S16 32) a x).toNat < S64x128.size a := fun v16 v1892 k2_hw83 => k2_hw83

def k2_chk84 (v1896 : IVec S16 32) : Prop :=
  (∀ a x, ((![v1896] : Fin 1 → IVec S16 32) a x).toNat < S8192.size a)
theorem k2_idx84_inb : ∀ (v1896 : IVec S16 32) (k2_hw84 : k2_chk84 v1896), ∀ a x, ((![v1896] : Fin 1 → IVec S16 32) a x).toNat < S8192.size a := fun v1896 k2_hw84 => k2_hw84

def k2_chk85 (v16 : IVec S16 32) (v1938 : IVec S16 32) : Prop :=
  (∀ a x, ((![v1938, v16] : Fin 2 → IVec S16 32) a x).toNat < S64x128.size a)
theorem k2_idx85_inb : ∀ (v16 : IVec S16 32) (v1938 : IVec S16 32) (k2_hw85 : k2_chk85 v16 v1938), ∀ a x, ((![v1938, v16] : Fin 2 → IVec S16 32) a x).toNat < S64x128.size a := fun v16 v1938 k2_hw85 => k2_hw85

def k2_chk86 (v1942 : IVec S16 32) : Prop :=
  (∀ a x, ((![v1942] : Fin 1 → IVec S16 32) a x).toNat < S8192.size a)
theorem k2_idx86_inb : ∀ (v1942 : IVec S16 32) (k2_hw86 : k2_chk86 v1942), ∀ a x, ((![v1942] : Fin 1 → IVec S16 32) a x).toNat < S8192.size a := fun v1942 k2_hw86 => k2_hw86

def k2_chk87 (v16 : IVec S16 32) (v1984 : IVec S16 32) : Prop :=
  (∀ a x, ((![v1984, v16] : Fin 2 → IVec S16 32) a x).toNat < S64x128.size a)
theorem k2_idx87_inb : ∀ (v16 : IVec S16 32) (v1984 : IVec S16 32) (k2_hw87 : k2_chk87 v16 v1984), ∀ a x, ((![v1984, v16] : Fin 2 → IVec S16 32) a x).toNat < S64x128.size a := fun v16 v1984 k2_hw87 => k2_hw87

def k2_chk88 (v1988 : IVec S16 32) : Prop :=
  (∀ a x, ((![v1988] : Fin 1 → IVec S16 32) a x).toNat < S8192.size a)
theorem k2_idx88_inb : ∀ (v1988 : IVec S16 32) (k2_hw88 : k2_chk88 v1988), ∀ a x, ((![v1988] : Fin 1 → IVec S16 32) a x).toNat < S8192.size a := fun v1988 k2_hw88 => k2_hw88

def k2_chk89 (v16 : IVec S16 32) (v2030 : IVec S16 32) : Prop :=
  (∀ a x, ((![v2030, v16] : Fin 2 → IVec S16 32) a x).toNat < S64x128.size a)
theorem k2_idx89_inb : ∀ (v16 : IVec S16 32) (v2030 : IVec S16 32) (k2_hw89 : k2_chk89 v16 v2030), ∀ a x, ((![v2030, v16] : Fin 2 → IVec S16 32) a x).toNat < S64x128.size a := fun v16 v2030 k2_hw89 => k2_hw89

def k2_chk90 (v2034 : IVec S16 32) : Prop :=
  (∀ a x, ((![v2034] : Fin 1 → IVec S16 32) a x).toNat < S8192.size a)
theorem k2_idx90_inb : ∀ (v2034 : IVec S16 32) (k2_hw90 : k2_chk90 v2034), ∀ a x, ((![v2034] : Fin 1 → IVec S16 32) a x).toNat < S8192.size a := fun v2034 k2_hw90 => k2_hw90

def k2_chk91 (v16 : IVec S16 32) (v2076 : IVec S16 32) : Prop :=
  (∀ a x, ((![v2076, v16] : Fin 2 → IVec S16 32) a x).toNat < S64x128.size a)
theorem k2_idx91_inb : ∀ (v16 : IVec S16 32) (v2076 : IVec S16 32) (k2_hw91 : k2_chk91 v16 v2076), ∀ a x, ((![v2076, v16] : Fin 2 → IVec S16 32) a x).toNat < S64x128.size a := fun v16 v2076 k2_hw91 => k2_hw91

def k2_chk92 (v2080 : IVec S16 32) : Prop :=
  (∀ a x, ((![v2080] : Fin 1 → IVec S16 32) a x).toNat < S8192.size a)
theorem k2_idx92_inb : ∀ (v2080 : IVec S16 32) (k2_hw92 : k2_chk92 v2080), ∀ a x, ((![v2080] : Fin 1 → IVec S16 32) a x).toNat < S8192.size a := fun v2080 k2_hw92 => k2_hw92

def k2_chk93 (v16 : IVec S16 32) (v2122 : IVec S16 32) : Prop :=
  (∀ a x, ((![v2122, v16] : Fin 2 → IVec S16 32) a x).toNat < S64x128.size a)
theorem k2_idx93_inb : ∀ (v16 : IVec S16 32) (v2122 : IVec S16 32) (k2_hw93 : k2_chk93 v16 v2122), ∀ a x, ((![v2122, v16] : Fin 2 → IVec S16 32) a x).toNat < S64x128.size a := fun v16 v2122 k2_hw93 => k2_hw93

def k2_chk94 (v2126 : IVec S16 32) : Prop :=
  (∀ a x, ((![v2126] : Fin 1 → IVec S16 32) a x).toNat < S8192.size a)
theorem k2_idx94_inb : ∀ (v2126 : IVec S16 32) (k2_hw94 : k2_chk94 v2126), ∀ a x, ((![v2126] : Fin 1 → IVec S16 32) a x).toNat < S8192.size a := fun v2126 k2_hw94 => k2_hw94

def k2_chk95 (v16 : IVec S16 32) (v2168 : IVec S16 32) : Prop :=
  (∀ a x, ((![v2168, v16] : Fin 2 → IVec S16 32) a x).toNat < S64x128.size a)
theorem k2_idx95_inb : ∀ (v16 : IVec S16 32) (v2168 : IVec S16 32) (k2_hw95 : k2_chk95 v16 v2168), ∀ a x, ((![v2168, v16] : Fin 2 → IVec S16 32) a x).toNat < S64x128.size a := fun v16 v2168 k2_hw95 => k2_hw95

def k2_chk96 (v2172 : IVec S16 32) : Prop :=
  (∀ a x, ((![v2172] : Fin 1 → IVec S16 32) a x).toNat < S8192.size a)
theorem k2_idx96_inb : ∀ (v2172 : IVec S16 32) (k2_hw96 : k2_chk96 v2172), ∀ a x, ((![v2172] : Fin 1 → IVec S16 32) a x).toNat < S8192.size a := fun v2172 k2_hw96 => k2_hw96

def k2_chk97 (v16 : IVec S16 32) (v2214 : IVec S16 32) : Prop :=
  (∀ a x, ((![v2214, v16] : Fin 2 → IVec S16 32) a x).toNat < S64x128.size a)
theorem k2_idx97_inb : ∀ (v16 : IVec S16 32) (v2214 : IVec S16 32) (k2_hw97 : k2_chk97 v16 v2214), ∀ a x, ((![v2214, v16] : Fin 2 → IVec S16 32) a x).toNat < S64x128.size a := fun v16 v2214 k2_hw97 => k2_hw97

def k2_chk98 (v2218 : IVec S16 32) : Prop :=
  (∀ a x, ((![v2218] : Fin 1 → IVec S16 32) a x).toNat < S8192.size a)
theorem k2_idx98_inb : ∀ (v2218 : IVec S16 32) (k2_hw98 : k2_chk98 v2218), ∀ a x, ((![v2218] : Fin 1 → IVec S16 32) a x).toNat < S8192.size a := fun v2218 k2_hw98 => k2_hw98

def k2_chk99 (v16 : IVec S16 32) (v2260 : IVec S16 32) : Prop :=
  (∀ a x, ((![v2260, v16] : Fin 2 → IVec S16 32) a x).toNat < S64x128.size a)
theorem k2_idx99_inb : ∀ (v16 : IVec S16 32) (v2260 : IVec S16 32) (k2_hw99 : k2_chk99 v16 v2260), ∀ a x, ((![v2260, v16] : Fin 2 → IVec S16 32) a x).toNat < S64x128.size a := fun v16 v2260 k2_hw99 => k2_hw99

def k2_chk100 (v2264 : IVec S16 32) : Prop :=
  (∀ a x, ((![v2264] : Fin 1 → IVec S16 32) a x).toNat < S8192.size a)
theorem k2_idx100_inb : ∀ (v2264 : IVec S16 32) (k2_hw100 : k2_chk100 v2264), ∀ a x, ((![v2264] : Fin 1 → IVec S16 32) a x).toNat < S8192.size a := fun v2264 k2_hw100 => k2_hw100

def k2_chk101 (v16 : IVec S16 32) (v2306 : IVec S16 32) : Prop :=
  (∀ a x, ((![v2306, v16] : Fin 2 → IVec S16 32) a x).toNat < S64x128.size a)
theorem k2_idx101_inb : ∀ (v16 : IVec S16 32) (v2306 : IVec S16 32) (k2_hw101 : k2_chk101 v16 v2306), ∀ a x, ((![v2306, v16] : Fin 2 → IVec S16 32) a x).toNat < S64x128.size a := fun v16 v2306 k2_hw101 => k2_hw101

def k2_chk102 (v2310 : IVec S16 32) : Prop :=
  (∀ a x, ((![v2310] : Fin 1 → IVec S16 32) a x).toNat < S8192.size a)
theorem k2_idx102_inb : ∀ (v2310 : IVec S16 32) (k2_hw102 : k2_chk102 v2310), ∀ a x, ((![v2310] : Fin 1 → IVec S16 32) a x).toNat < S8192.size a := fun v2310 k2_hw102 => k2_hw102

def k2_chk103 (v16 : IVec S16 32) (v2352 : IVec S16 32) : Prop :=
  (∀ a x, ((![v2352, v16] : Fin 2 → IVec S16 32) a x).toNat < S64x128.size a)
theorem k2_idx103_inb : ∀ (v16 : IVec S16 32) (v2352 : IVec S16 32) (k2_hw103 : k2_chk103 v16 v2352), ∀ a x, ((![v2352, v16] : Fin 2 → IVec S16 32) a x).toNat < S64x128.size a := fun v16 v2352 k2_hw103 => k2_hw103

def k2_chk104 (v2356 : IVec S16 32) : Prop :=
  (∀ a x, ((![v2356] : Fin 1 → IVec S16 32) a x).toNat < S8192.size a)
theorem k2_idx104_inb : ∀ (v2356 : IVec S16 32) (k2_hw104 : k2_chk104 v2356), ∀ a x, ((![v2356] : Fin 1 → IVec S16 32) a x).toNat < S8192.size a := fun v2356 k2_hw104 => k2_hw104

def k2_chk105 (v16 : IVec S16 32) (v2398 : IVec S16 32) : Prop :=
  (∀ a x, ((![v2398, v16] : Fin 2 → IVec S16 32) a x).toNat < S64x128.size a)
theorem k2_idx105_inb : ∀ (v16 : IVec S16 32) (v2398 : IVec S16 32) (k2_hw105 : k2_chk105 v16 v2398), ∀ a x, ((![v2398, v16] : Fin 2 → IVec S16 32) a x).toNat < S64x128.size a := fun v16 v2398 k2_hw105 => k2_hw105

def k2_chk106 (v2402 : IVec S16 32) : Prop :=
  (∀ a x, ((![v2402] : Fin 1 → IVec S16 32) a x).toNat < S8192.size a)
theorem k2_idx106_inb : ∀ (v2402 : IVec S16 32) (k2_hw106 : k2_chk106 v2402), ∀ a x, ((![v2402] : Fin 1 → IVec S16 32) a x).toNat < S8192.size a := fun v2402 k2_hw106 => k2_hw106

def k2_chk107 (v16 : IVec S16 32) (v2444 : IVec S16 32) : Prop :=
  (∀ a x, ((![v2444, v16] : Fin 2 → IVec S16 32) a x).toNat < S64x128.size a)
theorem k2_idx107_inb : ∀ (v16 : IVec S16 32) (v2444 : IVec S16 32) (k2_hw107 : k2_chk107 v16 v2444), ∀ a x, ((![v2444, v16] : Fin 2 → IVec S16 32) a x).toNat < S64x128.size a := fun v16 v2444 k2_hw107 => k2_hw107

def k2_chk108 (v2448 : IVec S16 32) : Prop :=
  (∀ a x, ((![v2448] : Fin 1 → IVec S16 32) a x).toNat < S8192.size a)
theorem k2_idx108_inb : ∀ (v2448 : IVec S16 32) (k2_hw108 : k2_chk108 v2448), ∀ a x, ((![v2448] : Fin 1 → IVec S16 32) a x).toNat < S8192.size a := fun v2448 k2_hw108 => k2_hw108

def k2_chk109 (v16 : IVec S16 32) (v2490 : IVec S16 32) : Prop :=
  (∀ a x, ((![v2490, v16] : Fin 2 → IVec S16 32) a x).toNat < S64x128.size a)
theorem k2_idx109_inb : ∀ (v16 : IVec S16 32) (v2490 : IVec S16 32) (k2_hw109 : k2_chk109 v16 v2490), ∀ a x, ((![v2490, v16] : Fin 2 → IVec S16 32) a x).toNat < S64x128.size a := fun v16 v2490 k2_hw109 => k2_hw109

def k2_chk110 (v2494 : IVec S16 32) : Prop :=
  (∀ a x, ((![v2494] : Fin 1 → IVec S16 32) a x).toNat < S8192.size a)
theorem k2_idx110_inb : ∀ (v2494 : IVec S16 32) (k2_hw110 : k2_chk110 v2494), ∀ a x, ((![v2494] : Fin 1 → IVec S16 32) a x).toNat < S8192.size a := fun v2494 k2_hw110 => k2_hw110

def k2_chk111 (v16 : IVec S16 32) (v2536 : IVec S16 32) : Prop :=
  (∀ a x, ((![v2536, v16] : Fin 2 → IVec S16 32) a x).toNat < S64x128.size a)
theorem k2_idx111_inb : ∀ (v16 : IVec S16 32) (v2536 : IVec S16 32) (k2_hw111 : k2_chk111 v16 v2536), ∀ a x, ((![v2536, v16] : Fin 2 → IVec S16 32) a x).toNat < S64x128.size a := fun v16 v2536 k2_hw111 => k2_hw111

def k2_chk112 (v2540 : IVec S16 32) : Prop :=
  (∀ a x, ((![v2540] : Fin 1 → IVec S16 32) a x).toNat < S8192.size a)
theorem k2_idx112_inb : ∀ (v2540 : IVec S16 32) (k2_hw112 : k2_chk112 v2540), ∀ a x, ((![v2540] : Fin 1 → IVec S16 32) a x).toNat < S8192.size a := fun v2540 k2_hw112 => k2_hw112

def k2_chk113 (v16 : IVec S16 32) (v2582 : IVec S16 32) : Prop :=
  (∀ a x, ((![v2582, v16] : Fin 2 → IVec S16 32) a x).toNat < S64x128.size a)
theorem k2_idx113_inb : ∀ (v16 : IVec S16 32) (v2582 : IVec S16 32) (k2_hw113 : k2_chk113 v16 v2582), ∀ a x, ((![v2582, v16] : Fin 2 → IVec S16 32) a x).toNat < S64x128.size a := fun v16 v2582 k2_hw113 => k2_hw113

def k2_chk114 (v2586 : IVec S16 32) : Prop :=
  (∀ a x, ((![v2586] : Fin 1 → IVec S16 32) a x).toNat < S8192.size a)
theorem k2_idx114_inb : ∀ (v2586 : IVec S16 32) (k2_hw114 : k2_chk114 v2586), ∀ a x, ((![v2586] : Fin 1 → IVec S16 32) a x).toNat < S8192.size a := fun v2586 k2_hw114 => k2_hw114

def k2_chk115 (v16 : IVec S16 32) (v2628 : IVec S16 32) : Prop :=
  (∀ a x, ((![v2628, v16] : Fin 2 → IVec S16 32) a x).toNat < S64x128.size a)
theorem k2_idx115_inb : ∀ (v16 : IVec S16 32) (v2628 : IVec S16 32) (k2_hw115 : k2_chk115 v16 v2628), ∀ a x, ((![v2628, v16] : Fin 2 → IVec S16 32) a x).toNat < S64x128.size a := fun v16 v2628 k2_hw115 => k2_hw115

def k2_chk116 (v2632 : IVec S16 32) : Prop :=
  (∀ a x, ((![v2632] : Fin 1 → IVec S16 32) a x).toNat < S8192.size a)
theorem k2_idx116_inb : ∀ (v2632 : IVec S16 32) (k2_hw116 : k2_chk116 v2632), ∀ a x, ((![v2632] : Fin 1 → IVec S16 32) a x).toNat < S8192.size a := fun v2632 k2_hw116 => k2_hw116

def k2_chk117 (v16 : IVec S16 32) (v2674 : IVec S16 32) : Prop :=
  (∀ a x, ((![v2674, v16] : Fin 2 → IVec S16 32) a x).toNat < S64x128.size a)
theorem k2_idx117_inb : ∀ (v16 : IVec S16 32) (v2674 : IVec S16 32) (k2_hw117 : k2_chk117 v16 v2674), ∀ a x, ((![v2674, v16] : Fin 2 → IVec S16 32) a x).toNat < S64x128.size a := fun v16 v2674 k2_hw117 => k2_hw117

def k2_chk118 (v2678 : IVec S16 32) : Prop :=
  (∀ a x, ((![v2678] : Fin 1 → IVec S16 32) a x).toNat < S8192.size a)
theorem k2_idx118_inb : ∀ (v2678 : IVec S16 32) (k2_hw118 : k2_chk118 v2678), ∀ a x, ((![v2678] : Fin 1 → IVec S16 32) a x).toNat < S8192.size a := fun v2678 k2_hw118 => k2_hw118

def k2_chk119 (v16 : IVec S16 32) (v2720 : IVec S16 32) : Prop :=
  (∀ a x, ((![v2720, v16] : Fin 2 → IVec S16 32) a x).toNat < S64x128.size a)
theorem k2_idx119_inb : ∀ (v16 : IVec S16 32) (v2720 : IVec S16 32) (k2_hw119 : k2_chk119 v16 v2720), ∀ a x, ((![v2720, v16] : Fin 2 → IVec S16 32) a x).toNat < S64x128.size a := fun v16 v2720 k2_hw119 => k2_hw119

def k2_chk120 (v2724 : IVec S16 32) : Prop :=
  (∀ a x, ((![v2724] : Fin 1 → IVec S16 32) a x).toNat < S8192.size a)
theorem k2_idx120_inb : ∀ (v2724 : IVec S16 32) (k2_hw120 : k2_chk120 v2724), ∀ a x, ((![v2724] : Fin 1 → IVec S16 32) a x).toNat < S8192.size a := fun v2724 k2_hw120 => k2_hw120

def k2_chk121 (v16 : IVec S16 32) (v2766 : IVec S16 32) : Prop :=
  (∀ a x, ((![v2766, v16] : Fin 2 → IVec S16 32) a x).toNat < S64x128.size a)
theorem k2_idx121_inb : ∀ (v16 : IVec S16 32) (v2766 : IVec S16 32) (k2_hw121 : k2_chk121 v16 v2766), ∀ a x, ((![v2766, v16] : Fin 2 → IVec S16 32) a x).toNat < S64x128.size a := fun v16 v2766 k2_hw121 => k2_hw121

def k2_chk122 (v2770 : IVec S16 32) : Prop :=
  (∀ a x, ((![v2770] : Fin 1 → IVec S16 32) a x).toNat < S8192.size a)
theorem k2_idx122_inb : ∀ (v2770 : IVec S16 32) (k2_hw122 : k2_chk122 v2770), ∀ a x, ((![v2770] : Fin 1 → IVec S16 32) a x).toNat < S8192.size a := fun v2770 k2_hw122 => k2_hw122

def k2_chk123 (v16 : IVec S16 32) (v2812 : IVec S16 32) : Prop :=
  (∀ a x, ((![v2812, v16] : Fin 2 → IVec S16 32) a x).toNat < S64x128.size a)
theorem k2_idx123_inb : ∀ (v16 : IVec S16 32) (v2812 : IVec S16 32) (k2_hw123 : k2_chk123 v16 v2812), ∀ a x, ((![v2812, v16] : Fin 2 → IVec S16 32) a x).toNat < S64x128.size a := fun v16 v2812 k2_hw123 => k2_hw123

def k2_chk124 (v2816 : IVec S16 32) : Prop :=
  (∀ a x, ((![v2816] : Fin 1 → IVec S16 32) a x).toNat < S8192.size a)
theorem k2_idx124_inb : ∀ (v2816 : IVec S16 32) (k2_hw124 : k2_chk124 v2816), ∀ a x, ((![v2816] : Fin 1 → IVec S16 32) a x).toNat < S8192.size a := fun v2816 k2_hw124 => k2_hw124

def k2_chk125 (v16 : IVec S16 32) (v2858 : IVec S16 32) : Prop :=
  (∀ a x, ((![v2858, v16] : Fin 2 → IVec S16 32) a x).toNat < S64x128.size a)
theorem k2_idx125_inb : ∀ (v16 : IVec S16 32) (v2858 : IVec S16 32) (k2_hw125 : k2_chk125 v16 v2858), ∀ a x, ((![v2858, v16] : Fin 2 → IVec S16 32) a x).toNat < S64x128.size a := fun v16 v2858 k2_hw125 => k2_hw125

def k2_chk126 (v2862 : IVec S16 32) : Prop :=
  (∀ a x, ((![v2862] : Fin 1 → IVec S16 32) a x).toNat < S8192.size a)
theorem k2_idx126_inb : ∀ (v2862 : IVec S16 32) (k2_hw126 : k2_chk126 v2862), ∀ a x, ((![v2862] : Fin 1 → IVec S16 32) a x).toNat < S8192.size a := fun v2862 k2_hw126 => k2_hw126

def k2_chk127 (v16 : IVec S16 32) (v2904 : IVec S16 32) : Prop :=
  (∀ a x, ((![v2904, v16] : Fin 2 → IVec S16 32) a x).toNat < S64x128.size a)
theorem k2_idx127_inb : ∀ (v16 : IVec S16 32) (v2904 : IVec S16 32) (k2_hw127 : k2_chk127 v16 v2904), ∀ a x, ((![v2904, v16] : Fin 2 → IVec S16 32) a x).toNat < S64x128.size a := fun v16 v2904 k2_hw127 => k2_hw127

def k2_chk128 (v2908 : IVec S16 32) : Prop :=
  (∀ a x, ((![v2908] : Fin 1 → IVec S16 32) a x).toNat < S8192.size a)
theorem k2_idx128_inb : ∀ (v2908 : IVec S16 32) (k2_hw128 : k2_chk128 v2908), ∀ a x, ((![v2908] : Fin 1 → IVec S16 32) a x).toNat < S8192.size a := fun v2908 k2_hw128 => k2_hw128

def k2_chk129 (v16 : IVec S16 32) (v2950 : IVec S16 32) : Prop :=
  (∀ a x, ((![v2950, v16] : Fin 2 → IVec S16 32) a x).toNat < S64x128.size a)
theorem k2_idx129_inb : ∀ (v16 : IVec S16 32) (v2950 : IVec S16 32) (k2_hw129 : k2_chk129 v16 v2950), ∀ a x, ((![v2950, v16] : Fin 2 → IVec S16 32) a x).toNat < S64x128.size a := fun v16 v2950 k2_hw129 => k2_hw129

def k2_chk130 (v2954 : IVec S16 32) : Prop :=
  (∀ a x, ((![v2954] : Fin 1 → IVec S16 32) a x).toNat < S8192.size a)
theorem k2_idx130_inb : ∀ (v2954 : IVec S16 32) (k2_hw130 : k2_chk130 v2954), ∀ a x, ((![v2954] : Fin 1 → IVec S16 32) a x).toNat < S8192.size a := fun v2954 k2_hw130 => k2_hw130

def k2_chk131 (v3047 : IVec S16 32) : Prop :=
  (∀ a x, ((![v3047] : Fin 1 → IVec S16 32) a x).toNat < S8192.size a)
theorem k2_idx131_inb : ∀ (v3047 : IVec S16 32) (k2_hw131 : k2_chk131 v3047), ∀ a x, ((![v3047] : Fin 1 → IVec S16 32) a x).toNat < S8192.size a := fun v3047 k2_hw131 => k2_hw131

def k2_chk132 (v16 : IVec S16 32) (v2998 : IVec S16 32) (v3048 : IVec S16 32) : Prop :=
  (∀ a x, ((![v3048, v2998, v16] : Fin 3 → IVec S16 32) a x).toNat < S3x64x128.size a)
theorem k2_idx132_inb : ∀ (v16 : IVec S16 32) (v2998 : IVec S16 32) (v3048 : IVec S16 32) (k2_hw132 : k2_chk132 v16 v2998 v3048), ∀ a x, ((![v3048, v2998, v16] : Fin 3 → IVec S16 32) a x).toNat < S3x64x128.size a := fun v16 v2998 v3048 k2_hw132 => k2_hw132

def k2_chk133 (v16 : IVec S16 32) (v2998 : IVec S16 32) (v3052 : IVec S16 32) : Prop :=
  (∀ a x, ((![v3052, v2998, v16] : Fin 3 → IVec S16 32) a x).toNat < S3x64x128.size a)
theorem k2_idx133_inb : ∀ (v16 : IVec S16 32) (v2998 : IVec S16 32) (v3052 : IVec S16 32) (k2_hw133 : k2_chk133 v16 v2998 v3052), ∀ a x, ((![v3052, v2998, v16] : Fin 3 → IVec S16 32) a x).toNat < S3x64x128.size a := fun v16 v2998 v3052 k2_hw133 => k2_hw133

def k2_chk134 (v16 : IVec S16 32) (v2998 : IVec S16 32) (v3056 : IVec S16 32) : Prop :=
  (∀ a x, ((![v3056, v2998, v16] : Fin 3 → IVec S16 32) a x).toNat < S3x64x128.size a)
theorem k2_idx134_inb : ∀ (v16 : IVec S16 32) (v2998 : IVec S16 32) (v3056 : IVec S16 32) (k2_hw134 : k2_chk134 v16 v2998 v3056), ∀ a x, ((![v3056, v2998, v16] : Fin 3 → IVec S16 32) a x).toNat < S3x64x128.size a := fun v16 v2998 v3056 k2_hw134 => k2_hw134

def k2_chk135 (v3061 : IVec S16 32) : Prop :=
  (∀ a x, ((![v3061] : Fin 1 → IVec S16 32) a x).toNat < S8192.size a)
theorem k2_idx135_inb : ∀ (v3061 : IVec S16 32) (k2_hw135 : k2_chk135 v3061), ∀ a x, ((![v3061] : Fin 1 → IVec S16 32) a x).toNat < S8192.size a := fun v3061 k2_hw135 => k2_hw135

def k2_chk136 (v16 : IVec S16 32) (v3001 : IVec S16 32) (v3062 : IVec S16 32) : Prop :=
  (∀ a x, ((![v3062, v3001, v16] : Fin 3 → IVec S16 32) a x).toNat < S3x64x128.size a)
theorem k2_idx136_inb : ∀ (v16 : IVec S16 32) (v3001 : IVec S16 32) (v3062 : IVec S16 32) (k2_hw136 : k2_chk136 v16 v3001 v3062), ∀ a x, ((![v3062, v3001, v16] : Fin 3 → IVec S16 32) a x).toNat < S3x64x128.size a := fun v16 v3001 v3062 k2_hw136 => k2_hw136

def k2_chk137 (v16 : IVec S16 32) (v3001 : IVec S16 32) (v3066 : IVec S16 32) : Prop :=
  (∀ a x, ((![v3066, v3001, v16] : Fin 3 → IVec S16 32) a x).toNat < S3x64x128.size a)
theorem k2_idx137_inb : ∀ (v16 : IVec S16 32) (v3001 : IVec S16 32) (v3066 : IVec S16 32) (k2_hw137 : k2_chk137 v16 v3001 v3066), ∀ a x, ((![v3066, v3001, v16] : Fin 3 → IVec S16 32) a x).toNat < S3x64x128.size a := fun v16 v3001 v3066 k2_hw137 => k2_hw137

def k2_chk138 (v16 : IVec S16 32) (v3001 : IVec S16 32) (v3070 : IVec S16 32) : Prop :=
  (∀ a x, ((![v3070, v3001, v16] : Fin 3 → IVec S16 32) a x).toNat < S3x64x128.size a)
theorem k2_idx138_inb : ∀ (v16 : IVec S16 32) (v3001 : IVec S16 32) (v3070 : IVec S16 32) (k2_hw138 : k2_chk138 v16 v3001 v3070), ∀ a x, ((![v3070, v3001, v16] : Fin 3 → IVec S16 32) a x).toNat < S3x64x128.size a := fun v16 v3001 v3070 k2_hw138 => k2_hw138

def k2_chk139 (v3075 : IVec S16 32) : Prop :=
  (∀ a x, ((![v3075] : Fin 1 → IVec S16 32) a x).toNat < S8192.size a)
theorem k2_idx139_inb : ∀ (v3075 : IVec S16 32) (k2_hw139 : k2_chk139 v3075), ∀ a x, ((![v3075] : Fin 1 → IVec S16 32) a x).toNat < S8192.size a := fun v3075 k2_hw139 => k2_hw139

def k2_chk140 (v16 : IVec S16 32) (v3004 : IVec S16 32) (v3076 : IVec S16 32) : Prop :=
  (∀ a x, ((![v3076, v3004, v16] : Fin 3 → IVec S16 32) a x).toNat < S3x64x128.size a)
theorem k2_idx140_inb : ∀ (v16 : IVec S16 32) (v3004 : IVec S16 32) (v3076 : IVec S16 32) (k2_hw140 : k2_chk140 v16 v3004 v3076), ∀ a x, ((![v3076, v3004, v16] : Fin 3 → IVec S16 32) a x).toNat < S3x64x128.size a := fun v16 v3004 v3076 k2_hw140 => k2_hw140

def k2_chk141 (v16 : IVec S16 32) (v3004 : IVec S16 32) (v3080 : IVec S16 32) : Prop :=
  (∀ a x, ((![v3080, v3004, v16] : Fin 3 → IVec S16 32) a x).toNat < S3x64x128.size a)
theorem k2_idx141_inb : ∀ (v16 : IVec S16 32) (v3004 : IVec S16 32) (v3080 : IVec S16 32) (k2_hw141 : k2_chk141 v16 v3004 v3080), ∀ a x, ((![v3080, v3004, v16] : Fin 3 → IVec S16 32) a x).toNat < S3x64x128.size a := fun v16 v3004 v3080 k2_hw141 => k2_hw141

def k2_chk142 (v16 : IVec S16 32) (v3004 : IVec S16 32) (v3084 : IVec S16 32) : Prop :=
  (∀ a x, ((![v3084, v3004, v16] : Fin 3 → IVec S16 32) a x).toNat < S3x64x128.size a)
theorem k2_idx142_inb : ∀ (v16 : IVec S16 32) (v3004 : IVec S16 32) (v3084 : IVec S16 32) (k2_hw142 : k2_chk142 v16 v3004 v3084), ∀ a x, ((![v3084, v3004, v16] : Fin 3 → IVec S16 32) a x).toNat < S3x64x128.size a := fun v16 v3004 v3084 k2_hw142 => k2_hw142

def k2_chk143 (v3089 : IVec S16 32) : Prop :=
  (∀ a x, ((![v3089] : Fin 1 → IVec S16 32) a x).toNat < S8192.size a)
theorem k2_idx143_inb : ∀ (v3089 : IVec S16 32) (k2_hw143 : k2_chk143 v3089), ∀ a x, ((![v3089] : Fin 1 → IVec S16 32) a x).toNat < S8192.size a := fun v3089 k2_hw143 => k2_hw143

def k2_chk144 (v16 : IVec S16 32) (v3007 : IVec S16 32) (v3090 : IVec S16 32) : Prop :=
  (∀ a x, ((![v3090, v3007, v16] : Fin 3 → IVec S16 32) a x).toNat < S3x64x128.size a)
theorem k2_idx144_inb : ∀ (v16 : IVec S16 32) (v3007 : IVec S16 32) (v3090 : IVec S16 32) (k2_hw144 : k2_chk144 v16 v3007 v3090), ∀ a x, ((![v3090, v3007, v16] : Fin 3 → IVec S16 32) a x).toNat < S3x64x128.size a := fun v16 v3007 v3090 k2_hw144 => k2_hw144

def k2_chk145 (v16 : IVec S16 32) (v3007 : IVec S16 32) (v3094 : IVec S16 32) : Prop :=
  (∀ a x, ((![v3094, v3007, v16] : Fin 3 → IVec S16 32) a x).toNat < S3x64x128.size a)
theorem k2_idx145_inb : ∀ (v16 : IVec S16 32) (v3007 : IVec S16 32) (v3094 : IVec S16 32) (k2_hw145 : k2_chk145 v16 v3007 v3094), ∀ a x, ((![v3094, v3007, v16] : Fin 3 → IVec S16 32) a x).toNat < S3x64x128.size a := fun v16 v3007 v3094 k2_hw145 => k2_hw145

def k2_chk146 (v16 : IVec S16 32) (v3007 : IVec S16 32) (v3098 : IVec S16 32) : Prop :=
  (∀ a x, ((![v3098, v3007, v16] : Fin 3 → IVec S16 32) a x).toNat < S3x64x128.size a)
theorem k2_idx146_inb : ∀ (v16 : IVec S16 32) (v3007 : IVec S16 32) (v3098 : IVec S16 32) (k2_hw146 : k2_chk146 v16 v3007 v3098), ∀ a x, ((![v3098, v3007, v16] : Fin 3 → IVec S16 32) a x).toNat < S3x64x128.size a := fun v16 v3007 v3098 k2_hw146 => k2_hw146

def k2_chk147 (v3103 : IVec S16 32) : Prop :=
  (∀ a x, ((![v3103] : Fin 1 → IVec S16 32) a x).toNat < S8192.size a)
theorem k2_idx147_inb : ∀ (v3103 : IVec S16 32) (k2_hw147 : k2_chk147 v3103), ∀ a x, ((![v3103] : Fin 1 → IVec S16 32) a x).toNat < S8192.size a := fun v3103 k2_hw147 => k2_hw147

def k2_chk148 (v16 : IVec S16 32) (v3010 : IVec S16 32) (v3104 : IVec S16 32) : Prop :=
  (∀ a x, ((![v3104, v3010, v16] : Fin 3 → IVec S16 32) a x).toNat < S3x64x128.size a)
theorem k2_idx148_inb : ∀ (v16 : IVec S16 32) (v3010 : IVec S16 32) (v3104 : IVec S16 32) (k2_hw148 : k2_chk148 v16 v3010 v3104), ∀ a x, ((![v3104, v3010, v16] : Fin 3 → IVec S16 32) a x).toNat < S3x64x128.size a := fun v16 v3010 v3104 k2_hw148 => k2_hw148

def k2_chk149 (v16 : IVec S16 32) (v3010 : IVec S16 32) (v3108 : IVec S16 32) : Prop :=
  (∀ a x, ((![v3108, v3010, v16] : Fin 3 → IVec S16 32) a x).toNat < S3x64x128.size a)
theorem k2_idx149_inb : ∀ (v16 : IVec S16 32) (v3010 : IVec S16 32) (v3108 : IVec S16 32) (k2_hw149 : k2_chk149 v16 v3010 v3108), ∀ a x, ((![v3108, v3010, v16] : Fin 3 → IVec S16 32) a x).toNat < S3x64x128.size a := fun v16 v3010 v3108 k2_hw149 => k2_hw149

def k2_chk150 (v16 : IVec S16 32) (v3010 : IVec S16 32) (v3112 : IVec S16 32) : Prop :=
  (∀ a x, ((![v3112, v3010, v16] : Fin 3 → IVec S16 32) a x).toNat < S3x64x128.size a)
theorem k2_idx150_inb : ∀ (v16 : IVec S16 32) (v3010 : IVec S16 32) (v3112 : IVec S16 32) (k2_hw150 : k2_chk150 v16 v3010 v3112), ∀ a x, ((![v3112, v3010, v16] : Fin 3 → IVec S16 32) a x).toNat < S3x64x128.size a := fun v16 v3010 v3112 k2_hw150 => k2_hw150

def k2_chk151 (v3117 : IVec S16 32) : Prop :=
  (∀ a x, ((![v3117] : Fin 1 → IVec S16 32) a x).toNat < S8192.size a)
theorem k2_idx151_inb : ∀ (v3117 : IVec S16 32) (k2_hw151 : k2_chk151 v3117), ∀ a x, ((![v3117] : Fin 1 → IVec S16 32) a x).toNat < S8192.size a := fun v3117 k2_hw151 => k2_hw151

def k2_chk152 (v16 : IVec S16 32) (v3013 : IVec S16 32) (v3118 : IVec S16 32) : Prop :=
  (∀ a x, ((![v3118, v3013, v16] : Fin 3 → IVec S16 32) a x).toNat < S3x64x128.size a)
theorem k2_idx152_inb : ∀ (v16 : IVec S16 32) (v3013 : IVec S16 32) (v3118 : IVec S16 32) (k2_hw152 : k2_chk152 v16 v3013 v3118), ∀ a x, ((![v3118, v3013, v16] : Fin 3 → IVec S16 32) a x).toNat < S3x64x128.size a := fun v16 v3013 v3118 k2_hw152 => k2_hw152

def k2_chk153 (v16 : IVec S16 32) (v3013 : IVec S16 32) (v3122 : IVec S16 32) : Prop :=
  (∀ a x, ((![v3122, v3013, v16] : Fin 3 → IVec S16 32) a x).toNat < S3x64x128.size a)
theorem k2_idx153_inb : ∀ (v16 : IVec S16 32) (v3013 : IVec S16 32) (v3122 : IVec S16 32) (k2_hw153 : k2_chk153 v16 v3013 v3122), ∀ a x, ((![v3122, v3013, v16] : Fin 3 → IVec S16 32) a x).toNat < S3x64x128.size a := fun v16 v3013 v3122 k2_hw153 => k2_hw153

def k2_chk154 (v16 : IVec S16 32) (v3013 : IVec S16 32) (v3126 : IVec S16 32) : Prop :=
  (∀ a x, ((![v3126, v3013, v16] : Fin 3 → IVec S16 32) a x).toNat < S3x64x128.size a)
theorem k2_idx154_inb : ∀ (v16 : IVec S16 32) (v3013 : IVec S16 32) (v3126 : IVec S16 32) (k2_hw154 : k2_chk154 v16 v3013 v3126), ∀ a x, ((![v3126, v3013, v16] : Fin 3 → IVec S16 32) a x).toNat < S3x64x128.size a := fun v16 v3013 v3126 k2_hw154 => k2_hw154

def k2_chk155 (v3131 : IVec S16 32) : Prop :=
  (∀ a x, ((![v3131] : Fin 1 → IVec S16 32) a x).toNat < S8192.size a)
theorem k2_idx155_inb : ∀ (v3131 : IVec S16 32) (k2_hw155 : k2_chk155 v3131), ∀ a x, ((![v3131] : Fin 1 → IVec S16 32) a x).toNat < S8192.size a := fun v3131 k2_hw155 => k2_hw155

def k2_chk156 (v16 : IVec S16 32) (v3016 : IVec S16 32) (v3132 : IVec S16 32) : Prop :=
  (∀ a x, ((![v3132, v3016, v16] : Fin 3 → IVec S16 32) a x).toNat < S3x64x128.size a)
theorem k2_idx156_inb : ∀ (v16 : IVec S16 32) (v3016 : IVec S16 32) (v3132 : IVec S16 32) (k2_hw156 : k2_chk156 v16 v3016 v3132), ∀ a x, ((![v3132, v3016, v16] : Fin 3 → IVec S16 32) a x).toNat < S3x64x128.size a := fun v16 v3016 v3132 k2_hw156 => k2_hw156

def k2_chk157 (v16 : IVec S16 32) (v3016 : IVec S16 32) (v3136 : IVec S16 32) : Prop :=
  (∀ a x, ((![v3136, v3016, v16] : Fin 3 → IVec S16 32) a x).toNat < S3x64x128.size a)
theorem k2_idx157_inb : ∀ (v16 : IVec S16 32) (v3016 : IVec S16 32) (v3136 : IVec S16 32) (k2_hw157 : k2_chk157 v16 v3016 v3136), ∀ a x, ((![v3136, v3016, v16] : Fin 3 → IVec S16 32) a x).toNat < S3x64x128.size a := fun v16 v3016 v3136 k2_hw157 => k2_hw157

def k2_chk158 (v16 : IVec S16 32) (v3016 : IVec S16 32) (v3140 : IVec S16 32) : Prop :=
  (∀ a x, ((![v3140, v3016, v16] : Fin 3 → IVec S16 32) a x).toNat < S3x64x128.size a)
theorem k2_idx158_inb : ∀ (v16 : IVec S16 32) (v3016 : IVec S16 32) (v3140 : IVec S16 32) (k2_hw158 : k2_chk158 v16 v3016 v3140), ∀ a x, ((![v3140, v3016, v16] : Fin 3 → IVec S16 32) a x).toNat < S3x64x128.size a := fun v16 v3016 v3140 k2_hw158 => k2_hw158

def k2_chk159 (v3145 : IVec S16 32) : Prop :=
  (∀ a x, ((![v3145] : Fin 1 → IVec S16 32) a x).toNat < S8192.size a)
theorem k2_idx159_inb : ∀ (v3145 : IVec S16 32) (k2_hw159 : k2_chk159 v3145), ∀ a x, ((![v3145] : Fin 1 → IVec S16 32) a x).toNat < S8192.size a := fun v3145 k2_hw159 => k2_hw159

def k2_chk160 (v16 : IVec S16 32) (v3019 : IVec S16 32) (v3146 : IVec S16 32) : Prop :=
  (∀ a x, ((![v3146, v3019, v16] : Fin 3 → IVec S16 32) a x).toNat < S3x64x128.size a)
theorem k2_idx160_inb : ∀ (v16 : IVec S16 32) (v3019 : IVec S16 32) (v3146 : IVec S16 32) (k2_hw160 : k2_chk160 v16 v3019 v3146), ∀ a x, ((![v3146, v3019, v16] : Fin 3 → IVec S16 32) a x).toNat < S3x64x128.size a := fun v16 v3019 v3146 k2_hw160 => k2_hw160

def k2_chk161 (v16 : IVec S16 32) (v3019 : IVec S16 32) (v3150 : IVec S16 32) : Prop :=
  (∀ a x, ((![v3150, v3019, v16] : Fin 3 → IVec S16 32) a x).toNat < S3x64x128.size a)
theorem k2_idx161_inb : ∀ (v16 : IVec S16 32) (v3019 : IVec S16 32) (v3150 : IVec S16 32) (k2_hw161 : k2_chk161 v16 v3019 v3150), ∀ a x, ((![v3150, v3019, v16] : Fin 3 → IVec S16 32) a x).toNat < S3x64x128.size a := fun v16 v3019 v3150 k2_hw161 => k2_hw161

def k2_chk162 (v16 : IVec S16 32) (v3019 : IVec S16 32) (v3154 : IVec S16 32) : Prop :=
  (∀ a x, ((![v3154, v3019, v16] : Fin 3 → IVec S16 32) a x).toNat < S3x64x128.size a)
theorem k2_idx162_inb : ∀ (v16 : IVec S16 32) (v3019 : IVec S16 32) (v3154 : IVec S16 32) (k2_hw162 : k2_chk162 v16 v3019 v3154), ∀ a x, ((![v3154, v3019, v16] : Fin 3 → IVec S16 32) a x).toNat < S3x64x128.size a := fun v16 v3019 v3154 k2_hw162 => k2_hw162

def k2_chk163 (v3159 : IVec S16 32) : Prop :=
  (∀ a x, ((![v3159] : Fin 1 → IVec S16 32) a x).toNat < S384.size a)
theorem k2_idx163_inb : ∀ (v3159 : IVec S16 32) (k2_hw163 : k2_chk163 v3159), ∀ a x, ((![v3159] : Fin 1 → IVec S16 32) a x).toNat < S384.size a := fun v3159 k2_hw163 => k2_hw163

def k2_chk164 (v3161 : IVec S16 32) : Prop :=
  (∀ a x, ((![v3161] : Fin 1 → IVec S16 32) a x).toNat < S384.size a)
theorem k2_idx164_inb : ∀ (v3161 : IVec S16 32) (k2_hw164 : k2_chk164 v3161), ∀ a x, ((![v3161] : Fin 1 → IVec S16 32) a x).toNat < S384.size a := fun v3161 k2_hw164 => k2_hw164

def k2_chk165 (v3163 : IVec S16 32) : Prop :=
  (∀ a x, ((![v3163] : Fin 1 → IVec S16 32) a x).toNat < S384.size a)
theorem k2_idx165_inb : ∀ (v3163 : IVec S16 32) (k2_hw165 : k2_chk165 v3163), ∀ a x, ((![v3163] : Fin 1 → IVec S16 32) a x).toNat < S384.size a := fun v3163 k2_hw165 => k2_hw165
def k2_off6 (i : grid2.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c384_i32 : BitVec 32 := 384#32
  let v11 : BitVec 32 := Scalar.muli v1 c384_i32
  ![v11.toNat]
def k2_off7 (i : grid2.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8192_i32 : BitVec 32 := 8192#32
  let v12 : BitVec 32 := Scalar.muli v1 c8192_i32
  ![v12.toNat]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S4096x68 : Shape := ⟨2, ![4096, 68]⟩
abbrev S4096x64x3 : Shape := ⟨3, ![4096, 64, 3]⟩
abbrev S4096x64x2 : Shape := ⟨3, ![4096, 64, 2]⟩
abbrev S256x68 : Shape := ⟨2, ![256, 68]⟩
abbrev S256 : Shape := ⟨1, ![256]⟩
abbrev S256x7 : Shape := ⟨2, ![256, 7]⟩
abbrev S1x512 : Shape := ⟨2, ![1, 512]⟩
abbrev S1 : Shape := ⟨1, ![1]⟩
abbrev S68x256 : Shape := ⟨2, ![68, 256]⟩
abbrev S4096x256 : Shape := ⟨2, ![4096, 256]⟩
abbrev S1x256 : Shape := ⟨2, ![1, 256]⟩
abbrev S4096x1x256 : Shape := ⟨3, ![4096, 1, 256]⟩
abbrev S4096x64x256 : Shape := ⟨3, ![4096, 64, 256]⟩
abbrev S4096x64x7 : Shape := ⟨3, ![4096, 64, 7]⟩
abbrev S7x256 : Shape := ⟨2, ![7, 256]⟩
abbrev S1x1x256 : Shape := ⟨3, ![1, 1, 256]⟩
abbrev S4096x64x512 : Shape := ⟨3, ![4096, 64, 512]⟩
abbrev S512x1 : Shape := ⟨2, ![512, 1]⟩
abbrev S4096x64x1 : Shape := ⟨3, ![4096, 64, 1]⟩
abbrev S1x1x1 : Shape := ⟨3, ![1, 1, 1]⟩
abbrev S4096x64 : Shape := ⟨2, ![4096, 64]⟩
abbrev S4096x8 : Shape := ⟨2, ![4096, 8]⟩
abbrev S_ : Shape := ⟨0, ![]⟩
abbrev S4096 : Shape := ⟨1, ![4096]⟩
abbrev S4096x1 : Shape := ⟨2, ![4096, 1]⟩
abbrev S4096x8x1 : Shape := ⟨3, ![4096, 8, 1]⟩
abbrev S4096x8x2 : Shape := ⟨3, ![4096, 8, 2]⟩
abbrev S4096x3 : Shape := ⟨2, ![4096, 3]⟩

abbrev nBuf : Space → Nat
  | .hbm => 70
  | .vmem => 0
  | .smem => 0
  | _ => 0

abbrev bufTy : (tb : Table) → Fin (tcTables nBuf tb) → BufTy
  | .hbm, ⟨0, _⟩ => ⟨S4096x68, .f32⟩
  | .hbm, ⟨1, _⟩ => ⟨S4096x64x3, .f32⟩
  | .hbm, ⟨2, _⟩ => ⟨S4096x64x2, .f32⟩
  | .hbm, ⟨3, _⟩ => ⟨S4096x64x2, .f32⟩
  | .hbm, ⟨4, _⟩ => ⟨S256x68, .f32⟩
  | .hbm, ⟨5, _⟩ => ⟨S256, .f32⟩
  | .hbm, ⟨6, _⟩ => ⟨S256x7, .f32⟩
  | .hbm, ⟨7, _⟩ => ⟨S256, .f32⟩
  | .hbm, ⟨8, _⟩ => ⟨S1x512, .f32⟩
  | .hbm, ⟨9, _⟩ => ⟨S1, .f32⟩
  | .hbm, ⟨10, _⟩ => ⟨S68x256, .f32⟩
  | .hbm, ⟨11, _⟩ => ⟨S4096x256, .f32⟩
  | .hbm, ⟨12, _⟩ => ⟨S1x256, .f32⟩
  | .hbm, ⟨13, _⟩ => ⟨S4096x256, .f32⟩
  | .hbm, ⟨14, _⟩ => ⟨S4096x256, .f32⟩
  | .hbm, ⟨15, _⟩ => ⟨S4096x1x256, .f32⟩
  | .hbm, ⟨16, _⟩ => ⟨S4096x64x256, .f32⟩
  | .hbm, ⟨17, _⟩ => ⟨S4096x64x7, .f32⟩
  | .hbm, ⟨18, _⟩ => ⟨S7x256, .f32⟩
  | .hbm, ⟨19, _⟩ => ⟨S4096x64x256, .f32⟩
  | .hbm, ⟨20, _⟩ => ⟨S1x1x256, .f32⟩
  | .hbm, ⟨21, _⟩ => ⟨S4096x64x256, .f32⟩
  | .hbm, ⟨22, _⟩ => ⟨S4096x64x256, .f32⟩
  | .hbm, ⟨23, _⟩ => ⟨S4096x64x512, .f32⟩
  | .hbm, ⟨24, _⟩ => ⟨S512x1, .f32⟩
  | .hbm, ⟨25, _⟩ => ⟨S4096x64x1, .f32⟩
  | .hbm, ⟨26, _⟩ => ⟨S1x1x1, .f32⟩
  | .hbm, ⟨27, _⟩ => ⟨S4096x64x1, .f32⟩
  | .hbm, ⟨28, _⟩ => ⟨S4096x64x1, .f32⟩
  | .hbm, ⟨29, _⟩ => ⟨S4096x64, .f32⟩
  | .hbm, ⟨30, _⟩ => ⟨S4096x8, .f32⟩
  | .hbm, ⟨31, _⟩ => ⟨S4096x8, .i32⟩
  | .hbm, ⟨32, _⟩ => ⟨S_, .f32⟩
  | .hbm, ⟨33, _⟩ => ⟨S4096x64, .f32⟩
  | .hbm, ⟨34, _⟩ => ⟨S4096, .i32⟩
  | .hbm, ⟨35, _⟩ => ⟨S4096x1, .i32⟩
  | .hbm, ⟨36, _⟩ => ⟨S_, .i32⟩
  | .hbm, ⟨37, _⟩ => ⟨S4096x1, .i32⟩
  | .hbm, ⟨38, _⟩ => ⟨S4096x1, .i1⟩
  | .hbm, ⟨39, _⟩ => ⟨S_, .i32⟩
  | .hbm, ⟨40, _⟩ => ⟨S4096x1, .i32⟩
  | .hbm, ⟨41, _⟩ => ⟨S4096x1, .i32⟩
  | .hbm, ⟨42, _⟩ => ⟨S4096x1, .i32⟩
  | .hbm, ⟨43, _⟩ => ⟨S_, .i32⟩
  | .hbm, ⟨44, _⟩ => ⟨S4096x8, .i32⟩
  | .hbm, ⟨45, _⟩ => ⟨S4096x8, .i1⟩
  | .hbm, ⟨46, _⟩ => ⟨S_, .i32⟩
  | .hbm, ⟨47, _⟩ => ⟨S4096x8, .i32⟩
  | .hbm, ⟨48, _⟩ => ⟨S4096x8, .i32⟩
  | .hbm, ⟨49, _⟩ => ⟨S4096x8, .i32⟩
  | .hbm, ⟨50, _⟩ => ⟨S4096x8, .i32⟩
  | .hbm, ⟨51, _⟩ => ⟨S4096x8x1, .i32⟩
  | .hbm, ⟨52, _⟩ => ⟨S4096x8x1, .i32⟩
  | .hbm, ⟨53, _⟩ => ⟨S4096x8x2, .i32⟩
  | .hbm, ⟨54, _⟩ => ⟨S4096x64, .f32⟩
  | .hbm, ⟨55, _⟩ => ⟨S_, .f32⟩
  | .hbm, ⟨56, _⟩ => ⟨S4096, .f32⟩
  | .hbm, ⟨57, _⟩ => ⟨S_, .f32⟩
  | .hbm, ⟨58, _⟩ => ⟨S4096, .f32⟩
  | .hbm, ⟨59, _⟩ => ⟨S4096, .f32⟩
  | .hbm, ⟨60, _⟩ => ⟨S4096x1, .f32⟩
  | .hbm, ⟨61, _⟩ => ⟨S4096x64, .f32⟩
  | .hbm, ⟨62, _⟩ => ⟨S4096x64, .f32⟩
  | .hbm, ⟨63, _⟩ => ⟨S4096x64, .f32⟩
  | .hbm, ⟨64, _⟩ => ⟨S_, .f32⟩
  | .hbm, ⟨65, _⟩ => ⟨S4096, .f32⟩
  | .hbm, ⟨66, _⟩ => ⟨S4096x1, .f32⟩
  | .hbm, ⟨67, _⟩ => ⟨S4096x64, .f32⟩
  | .hbm, ⟨68, _⟩ => ⟨S4096x64, .f32⟩
  | .hbm, ⟨69, _⟩ => ⟨S4096x3, .f32⟩
  | _, _ => ⟨S4096x68, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_values : Ref sig .tc := ⟨.hbm, 30, rfl⟩
abbrev main_indices : Ref sig .tc := ⟨.hbm, 31, rfl⟩
abbrev main_cst : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_c : Ref sig .tc := ⟨.hbm, 36, rfl⟩
abbrev main_v23 : Ref sig .tc := ⟨.hbm, 37, rfl⟩
abbrev main_v24 : Ref sig .tc := ⟨.hbm, 38, rfl⟩
abbrev main_c_0 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_c_1 : Ref sig .tc := ⟨.hbm, 43, rfl⟩
abbrev main_v28 : Ref sig .tc := ⟨.hbm, 44, rfl⟩
abbrev main_v29 : Ref sig .tc := ⟨.hbm, 45, rfl⟩
abbrev main_c_2 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_cst_3 : Ref sig .tc := ⟨.hbm, 55, rfl⟩
abbrev main_v38 : Ref sig .tc := ⟨.hbm, 56, rfl⟩
abbrev main_cst_4 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_cst_5 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩

abbrev nD : Nat := 1
abbrev τ : Topo := Topo.v7x

variable {F : FTy → Type} [FloatOps F]
-- ==== Proof.Ideal.TileProg.lean ====
module

public import proofs.«01_k».proof.Proof.Gen.KernelIdeal.Skeleton

@[expose] public section

noncomputable section

namespace Cert.KernelIdeal.Gen.Tile

open Idealize.ShloMosaic Idealize.SL.Sem

variable {F : FTy → Type} [FloatOps F]

/-- The thread's effects at a symbolic pair of SparseCore and tile. -/
abbrev Eff (F : FTy → Type) (i : grid2.Coords) :=
  TpuEff nD τ sig (Elt F) Λ₀ (.scVector ((i 0).castLE hcore2) ((i 1).castLE hsub2))

/-- The indices of sixteen lanes lie inside a buffer. -/
abbrev InB (s : Shape) (idxs : Fin s.rank → IVec S16 32) : Prop :=
  ∀ a x, ((idxs a x).toNat < s.size a)

def inBDec (s : Shape) (idxs : Fin s.rank → IVec S16 32) : Decidable (InB s idxs) :=
  decidable_of_iff' (InB s idxs) Iff.rfl

/-- A gather behind the check of its indices, then the rest. -/
def gather {i : grid2.Coords} {s : Shape} {α : Type} (m : Memref sig .scVector .vmem s .f32) (hl : m.view.Loads)
    (idxs : Fin s.rank → IVec S16 32) (K : FVec F S16 .f32 → Prog (Eff F i) α) : Prog (Eff F i) α :=
  .op (.assume (InB s idxs) (inBDec s idxs)) fun h =>
  .op (.load m (.whole s) (View.loadsAt_whole hl)) fun f => K (Idealize.ShloMosaic.loadIdx (F := F) (e := .f32) f idxs h.down)

/-- A scatter behind the check of its indices, then the rest. -/
def scatter {i : grid2.Coords} {s : Shape} {α : Type} (m : Memref sig .scVector .vmem s .f32)
    (hs : (m.access (.whole s)).Stores Finset.univ)
    (idxs : Fin s.rank → IVec S16 32) (v : FVec F S16 .f32) (K : Prog (Eff F i) α) : Prog (Eff F i) α :=
  .op (.assume (InB s idxs) (inBDec s idxs)) fun h =>
  .op (.load m (.whole s) (View.loadsAt_rect hs.loads)) fun f =>
  .op (.store m (.whole s) (Idealize.ShloMosaic.storeIdx f idxs v (fun _ => 1#1) false h.down) Finset.univ hs (.inl rfl)) fun _ => K

/-- A list of values beside their indices, sixteen lanes each. -/
abbrev Tops (F : FTy → Type) := List (FVec F S16 .f32 × IVec S16 32)

/-- Insertion of a value and its index into a list kept in descending order, lane by lane. -/
def ins : Tops F → FVec F S16 .f32 → IVec S16 32 → Tops F
  | [], _, _ => []
  | (m, mi) :: l, v, vi =>
    (select (cmpf .ogt v m) v m, select (cmpf .ogt v m) vi mi) ::
      ins l (select (cmpf .ogt v m) m v) (select (cmpf .ogt v m) mi vi)

/-- `ins`, its result handed on. -/
def insK {α : Type 1} : Tops F → FVec F S16 .f32 → IVec S16 32 → (Tops F → α) → α
  | [], _, _, K => K []
  | (m, mi) :: l, v, vi, K =>
    insK l (select (cmpf .ogt v m) m v) (select (cmpf .ogt v m) mi vi) fun t =>
      K ((select (cmpf .ogt v m) v m, select (cmpf .ogt v m) vi mi) :: t)

theorem insK_eq {α : Type 1} (l : Tops F) : ∀ v vi (K : Tops F → α), insK l v vi K = K (ins l v vi) := by
  induction l with
  | nil => intro _ _ _; rfl
  | cons p l ih => intro v vi K; exact ih _ _ _

/-- Eight empty slots. -/
def tops0 : Tops F :=
  let a := (broadcast S16 (Scalar.ofBits .f32 0xFF800000#32), broadcast S16 0#32)
  [a, a, a, a, a, a, a, a]

section Body
variable {i : grid2.Coords}
  (arg8 : Memref sig .scVector .vmem S64x128 .f32) (arg9 : Memref sig .scVector .vmem S128 .f32)
  (arg10 : Memref sig .scVector .vmem S3x64x128 .f32) (arg11 : Memref sig .scVector .vmem S384 .f32)
  (arg12 : Memref sig .scVector .vmem S8192 .f32) (arg13 : Memref sig .scVector .vmem S8192 .f32)

/-- The experts of a list: each logit stored and inserted, then the rest. -/
def experts {α : Type} (toks : IVec S16 32) (cb : FVec F S16 .f32) (row : IVec S16 32) :
    List (BitVec 32) → Tops F → (Tops F → Prog (Eff F i) α) → Prog (Eff F i) α
  | [], l, K => K l
  | e :: es, l, K =>
    gather arg8 (View.loads_vmem h_S64x128) ![broadcast S16 e, toks] fun x =>
    scatter arg13 (View.stores_vmem_bits_univ h_S8192 rfl) ![addi row (broadcast S16 e)] (addf x cb) <|
    insK l (addf x cb) (broadcast S16 e) fun l' => experts toks cb row es l' K

/-- The first half of the experts. -/
def lowExperts : List (BitVec 32) :=
  [0#32, 1#32, 2#32, 3#32, 4#32, 5#32, 6#32, 7#32, 8#32, 9#32, 10#32, 11#32, 12#32, 13#32, 14#32, 15#32, 16#32, 17#32, 18#32, 19#32, 20#32, 21#32, 22#32, 23#32, 24#32, 25#32, 26#32, 27#32, 28#32, 29#32, 30#32, 31#32]

/-- The second half of the experts. -/
def highExperts : List (BitVec 32) :=
  [32#32, 33#32, 34#32, 35#32, 36#32, 37#32, 38#32, 39#32, 40#32, 41#32, 42#32, 43#32, 44#32, 45#32, 46#32, 47#32, 48#32, 49#32, 50#32, 51#32, 52#32, 53#32, 54#32, 55#32, 56#32, 57#32, 58#32, 59#32, 60#32, 61#32, 62#32, 63#32]

/-- The eight winners of two lists, the second from its last on. -/
def merge : Tops F → Tops F → Tops F
  | (m, mi) :: a, (n, ni) :: b =>
    (select (cmpf .oge m n) m n, select (cmpf .oge m n) mi ni) :: merge a b
  | _, _ => []

/-- `merge`, its result handed on. -/
def mergeK {α : Type 1} : Tops F → Tops F → (Tops F → α) → α
  | (m, mi) :: a, (n, ni) :: b, K => mergeK a b fun t =>
    K ((select (cmpf .oge m n) m n, select (cmpf .oge m n) mi ni) :: t)
  | _, _, K => K []

theorem mergeK_eq {α : Type 1} (a : Tops F) : ∀ b (K : Tops F → α), mergeK a b K = K (merge a b) := by
  induction a with
  | nil => intro b K; rfl
  | cons p a ih =>
    intro b K
    cases b with
    | nil => rfl
    | cons q b => exact ih _ _

/-- The weights before their division, beside their indices. -/
def expo (mx : FVec F S16 .f32) : Tops F → Tops F
  | [] => []
  | (v, vi) :: l => (exp (subf v mx), vi) :: expo mx l

/-- `expo`, its result handed on. -/
def expoK {α : Type 1} (mx : FVec F S16 .f32) : Tops F → (Tops F → α) → α
  | [], K => K []
  | (v, vi) :: l, K => expoK mx l fun t => K ((exp (subf v mx), vi) :: t)

theorem expoK_eq {α : Type 1} (mx : FVec F S16 .f32) (a : Tops F) :
    ∀ (K : Tops F → α), expoK mx a K = K (expo mx a) := by
  induction a with
  | nil => intro _; rfl
  | cons p a ih => intro K; exact ih _

/-- The sum of a list's values onto `z`. -/
def total (z : FVec F S16 .f32) : Tops F → FVec F S16 .f32
  | [] => z
  | (v, _) :: l => total (addf z v) l

/-- `total`, its result handed on. -/
def totalK {α : Type 1} (z : FVec F S16 .f32) : Tops F → (FVec F S16 .f32 → α) → α
  | [], K => K z
  | (v, _) :: l, K => totalK (addf z v) l K

theorem totalK_eq {α : Type 1} (a : Tops F) :
    ∀ z (K : FVec F S16 .f32 → α), totalK z a K = K (total z a) := by
  induction a with
  | nil => intro _ _; rfl
  | cons p a ih => intro z K; exact ih _ _

/-- A list's first value and the rest. -/
def headK {α : Type 1} : Tops F → (FVec F S16 .f32 → Tops F → α) → α
  | [], K => K (broadcast S16 (Scalar.ofBits .f32 0xFF800000#32)) []
  | (v, _) :: l, K => K v l

/-- The eight stores of a gate and the three running products, then the rest. -/
def gates {α : Type} (toks row : IVec S16 32) (rz : FVec F S16 .f32)
    (K : FVec F S16 .f32 → FVec F S16 .f32 → FVec F S16 .f32 → Prog (Eff F i) α) :
    Tops F → FVec F S16 .f32 → FVec F S16 .f32 → FVec F S16 .f32 → Prog (Eff F i) α
  | [], a0, a1, a2 => K a0 a1 a2
  | (v, vi) :: l, a0, a1, a2 =>
    scatter arg12 (View.stores_vmem_bits_univ h_S8192 rfl) ![addi row vi] (mulf v rz) <|
    gather arg10 (View.loads_vmem h_S3x64x128) ![broadcast S16 0#32, vi, toks] fun q0 =>
    gather arg10 (View.loads_vmem h_S3x64x128) ![broadcast S16 1#32, vi, toks] fun q1 =>
    gather arg10 (View.loads_vmem h_S3x64x128) ![broadcast S16 2#32, vi, toks] fun q2 =>
    gates toks row rz K l (addf a0 (mulf (mulf v rz) q0)) (addf a1 (mulf (mulf v rz) q1))
      (addf a2 (mulf (mulf v rz) q2))

/-- Lane numbers. -/
def lanes : IVec S16 32 := iota .scVector S16 32 [0] iota_S16_d0_w32_scVector

/-- The stores of sixteen tokens' products. -/
def actions (toks : IVec S16 32) (a0 a1 a2 : FVec F S16 .f32) : Prog (Eff F i) PUnit :=
  scatter arg11 (View.stores_vmem_bits_univ h_S384 rfl) ![muli toks (broadcast S16 3#32)] a0 <|
  scatter arg11 (View.stores_vmem_bits_univ h_S384 rfl) ![addi (muli toks (broadcast S16 3#32)) (broadcast S16 1#32)] a1 <|
  scatter arg11 (View.stores_vmem_bits_univ h_S384 rfl) ![addi (muli toks (broadcast S16 3#32)) (broadcast S16 2#32)] a2 <|
  .ret ⟨⟩

/-- The sixteen tokens' numbers in the tile. -/
def tokens (t : Fin k2_t2_loop.trips) : IVec S16 32 :=
  addi (broadcast S16 (Scalar.muli (Scf.iv 0#32 1#32 t) 16#32)) lanes

/-- Zeros. -/
def zeros : FVec F S16 .f32 := broadcast S16 (Scalar.ofBits .f32 0x00000000#32)

/-- Sixteen tokens. -/
def tile (t : Fin k2_t2_loop.trips) : Prog (Eff F i) PUnit :=
  gather arg9 (View.loads_vmem h_S128) ![tokens t] fun cb =>
  experts arg8 arg13 (tokens t) cb (muli (tokens t) (broadcast S16 64#32)) lowExperts tops0 fun a =>
  experts arg8 arg13 (tokens t) cb (muli (tokens t) (broadcast S16 64#32)) highExperts tops0 fun b =>
  mergeK a b.reverse fun w => headK a fun m _ => headK b fun m' _ => expoK (maximumf m m') w fun w =>
  headK w fun z0 ws => totalK z0 ws fun z =>
  gates arg10 arg12 (tokens t) (muli (tokens t) (broadcast S16 64#32))
    (divf (broadcast S16 (Scalar.ofBits .f32 0x3F800000#32)) z) (actions arg11 (tokens t)) w zeros zeros zeros

end Body
end Cert.KernelIdeal.Gen.Tile
-- ==== Proof.Ideal.Body.lean ====
module

public import proofs.«01_k».proof.Proof.Ideal.TileProg

@[expose] public section

set_option maxRecDepth 100000

noncomputable section

namespace Cert.KernelIdeal.Gen.Tile

open Idealize.ShloMosaic Idealize.SL.Sem

variable {F : FTy → Type} [FloatOps F]

/-- A copy and the wait for it, then the rest. -/
def copy {i : grid2.Coords} {α : Type} {sp sp' : Space} {s : Shape} (sem : DmaSems sig S_)
    (src : Memref sig .scVector sp s .f32) (dst : Memref sig .scVector sp' s .f32)
    (hs : src.view.WordExact) (hd : dst.view.WordExact)
    (ht : DmaTarget.Typed (τ := τ) (nD := nD) (p := .scVector ((i 0).castLE hcore2) ((i 1).castLE hsub2)) sp (.dma sem.sem) (.here dst))
    (K : Prog (Eff F i) α) : Prog (Eff F i) α :=
  .op (.enqueueDma src (.here dst) (.dma sem.sem) hs hd ht) fun _ => .op (.waitDma2 sem.sem src dst hs hd) fun _ => K

section Whole

variable {i : grid2.Coords}
variable (arg2 : Memref sig .scVector .hbm S64x4096 .f32) (arg3 : Memref sig .scVector .hbm S4096 .f32)
variable (arg4 : Memref sig .scVector .hbm S3x64x4096 .f32) (arg5 : Memref sig .scVector .hbm S12288 .f32)
variable (arg6 : Memref sig .scVector .hbm S262144 .f32) (arg7 : Memref sig .scVector .hbm S262144 .f32)
variable (arg8 : Memref sig .scVector .vmem S64x128 .f32) (arg9 : Memref sig .scVector .vmem S128 .f32)
variable (arg10 : Memref sig .scVector .vmem S3x64x128 .f32) (arg11 : Memref sig .scVector .vmem S384 .f32)
variable (arg12 : Memref sig .scVector .vmem S8192 .f32) (arg13 : Memref sig .scVector .vmem S8192 .f32)

/-- The columns of the expert scores this tile takes. -/
abbrev srcS (i : grid2.Coords) : Memref sig .scVector .hbm S64x128 .f32 :=
  arg2.slice (Rect.unit (s := S64x4096) (k2_off1 i) S64x128.size (k2_off1_inb i)) (fun _ => rfl)
/-- The context scores this tile takes. -/
abbrev srcC (i : grid2.Coords) : Memref sig .scVector .hbm S128 .f32 :=
  arg3.slice (Rect.unit (s := S4096) (k2_off2 i) S128.size (k2_off2_inb i)) (fun _ => rfl)
/-- The columns of the three action planes this tile takes. -/
abbrev srcQ0 (i : grid2.Coords) : Memref sig .scVector .hbm S64x128 .f32 :=
  (arg4.slice (Rect.unit (s := S3x64x4096) (k2_off3 i) S1x64x128.size (k2_off3_inb i)) (fun _ => rfl)).squeeze S64x128 squeezes_S1x64x128_S64x128
abbrev srcQ1 (i : grid2.Coords) : Memref sig .scVector .hbm S64x128 .f32 :=
  (arg4.slice (Rect.unit (s := S3x64x4096) (k2_off4 i) S1x64x128.size (k2_off4_inb i)) (fun _ => rfl)).squeeze S64x128 squeezes_S1x64x128_S64x128
abbrev srcQ2 (i : grid2.Coords) : Memref sig .scVector .hbm S64x128 .f32 :=
  (arg4.slice (Rect.unit (s := S3x64x4096) (k2_off5 i) S1x64x128.size (k2_off5_inb i)) (fun _ => rfl)).squeeze S64x128 squeezes_S1x64x128_S64x128
/-- The three planes of the scratch the action values land in. -/
abbrev dstQ0 : Memref sig .scVector .vmem S64x128 .f32 :=
  (arg10.slice (Rect.unit (s := S3x64x128) ![0, 0, 0] S1x64x128.size inb_S3x64x128_S1x64x128_0_0_0) (fun _ => rfl)).squeeze S64x128 squeezes_S1x64x128_S64x128
abbrev dstQ1 : Memref sig .scVector .vmem S64x128 .f32 :=
  (arg10.slice (Rect.unit (s := S3x64x128) ![1, 0, 0] S1x64x128.size inb_S3x64x128_S1x64x128_1_0_0) (fun _ => rfl)).squeeze S64x128 squeezes_S1x64x128_S64x128
abbrev dstQ2 : Memref sig .scVector .vmem S64x128 .f32 :=
  (arg10.slice (Rect.unit (s := S3x64x128) ![2, 0, 0] S1x64x128.size inb_S3x64x128_S1x64x128_2_0_0) (fun _ => rfl)).squeeze S64x128 squeezes_S1x64x128_S64x128
/-- The runs of the three results this tile writes. -/
abbrev dstA (i : grid2.Coords) : Memref sig .scVector .hbm S384 .f32 :=
  arg5.slice (Rect.unit (s := S12288) (k2_off6 i) S384.size (k2_off6_inb i)) (fun _ => rfl)
abbrev dstG (i : grid2.Coords) : Memref sig .scVector .hbm S8192 .f32 :=
  arg6.slice (Rect.unit (s := S262144) (k2_off7 i) S8192.size (k2_off7_inb i)) (fun _ => rfl)
abbrev dstL (i : grid2.Coords) : Memref sig .scVector .hbm S8192 .f32 :=
  arg7.slice (Rect.unit (s := S262144) (k2_off7 i) S8192.size (k2_off7_inb i)) (fun _ => rfl)

/-- The sixteen gates trip `t` of the first loop clears. -/
def cleared (t : Fin k2_t1_loop.trips) : IVec S16 32 :=
  addi (broadcast S16 (Scalar.muli (Scf.iv 0#32 1#32 t) 16#32)) lanes

/-- One trip of the first loop: sixteen gates set to zero. -/
def clear (t : Fin k2_t1_loop.trips) : Prog (Eff F i) PUnit :=
  scatter arg12 (View.stores_vmem_bits_univ h_S8192 rfl) ![cleared t] zeros (.ret ⟨⟩)

/-- The body of the tile's kernel: five copies in, the two loops, three copies out. -/
def body (harg8 : arg8.IsWhole) (harg9 : arg9.IsWhole) (harg11 : arg11.IsWhole)
    (harg12 : arg12.IsWhole) (harg13 : arg13.IsWhole) (r0 r1 r2 r3 r4 r5 r6 r7 : DmaSems sig S_) : Prog (Eff F i) PUnit :=
  copy r0 (srcS arg2 i) arg8 (View.wordExact_bits rfl) harg8.wordExact ⟨Or.inl rfl, trivial⟩ <|
  copy r1 (srcC arg3 i) arg9 (View.wordExact_bits rfl) harg9.wordExact ⟨Or.inl rfl, trivial⟩ <|
  copy r2 (srcQ0 arg4 i) (dstQ0 arg10) ((View.wordExact_bits rfl).reshape _ _) ((View.wordExact_bits rfl).reshape _ _) ⟨Or.inl rfl, trivial⟩ <|
  copy r3 (srcQ1 arg4 i) (dstQ1 arg10) ((View.wordExact_bits rfl).reshape _ _) ((View.wordExact_bits rfl).reshape _ _) ⟨Or.inl rfl, trivial⟩ <|
  copy r4 (srcQ2 arg4 i) (dstQ2 arg10) ((View.wordExact_bits rfl).reshape _ _) ((View.wordExact_bits rfl).reshape _ _) ⟨Or.inl rfl, trivial⟩ <|
  (Scf.Loop.for k2_t1_loop k2_t1_ok ⟨⟩ fun t _ => clear arg12 t) >>= fun _ =>
  (Scf.Loop.for k2_t2_loop k2_t2_ok ⟨⟩ fun t _ => tile arg8 arg9 arg10 arg11 arg12 arg13 t) >>= fun _ =>
  copy r5 arg11 (dstA arg5 i) harg11.wordExact (View.wordExact_bits rfl) ⟨Or.inl rfl, trivial⟩ <|
  copy r6 arg12 (dstG arg6 i) harg12.wordExact (View.wordExact_bits rfl) ⟨Or.inl rfl, trivial⟩ <|
  copy r7 arg13 (dstL arg7 i) harg13.wordExact (View.wordExact_bits rfl) ⟨Or.inl rfl, trivial⟩ <|
  .ret ⟨⟩

end Whole

set_option maxHeartbeats 40000000 in
/-- The printed body of the tile's kernel is `body`. -/
theorem body_eq (i : grid2.Coords) (arg2 : Memref sig .scVector .hbm S64x4096 .f32) (harg2 : arg2.IsWhole) (arg3 : Memref sig .scVector .hbm S4096 .f32) (harg3 : arg3.IsWhole) (arg4 : Memref sig .scVector .hbm S3x64x4096 .f32) (harg4 : arg4.IsWhole) (arg5 : Memref sig .scVector .hbm S12288 .f32) (harg5 : arg5.IsWhole) (arg6 : Memref sig .scVector .hbm S262144 .f32) (harg6 : arg6.IsWhole) (arg7 : Memref sig .scVector .hbm S262144 .f32) (harg7 : arg7.IsWhole) (arg8 : Memref sig .scVector .vmem S64x128 .f32) (harg8 : arg8.IsWhole) (arg9 : Memref sig .scVector .vmem S128 .f32) (harg9 : arg9.IsWhole) (arg10 : Memref sig .scVector .vmem S3x64x128 .f32) (harg10 : arg10.IsWhole) (arg11 : Memref sig .scVector .vmem S384 .f32) (harg11 : arg11.IsWhole) (arg12 : Memref sig .scVector .vmem S8192 .f32) (harg12 : arg12.IsWhole) (arg13 : Memref sig .scVector .vmem S8192 .f32) (harg13 : arg13.IsWhole) (r0 r1 r2 r3 r4 r5 r6 r7 : DmaSems sig S_) :
    cc2__sc_body (F := F) i arg2 harg2 arg3 harg3 arg4 harg4 arg5 harg5 arg6 harg6 arg7 harg7 arg8 harg8 arg9 harg9 arg10 harg10 arg11 harg11 arg12 harg12 arg13 harg13 r0 r1 r2 r3 r4 r5 r6 r7
      = body (i := i) arg2 arg3 arg4 arg5 arg6 arg7 arg8 arg9 arg10 arg11 arg12 arg13 harg8 harg9 harg11 harg12 harg13 r0 r1 r2 r3 r4 r5 r6 r7 := by
  rfl

end Cert.KernelIdeal.Gen.Tile

end
-- ==== Proof.Ideal.TileSpec.lean ====
module

public import proofs.«01_k».proof.Proof.Ideal.Body

@[expose] public section

noncomputable section

namespace Cert.KernelIdeal.Gen.Tile

open Idealize.ShloMosaic Idealize.SL.Sem

variable {F : FTy → Type} [FloatOps F]

/-- What a gather reads of contents `f`. -/
def ld {s : Shape} (f : Vec F s .f32) (idxs : Fin s.rank → IVec S16 32) : FVec F S16 .f32 :=
  match inBDec s idxs with
  | isTrue h => loadIdx (F := F) (e := .f32) f idxs h
  | isFalse _ => zeros

/-- What a scatter leaves of contents `f`. -/
def put {s : Shape} (f : Vec F s .f32) (idxs : Fin s.rank → IVec S16 32) (v : FVec F S16 .f32) : Vec F s .f32 :=
  match inBDec s idxs with
  | isTrue h => storeIdx (F := F) (e := .f32) f idxs v (fun _ => 1#1) false h
  | isFalse _ => f

theorem ld_eq {s : Shape} (f : Vec F s .f32) (idxs : Fin s.rank → IVec S16 32) (h : InB s idxs) :
    ld f idxs = loadIdx (F := F) (e := .f32) f idxs h := by
  unfold ld
  cases inBDec s idxs with
  | isTrue _ => rfl
  | isFalse n => exact absurd h n

theorem put_eq {s : Shape} (f : Vec F s .f32) (idxs : Fin s.rank → IVec S16 32) (v : FVec F S16 .f32) (h : InB s idxs) :
    put f idxs v = storeIdx (F := F) (e := .f32) f idxs v (fun _ => 1#1) false h := by
  unfold put
  cases inBDec s idxs with
  | isTrue _ => rfl
  | isFalse n => exact absurd h n

/-- The logits of one expert for sixteen tokens. -/
def logit (f8 : Vec F S64x128 .f32) (toks : IVec S16 32) (cb : FVec F S16 .f32) (e : BitVec 32) : FVec F S16 .f32 :=
  addf (ld f8 ![broadcast S16 e, toks]) cb

/-- The list after a run of experts. -/
def listAfter (f8 : Vec F S64x128 .f32) (toks : IVec S16 32) (cb : FVec F S16 .f32) (es : List (BitVec 32)) (l : Tops F) : Tops F :=
  es.foldl (fun l e => ins l (logit f8 toks cb e) (broadcast S16 e)) l

/-- The logits' buffer after a run of experts. -/
def logitsAfter (f8 : Vec F S64x128 .f32) (toks : IVec S16 32) (cb : FVec F S16 .f32) (row : IVec S16 32) (es : List (BitVec 32))
    (g : Vec F S8192 .f32) : Vec F S8192 .f32 :=
  es.foldl (fun g e => put g ![addi row (broadcast S16 e)] (logit f8 toks cb e)) g

/-- The gates' buffer after the stores of a list's weights. -/
def gatesAfter (row : IVec S16 32) (rz : FVec F S16 .f32) (l : Tops F) (g : Vec F S8192 .f32) : Vec F S8192 .f32 :=
  l.foldl (fun g p => put g ![addi row p.2] (mulf p.1 rz)) g

/-- The products of a list's weights with one action plane, added onto `a`. -/
def actAfter (f10 : Vec F S3x64x128 .f32) (toks : IVec S16 32) (rz : FVec F S16 .f32) (k : BitVec 32) (l : Tops F) (a : FVec F S16 .f32) :
    FVec F S16 .f32 :=
  l.foldl (fun a p => addf a (mulf (mulf p.1 rz) (ld f10 ![broadcast S16 k, p.2, toks]))) a

/-- The first value of a list. -/
def top : Tops F → FVec F S16 .f32
  | [] => broadcast S16 (Scalar.ofBits .f32 0xFF800000#32)
  | (v, _) :: _ => v

theorem headK_eq {α : Type 1} (l : Tops F) (K : FVec F S16 .f32 → Tops F → α) : headK l K = K (top l) l.tail := by
  cases l <;> rfl

section Tokens
variable (f8 : Vec F S64x128 .f32) (f9 : Vec F S128 .f32) (f10 : Vec F S3x64x128 .f32) (t : Fin k2_t2_loop.trips)

/-- The first place of each token's row. -/
def rows (t : Fin k2_t2_loop.trips) : IVec S16 32 := muli (tokens t) (broadcast S16 64#32)
/-- The context scores of the sixteen tokens. -/
def ctxOf : FVec F S16 .f32 := ld f9 ![tokens t]
/-- The best eight of the first half, and of the second. -/
def lowTops : Tops F := listAfter f8 (tokens t) (ctxOf f9 t) lowExperts tops0
def highTops : Tops F := listAfter f8 (tokens t) (ctxOf f9 t) highExperts tops0
/-- The chosen eight. -/
def chosen : Tops F := merge (lowTops f8 f9 t) (highTops f8 f9 t).reverse
/-- The weights of the chosen eight before their division. -/
def weights : Tops F := expo (maximumf (top (lowTops f8 f9 t)) (top (highTops f8 f9 t))) (chosen f8 f9 t)
/-- One over their sum. -/
def invSum : FVec F S16 .f32 :=
  divf (broadcast S16 (Scalar.ofBits .f32 0x3F800000#32)) (total (top (weights f8 f9 t)) (weights f8 f9 t).tail)

/-- The logits' buffer after the sixteen tokens. -/
def stepL (g : Vec F S8192 .f32) : Vec F S8192 .f32 :=
  logitsAfter f8 (tokens t) (ctxOf f9 t) (rows t) highExperts (logitsAfter f8 (tokens t) (ctxOf f9 t) (rows t) lowExperts g)
/-- The gates' buffer after the sixteen tokens. -/
def stepG (g : Vec F S8192 .f32) : Vec F S8192 .f32 := gatesAfter (rows t) (invSum f8 f9 t) (weights f8 f9 t) g
/-- The actions' buffer after the sixteen tokens. -/
def action (k : BitVec 32) : FVec F S16 .f32 := actAfter f10 (tokens t) (invSum f8 f9 t) k (weights f8 f9 t) zeros
def stepA (a : Vec F S384 .f32) : Vec F S384 .f32 :=
  put (put (put a ![muli (tokens t) (broadcast S16 3#32)] (action f8 f9 f10 t 0#32))
    ![addi (muli (tokens t) (broadcast S16 3#32)) (broadcast S16 1#32)] (action f8 f9 f10 t 1#32))
    ![addi (muli (tokens t) (broadcast S16 3#32)) (broadcast S16 2#32)] (action f8 f9 f10 t 2#32)

end Tokens

/-- A buffer after the first `n` trips of a loop. -/
def after {N : ℕ} {β : Type} (step : Fin N → β → β) (b : β) : ℕ → β
  | 0 => b
  | n + 1 => if h : n < N then step ⟨n, h⟩ (after step b n) else after step b n

/-- The gates' buffer cleared by the first loop. -/
def clearStep (t : Fin k2_t1_loop.trips) (g : Vec F S8192 .f32) : Vec F S8192 .f32 := put g ![cleared t] zeros

end Cert.KernelIdeal.Gen.Tile

end
-- ==== Proof.Ideal.Setup.lean ====
module

public import proofs.«01_k».proof.Proof.Ideal.TileSpec
public import proofs.«01_k».proof.Proof.Gen.KernelIdeal.Launch
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Tactic
public import Idealize.ShloMosaic.Lib.Transfers

@[expose] public section

noncomputable section

namespace Cert.KernelIdeal.Gen.Tile

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch sees it -/

abbrev ΛP : Labels := Pipeline.Sig Λ₀ (Fin 2) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem kfacts : (K (F := F)).Facts :=
  ⟨show sc_start ≠ sc_taskDone by decide, show (SemLoc.reg sc_start : SemLoc sig).isScoped .scScalar = false by decide,
    show (SemLoc.reg sc_taskDone : SemLoc sig).isScoped .scScalar = false by decide,
    show (SemLoc.reg sc_go : SemLoc sig).isScoped .scVector = false by decide,
    show (SemLoc.reg sc_done : SemLoc sig).isScoped .tc = false by decide,
    show ∀ (b : DevRef τ sig) (c : Fin τ.nSC), b.owner = .sc c → sig.taskShared b.table b.idx = false by decide,
    fun _ => rfl⟩

/-! ## The resource algebra: the handshakes' rounds, the pipelines' rounds, the copies' counters -/

abbrev UH : Type := URounds (GSem nD τ sig) ℕ
abbrev UP : Type := URounds (GSem nD τ sig) Unit
abbrev UU : Type := UH × (UP × Counters)

/-- The assertions of the proof. -/
abbrev M (F : FTy → Type) := MT nD τ sig (HIx 1) (Elt F) ℕ UU ℕ

abbrev EH : Emb UH (M F) := embL
def EP : Emb UP (M F) :=
  ((Emb.inl : Emb UP (UP × Counters)).trans (Emb.inr : Emb (UP × Counters) UU)).trans
    (uEmb (nD := nD) (sig := sig) (Ix := HIx 1) (Val := Elt F) (Name := ℕ) (U := UU) (Lvl := ℕ)).toEmb

instance EP_landsIn : (EP : Emb UP (M F)).LandsIn (upEmb : UEmb _ (M F)) := by unfold EP; infer_instance

/-- The counters' embedding. -/
abbrev EC : UEmb Counters (M F) := countersEmb

end Cert.KernelIdeal.Gen.Tile

end
-- ==== Proof.Ideal.Score.lean ====
module

public import proofs.«01_k».proof.Proof.Ideal.Setup
public import proofs.«01_k».proof.Proof.Gen.KernelIdeal.Points
public import Idealize.ShloMosaic.Lib.Pipeline.FrameBody

@[expose] public section

noncomputable section

namespace Cert.KernelIdeal.Gen.Tile

open Idealize.ShloMosaic Idealize.ShloMosaic.TcCoe Idealize.ShloMosaic.Tactic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]

/-! ## What the two dense bodies leave in their output buffer -/

/-- The scores of one block of tokens, from the block of features and the three weights. -/
def scoreOut (x1 : Vec F S7x4096 .f32) (x2 : Vec F S256x7 .f32) (x3 : Vec F S256x1 .f32) (x4 : Vec F S1x256 .f32) : Vec F S1x4096 .f32 :=
  View.canon [⟨Rect.unit (s := S1x4096) ![0, 0] S1x4096.size inb_S1x4096_S1x4096_0_0,
    k0_pay1 (View.ld x2 (Rect.unit (s := S256x7) ![0, 0] S256x7.size inb_S256x7_S256x7_0_0))
      (View.ld x1 (Rect.unit (s := S7x4096) ![0, 0] S7x4096.size inb_S7x4096_S7x4096_0_0))
      (View.ld x3 (Rect.unit (s := S256x1) ![0, 0] S256x1.size inb_S256x1_S256x1_0_0))
      (View.ld x4 (Rect.unit (s := S1x256) ![0, 0] S1x256.size inb_S1x256_S1x256_0_0))⟩]

/-- The context terms of all tokens, from the states and the four weights. -/
def ctxOut (x0 : Vec F S68x4096 .f32) (x1 : Vec F S256x68 .f32) (x2 : Vec F S256x1 .f32) (x3 : Vec F S1x256 .f32) (x4 : Vec F S1x1 .f32) :
    Vec F S1x4096 .f32 :=
  View.canon [⟨Rect.unit (s := S1x4096) ![0, 0] S1x4096.size inb_S1x4096_S1x4096_0_0,
    k1_pay1 (View.ld x1 (Rect.unit (s := S256x68) ![0, 0] S256x68.size inb_S256x68_S256x68_0_0))
      (View.ld x0 (Rect.unit (s := S68x4096) ![0, 0] S68x4096.size inb_S68x4096_S68x4096_0_0))
      (View.ld x2 (Rect.unit (s := S256x1) ![0, 0] S256x1.size inb_S256x1_S256x1_0_0))
      (View.ld x3 (Rect.unit (s := S1x256) ![0, 0] S1x256.size inb_S1x256_S1x256_0_0))
      (View.ld x4 (Rect.unit (s := S1x1) ![0, 0] S1x1.size inb_S1x1_S1x1_0_0))⟩]

/-- One store of the whole buffer covers it. -/
theorem cover_out (p0 : Vec F S1x4096 .f32) (y : S1x4096.Idx) :
    ∃ pc ∈ ([⟨Rect.unit (s := S1x4096) ![0, 0] S1x4096.size inb_S1x4096_S1x4096_0_0, p0⟩] : List (View.Piece (Elt F) S1x4096 .f32)), y ∈ pc.1.set :=
  View.cover_of_tiled [⟨Rect.unit (s := S1x4096) ![0, 0] S1x4096.size inb_S1x4096_S1x4096_0_0, p0⟩] S1x4096.size (by rfl) y

/-! ## The bodies' triples, on any whole buffers -/

theorem wp_score (c : Dev nD) (E : Set ℕ) (i : grid0.Coords) (a1 : Memref sig .tc .vmem S7x4096 .f32) (h1 : a1.IsWhole)
    (a2 : Memref sig .tc .vmem S256x7 .f32) (h2 : a2.IsWhole) (a3 : Memref sig .tc .vmem S256x1 .f32) (h3 : a3.IsWhole)
    (a4 : Memref sig .tc .vmem S1x256 .f32) (h4 : a4.IsWhole) (a5 : Memref sig .tc .vmem S1x4096 .f32) (h5 : a5.IsWhole)
    (x1 : Vec F S7x4096 .f32) (x2 : Vec F S256x7 .f32) (x3 : Vec F S256x1 .f32) (x4 : Vec F S1x256 .f32) (Q : PUnit → sProp (M F)) :
    iprop(owns (c : Thread nD τ) a1 fullShare x1 ∗ owns (c : Thread nD τ) a2 fullShare x2 ∗ owns (c : Thread nD τ) a3 fullShare x3
        ∗ owns (c : Thread nD τ) a4 fullShare x4 ∗ (∃ d, owns (c : Thread nD τ) a5 fullShare d)
        ∗ (iprop(owns (c : Thread nD τ) a1 fullShare x1 ∗ owns (c : Thread nD τ) a2 fullShare x2 ∗ owns (c : Thread nD τ) a3 fullShare x3
            ∗ owns (c : Thread nD τ) a4 fullShare x4 ∗ owns (c : Thread nD τ) a5 fullShare (scoreOut x1 x2 x3 x4)) -∗ Q ⟨⟩))
      ⊢ wp frame (wpE (defs₀ (F := F)) 𝒱₀ c none) E (cc0__score_body i a1 h1 a2 h2 a3 h3 a4 h4 a5 h5) Q := by
  simp only [cc0__score_body_eq_skeleton]; unfold cc0__score_body_skel
  unfold owns
  iintro ⟨⟨%f1, %hf1, H1⟩, ⟨%f2, %hf2, H2⟩, ⟨%f3, %hf3, H3⟩, ⟨%f4, %hf4, H4⟩, ⟨%d5, %f5, -, H5⟩, Hk⟩
  subst hf1 hf2 hf3 hf4
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover_out _)

theorem wp_ctx (c : Dev nD) (E : Set ℕ) (a0 : Memref sig .tc .vmem S68x4096 .f32) (h0 : a0.IsWhole)
    (a1 : Memref sig .tc .vmem S256x68 .f32) (h1 : a1.IsWhole) (a2 : Memref sig .tc .vmem S256x1 .f32) (h2 : a2.IsWhole)
    (a3 : Memref sig .tc .vmem S1x256 .f32) (h3 : a3.IsWhole) (a4 : Memref sig .tc .vmem S1x1 .f32) (h4 : a4.IsWhole)
    (a5 : Memref sig .tc .vmem S1x4096 .f32) (h5 : a5.IsWhole)
    (x0 : Vec F S68x4096 .f32) (x1 : Vec F S256x68 .f32) (x2 : Vec F S256x1 .f32) (x3 : Vec F S1x256 .f32) (x4 : Vec F S1x1 .f32)
    (Q : PUnit → sProp (M F)) :
    iprop(owns (c : Thread nD τ) a0 fullShare x0 ∗ owns (c : Thread nD τ) a1 fullShare x1 ∗ owns (c : Thread nD τ) a2 fullShare x2
        ∗ owns (c : Thread nD τ) a3 fullShare x3 ∗ owns (c : Thread nD τ) a4 fullShare x4 ∗ (∃ d, owns (c : Thread nD τ) a5 fullShare d)
        ∗ (iprop(owns (c : Thread nD τ) a0 fullShare x0 ∗ owns (c : Thread nD τ) a1 fullShare x1 ∗ owns (c : Thread nD τ) a2 fullShare x2
            ∗ owns (c : Thread nD τ) a3 fullShare x3 ∗ owns (c : Thread nD τ) a4 fullShare x4
            ∗ owns (c : Thread nD τ) a5 fullShare (ctxOut x0 x1 x2 x3 x4)) -∗ Q ⟨⟩))
      ⊢ wp frame (wpE (defs₀ (F := F)) 𝒱₀ c none) E (cc1__ctx_body a0 h0 a1 h1 a2 h2 a3 h3 a4 h4 a5 h5) Q := by
  simp only [cc1__ctx_body_eq_skeleton]; unfold cc1__ctx_body_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover_out _)

/-! ## The proof data of the two pipelines, from the arrays the region finds -/

/-- The block of window `w`'s array that point `t` uses. -/
abbrev blk0 (V : Valuation τ sig (Elt F)) (w : Fin cfg0.W) (t : Fin cfg0.N) : ((cfg0.win w).xblock (cfg0.grid.coords t)).Idx → Elt F (cfg0.win w).elt :=
  ((cfg0.win w).blk t).view.read (Elt F) (V (Proc.devRef .tc (Pipeline.arrRef spec0 w)))
abbrev blk1 (V : Valuation τ sig (Elt F)) (w : Fin cfg1.W) (t : Fin cfg1.N) : ((cfg1.win w).xblock (cfg1.grid.coords t)).Idx → Elt F (cfg1.win w).elt :=
  ((cfg1.win w).blk t).view.read (Elt F) (V (Proc.devRef .tc (Pipeline.arrRef spec1 w)))

/-- The marks of handshakes already waited for, before the first call of the SparseCores. -/
abbrev seen (c : Dev nD) : Set (SemLoc sig × HIx 1) := {p | (K (F := F)).lev (T c, p.1) p.2 ≤ 0}

def dat0 (V : Dev nD → Valuation τ sig (Elt F)) (c : Dev nD) : Dat τ (Elt F) (HIx 1) ℕ UU ℕ cfg0 c where
  A w := V c (Proc.devRef .tc (Pipeline.arrRef spec0 w))
  after w t := match w with
    | ⟨0, _⟩ => blk0 (V c) 0 t
    | ⟨1, _⟩ => blk0 (V c) 1 t
    | ⟨2, _⟩ => blk0 (V c) 2 t
    | ⟨3, _⟩ => blk0 (V c) 3 t
    | ⟨4, _⟩ => scoreOut (blk0 (V c) 0 t) (blk0 (V c) 1 t) (blk0 (V c) 2 t) (blk0 (V c) 3 t)
  Φ _ := Pipeline.scopedRest spec0 c
  q _ := fullShare
  owed _ := (K (F := F)).Otc c 0
  recorded _ := seen (F := F) c

def dat1 (V : Dev nD → Valuation τ sig (Elt F)) (c : Dev nD) : Dat τ (Elt F) (HIx 1) ℕ UU ℕ cfg1 c where
  A w := V c (Proc.devRef .tc (Pipeline.arrRef spec1 w))
  after w t := match w with
    | ⟨0, _⟩ => blk1 (V c) 0 t
    | ⟨1, _⟩ => blk1 (V c) 1 t
    | ⟨2, _⟩ => blk1 (V c) 2 t
    | ⟨3, _⟩ => blk1 (V c) 3 t
    | ⟨4, _⟩ => blk1 (V c) 4 t
    | ⟨5, _⟩ => ctxOut (blk1 (V c) 0 t) (blk1 (V c) 1 t) (blk1 (V c) 2 t) (blk1 (V c) 3 t) (blk1 (V c) 4 t)
  Φ _ := Pipeline.scopedRest spec1 c
  q _ := fullShare
  owed _ := (K (F := F)).Otc c 0
  recorded _ := seen (F := F) c

section
variable (V : Dev nD → Valuation τ sig (Elt F)) (c : Dev nD)

theorem after00 (t : Fin cfg0.N) : (dat0 V c).after 0 t = blk0 (V c) 0 t := by dsimp only [dat0]
theorem after01 (t : Fin cfg0.N) : (dat0 V c).after 1 t = blk0 (V c) 1 t := by dsimp only [dat0]
theorem after02 (t : Fin cfg0.N) : (dat0 V c).after 2 t = blk0 (V c) 2 t := by dsimp only [dat0]
theorem after03 (t : Fin cfg0.N) : (dat0 V c).after 3 t = blk0 (V c) 3 t := by dsimp only [dat0]
theorem after04 (t : Fin cfg0.N) : (dat0 V c).after 4 t = scoreOut (blk0 (V c) 0 t) (blk0 (V c) 1 t) (blk0 (V c) 2 t) (blk0 (V c) 3 t) := by dsimp only [dat0]
theorem after10 (t : Fin cfg1.N) : (dat1 V c).after 0 t = blk1 (V c) 0 t := by dsimp only [dat1]
theorem after11 (t : Fin cfg1.N) : (dat1 V c).after 1 t = blk1 (V c) 1 t := by dsimp only [dat1]
theorem after12 (t : Fin cfg1.N) : (dat1 V c).after 2 t = blk1 (V c) 2 t := by dsimp only [dat1]
theorem after13 (t : Fin cfg1.N) : (dat1 V c).after 3 t = blk1 (V c) 3 t := by dsimp only [dat1]
theorem after14 (t : Fin cfg1.N) : (dat1 V c).after 4 t = blk1 (V c) 4 t := by dsimp only [dat1]
theorem after15 (t : Fin cfg1.N) : (dat1 V c).after 5 t
    = ctxOut (blk1 (V c) 0 t) (blk1 (V c) 1 t) (blk1 (V c) 2 t) (blk1 (V c) 3 t) (blk1 (V c) 4 t) := by dsimp only [dat1]

theorem before00 (t : Fin cfg0.N) (d) : (dat0 V c).before 0 t d = blk0 (V c) 0 t :=
  ((dat0 V c).before_in_eq_fetched 0 rfl (fun _ => rfl) (fun _ _ _ => rfl) (fun _ => rfl) t d).trans rfl
theorem before01 (t : Fin cfg0.N) (d) : (dat0 V c).before 1 t d = blk0 (V c) 1 t :=
  ((dat0 V c).before_in_eq_fetched 1 rfl (fun _ => rfl) (fun _ _ _ => rfl) (fun _ => rfl) t d).trans rfl
theorem before02 (t : Fin cfg0.N) (d) : (dat0 V c).before 2 t d = blk0 (V c) 2 t :=
  ((dat0 V c).before_in_eq_fetched 2 rfl (fun _ => rfl) (fun _ _ _ => rfl) (fun _ => rfl) t d).trans rfl
theorem before03 (t : Fin cfg0.N) (d) : (dat0 V c).before 3 t d = blk0 (V c) 3 t :=
  ((dat0 V c).before_in_eq_fetched 3 rfl (fun _ => rfl) (fun _ _ _ => rfl) (fun _ => rfl) t d).trans rfl
theorem before10 (t : Fin cfg1.N) (d) : (dat1 V c).before 0 t d = blk1 (V c) 0 t :=
  ((dat1 V c).before_in_eq_fetched 0 rfl (fun _ => rfl) (fun _ _ _ => rfl) (fun _ => rfl) t d).trans rfl
theorem before11 (t : Fin cfg1.N) (d) : (dat1 V c).before 1 t d = blk1 (V c) 1 t :=
  ((dat1 V c).before_in_eq_fetched 1 rfl (fun _ => rfl) (fun _ _ _ => rfl) (fun _ => rfl) t d).trans rfl
theorem before12 (t : Fin cfg1.N) (d) : (dat1 V c).before 2 t d = blk1 (V c) 2 t :=
  ((dat1 V c).before_in_eq_fetched 2 rfl (fun _ => rfl) (fun _ _ _ => rfl) (fun _ => rfl) t d).trans rfl
theorem before13 (t : Fin cfg1.N) (d) : (dat1 V c).before 3 t d = blk1 (V c) 3 t :=
  ((dat1 V c).before_in_eq_fetched 3 rfl (fun _ => rfl) (fun _ _ _ => rfl) (fun _ => rfl) t d).trans rfl
theorem before14 (t : Fin cfg1.N) (d) : (dat1 V c).before 4 t d = blk1 (V c) 4 t :=
  ((dat1 V c).before_in_eq_fetched 4 rfl (fun _ => rfl) (fun _ _ _ => rfl) (fun _ => rfl) t d).trans rfl

/-! ## The body obligations -/

theorem defs_score (t : Fin cfg0.N) : defs₀ (F := F) .tc cfg0.body (cfg0.bodyArgs t (cfg0.slots t)) = bodyAt0 t := by
  unfold defs₀; rfl
theorem defs_ctx (t : Fin cfg1.N) : defs₀ (F := F) .tc cfg1.body (cfg1.bodyArgs t (cfg1.slots t)) = bodyAt1 t := by
  unfold defs₀; rfl

theorem body0 : BodyObligation (dat0 V c) (defs₀ (F := F)) 𝒱₀ none Set.univ := fun t => by
  rw [bigSep_W0, bigSep_W0, defs_score]
  simp only [before00, before01, before02, before03]
  rw [show (dat0 V c).Φ t.succ = (dat0 V c).Φ t.castSucc from rfl,
    show (dat0 V c).owesAt none t.succ = (dat0 V c).owesAt none t.castSucc from rfl, after00, after01, after02, after03, after04]
  unfold bodyAt0
  iintro ⟨HΦ, Ho, ⟨%d0, H0⟩, ⟨%d1, H1⟩, ⟨%d2, H2⟩, ⟨%d3, H3⟩, ⟨%d4, H4⟩⟩
  iapply (wp_score c Set.univ _ _ _ _ _ _ _ _ _ _ _ (blk0 (V c) 0 t) (blk0 (V c) 1 t) (blk0 (V c) 2 t) (blk0 (V c) 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem body1 : BodyObligation (dat1 V c) (defs₀ (F := F)) 𝒱₀ none Set.univ := fun t => by
  rw [bigSep_W1, bigSep_W1, defs_ctx]
  simp only [before10, before11, before12, before13, before14]
  rw [show (dat1 V c).Φ t.succ = (dat1 V c).Φ t.castSucc from rfl,
    show (dat1 V c).owesAt none t.succ = (dat1 V c).owesAt none t.castSucc from rfl, after10, after11, after12, after13, after14, after15]
  unfold bodyAt1
  iintro ⟨HΦ, Ho, ⟨%d0, H0⟩, ⟨%d1, H1⟩, ⟨%d2, H2⟩, ⟨%d3, H3⟩, ⟨%d4, H4⟩, ⟨%d5, H5⟩⟩
  iapply (wp_ctx c Set.univ _ _ _ _ _ _ _ _ _ _ _ _ (blk1 (V c) 0 t) (blk1 (V c) 1 t) (blk1 (V c) 2 t) (blk1 (V c) 3 t) (blk1 (V c) 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

end

end Cert.KernelIdeal.Gen.Tile

end
-- ==== Proof.Ideal.Mid.lean ====
module

public import proofs.«01_k».proof.Proof.Ideal.Score
public import Idealize.ShloMosaic.Lib.Pipeline.RegionArraysS

@[expose] public section

noncomputable section

namespace Cert.KernelIdeal.Gen.Tile

open Idealize.ShloMosaic Idealize.ShloMosaic.TcCoe
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation RegionSeg arrRef arrRefs afterRegion ucRefs scopedRest)

variable {F : FTy → Type} [FloatOps F]

/-- No table is prefetched. -/
abbrev adm : (p : Fin 2) → (pcfgs (F := F) p).Adm := fun p => (cfgs p).toPCfg_adm

theorem Otc_none (c : Dev nD) (g : GSem nD τ sig) : (K (F := F)).Otc (N := 1) c 0 g none = 0 := by
  by_contra h
  have := SparseCore.Cfg.lev_of_Otc_pos (K := K (F := F)) (Nat.pos_of_ne_zero h)
  have h0 : (K (F := F)).lev (N := 1) g none = 0 := rfl
  omega

/-- What the TensorCore carries between its steps before the SparseCores start: its arrays, and what it owes them. -/
def carried (W : Valuation τ sig (Elt F)) (c : Dev nD) : sProp (M F) :=
  iprop(StableHlo.held (c.tc : Thread nD τ) (ucRefs τ sig) W
    ∗ ∃ R, ⌜(K (F := F)).WBelow (N := 1) (T c) R 0⌝ ∗ owes (T c) ((K (F := F)).Otc (N := 1) c 0) R)

-- stated over the pipelines' table; its rows unfold only when definitions may unfold in a metavariable's type
set_option backward.isDefEq.respectTransparency.types false in
/-- A dense call as a segment of @main: entered with the arrays at `V`, left with them at what the pipeline computes. -/
def region (pd : (p : Fin 2) → (c : Dev nD) → Dat τ (Elt F) (HIx 1) ℕ UU ℕ (cfgs p) c) (p : Fin 2)
    (kit : Pipeline.LaunchFacts (nD := nD) (τ := τ) cfgs p) (V : Dev nD → Valuation τ sig (Elt F))
    (hb : ∀ c, BodyObligation (pd p c) (defs₀ (F := F)) 𝒱₀ none Set.univ)
    (ho : ∀ c t, (pd p c).owed t = (K (F := F)).Otc (N := 1) c 0) (hr : ∀ c t, (pd p c).recorded t = seen (F := F) c)
    (hs : ∀ c w, (pd p c).share w = fullShare) (hΦ : ∀ c t, (pd p c).Φ t = scopedRest (cfgs p).spec c)
    (hA : ∀ c w, (pd p c).A w = V c (Proc.devRef .tc (arrRef (cfgs p).spec w))) :
    RegionSeg (pcfgs (F := F)) adm pd none defs₀ 𝒱₀ ((K (F := F)).L (N := 1)) ((K (F := F)).lev (N := 1)) p where
  win := kit.win.to₀
  block_pos := kit.block_pos
  stage_whole := kit.stage_whole
  K := PEmpty
  osem k := k.elim
  ho := Pipeline.OwnSemFacts.none _
  hbody c := (hb c).loose
  hwaits c := Pipeline.cellsWaits_intro _ _ _ _ _ fun w s t => by
    rw [ho c t]; exact (K (F := F)).mayWait_none _ (Otc_none c)
  pre c := carried (V c) c
  post c := carried (afterRegion (pd p c) (V c)) c
  X _ := iprop(emp)
  Y _ := iprop(emp)
  Z c := StableHlo.held (c.tc : Thread nD τ) (ucRefs τ sig \ arrRefs (cfgs p).spec) (V c)
  hentry c := by
    rw [Pipeline.ownSems0_none, Pipeline.prefHeld_of_none _ rfl,
      Pipeline.arrays_held (pcfgs (F := F)) adm pd p kit.toP c (hs c) ((pd p c).arrAt · 0) (V c) (fun w => hA c w)]
    unfold carried
    rw [StableHlo.held_sub_split (c.tc : Thread nD τ) (Pipeline.arrRefs_sub_ucRefs (cfgs p).spec kit.win.arr_unscoped) (V c)]
    iintro ⟨⟨⟨Ha, Hu⟩, ⟨%R, %hR, HO⟩⟩, -, -⟩
    imodintro
    isplitl [Ha]; · iexact Ha
    isplitr; · iempintro
    isplitl [HO]
    · unfold Dat.owesAt Pipeline.owesWithin Dat.bound
      rw [ho c 0, hr c 0]
      iexists R; isplitr; · ipureintro; exact fun q hq => Or.inl (hR q hq)
      iexact HO
    isplitr; · iempintro
    iexact Hu
  hin c := by
    rw [hΦ c 0]
    iintro ⟨-, -, Hr⟩
    iexact Hr
  hout c := by
    rw [hΦ c (Fin.last _), Pipeline.ownSems0_none]
    iintro Hr
    isplitr; · iempintro
    isplitr; · iempintro
    iexact Hr
  hexit c := by
    rw [Pipeline.arrays_held (pcfgs (F := F)) adm pd p kit.toP c (hs c) ((pd p c).arrAt · (cfgs p).N) (afterRegion (pd p c) (V c))
      (fun w => (Pipeline.afterRegion_arr (pd p c) (V c) kit.win.arr_inj w).symm)]
    unfold carried
    rw [StableHlo.held_sub_split (c.tc : Thread nD τ) (Pipeline.arrRefs_sub_ucRefs (cfgs p).spec kit.win.arr_unscoped)
      (afterRegion (pd p c) (V c)), StableHlo.held_congr (c.tc : Thread nD τ) (Pipeline.afterRegion_off (pd p c) (V c) (ucRefs τ sig))]
    iintro ⟨Ha, HO, -, Hu⟩
    imodintro
    isplitl [Ha Hu]
    · isplitl [Ha]; · iexact Ha
      iexact Hu
    unfold Dat.owesAt Pipeline.owesWithin Dat.bound
    rw [ho c (Fin.last _), hr c (Fin.last _)]
    icases HO with ⟨%R, %hR, HO⟩
    iexists R; isplitr
    · ipureintro; intro q hq
      rcases hR hq with h | ⟨w, s, h⟩
      · exact h
      · rw [h]; exact le_rfl
    iexact HO

/-! ## The host operations, and the arrays after each stretch of @main -/

def ops0 : List (HloOp τ sig (Elt F)) :=
  [StableHlo.unary main_arg1 main_v0 ((transpose S3x64x4096 [2, 1, 0] · transposes_S4096x64x3_S3x64x4096_2_1_0) : (⟨S4096x64x3, .f32⟩ : BufTy).Contents (Elt F) → (⟨S3x64x4096, .f32⟩ : BufTy).Contents (Elt F)),
   StableHlo.reshape main_v0 main_v1 (rfl : (.f32 : EltTy) = .f32) shapeCasts_S3x64x4096_S3x262144,
   StableHlo.unary main_arg2 main_v2 ((transpose S2x64x4096 [2, 1, 0] · transposes_S4096x64x2_S2x64x4096_2_1_0) : (⟨S4096x64x2, .f32⟩ : BufTy).Contents (Elt F) → (⟨S2x64x4096, .f32⟩ : BufTy).Contents (Elt F)),
   StableHlo.reshape main_v2 main_v3 (rfl : (.f32 : EltTy) = .f32) shapeCasts_S2x64x4096_S2x262144,
   StableHlo.unary main_arg3 main_v4 ((transpose S2x64x4096 [2, 1, 0] · transposes_S4096x64x2_S2x64x4096_2_1_0) : (⟨S4096x64x2, .f32⟩ : BufTy).Contents (Elt F) → (⟨S2x64x4096, .f32⟩ : BufTy).Contents (Elt F)),
   StableHlo.reshape main_v4 main_v5 (rfl : (.f32 : EltTy) = .f32) shapeCasts_S2x64x4096_S2x262144,
   StableHlo.nary ![main_v1, main_v3, main_v5] main_v6 (fun u => (concatenate S7x262144 0 [⟨S3x262144, (u 0 : (⟨S3x262144, .f32⟩ : BufTy).Contents (Elt F))⟩, ⟨S2x262144, (u 1 : (⟨S2x262144, .f32⟩ : BufTy).Contents (Elt F))⟩, ⟨S2x262144, (u 2 : (⟨S2x262144, .f32⟩ : BufTy).Contents (Elt F))⟩] concatenates_S3x262144_S2x262144_S2x262144_S7x262144_d0 : (⟨S7x262144, .f32⟩ : BufTy).Contents (Elt F))),
   StableHlo.reshape main_arg7 main_v7 (rfl : (.f32 : EltTy) = .f32) shapeCasts_S256_S256x1,
   StableHlo.unary main_arg8 main_v8 ((extractStridedSlice S1x256 ![0, 0] · slices_S1x512_S1x256_0_0) : (⟨S1x512, .f32⟩ : BufTy).Contents (Elt F) → (⟨S1x256, .f32⟩ : BufTy).Contents (Elt F))]

def ops1 : List (HloOp τ sig (Elt F)) :=
  [StableHlo.unary main_arg0 main_v10 ((transpose S68x4096 [1, 0] · transposes_S4096x68_S68x4096_1_0) : (⟨S4096x68, .f32⟩ : BufTy).Contents (Elt F) → (⟨S68x4096, .f32⟩ : BufTy).Contents (Elt F)),
   StableHlo.reshape main_arg5 main_v11 (rfl : (.f32 : EltTy) = .f32) shapeCasts_S256_S256x1,
   StableHlo.unary main_arg8 main_v12 ((extractStridedSlice S1x256 ![0, 256] · slices_S1x512_S1x256_0_256) : (⟨S1x512, .f32⟩ : BufTy).Contents (Elt F) → (⟨S1x256, .f32⟩ : BufTy).Contents (Elt F)),
   StableHlo.reshape main_arg9 main_v13 (rfl : (.f32 : EltTy) = .f32) shapeCasts_S1_S1x1]

def ops2 : List (HloOp τ sig (Elt F)) :=
  [StableHlo.reshape main_v9 main_v15 (rfl : (.f32 : EltTy) = .f32) shapeCasts_S1x262144_S64x4096,
   StableHlo.reshape main_v14 main_v16 (rfl : (.f32 : EltTy) = .f32) shapeCasts_S1x4096_S4096,
   StableHlo.unary main_v6 main_v17 ((extractStridedSlice S3x262144 ![0, 0] · slices_S7x262144_S3x262144_0_0) : (⟨S7x262144, .f32⟩ : BufTy).Contents (Elt F) → (⟨S3x262144, .f32⟩ : BufTy).Contents (Elt F)),
   StableHlo.reshape main_v17 main_v18 (rfl : (.f32 : EltTy) = .f32) shapeCasts_S3x262144_S3x64x4096]

def ops3 : List (HloOp τ sig (Elt F)) :=
  [StableHlo.reshape main_v19_0 main_v20 (rfl : (.f32 : EltTy) = .f32) shapeCasts_S12288_S4096x3,
   StableHlo.reshape main_v19_1 main_v21 (rfl : (.f32 : EltTy) = .f32) shapeCasts_S262144_S4096x64,
   StableHlo.reshape main_v19_2 main_v22 (rfl : (.f32 : EltTy) = .f32) shapeCasts_S262144_S4096x64]

/-- @main is the four stretches of host operations with the three calls between them. -/
theorem main_eq (d : Dev nD) : main (F := F) d = (StableHlo.seq (ops0 (F := F)) >>= fun _ =>
    Prog.lift (.customCall (SparseCore.inner (Pipeline.entry 0)) ()) >>= fun _ => StableHlo.seq (ops1 (F := F)) >>= fun _ =>
    Prog.lift (.customCall (SparseCore.inner (Pipeline.entry 1)) ()) >>= fun _ => StableHlo.seq (ops2 (F := F)) >>= fun _ =>
    (sc (F := F)).run d 0 >>= fun _ => StableHlo.seq (ops3 (F := F)) >>= fun _ => pure ⟨⟩) := rfl

end Cert.KernelIdeal.Gen.Tile

end
-- ==== Proof.Ideal.TileRun.lean ====
module

public import proofs.«01_k».proof.Proof.Ideal.Setup
public import Idealize.ShloMosaic.Lib.WordExact

@[expose] public section

noncomputable section

namespace Cert.KernelIdeal.Gen.Tile

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
variable (d : Dev nD) {i : grid2.Coords}

/-- The thread of one tile. -/
abbrev thr (d : Dev nD) (i : grid2.Coords) : Thread nD τ := V d ((i 0).castLE hcore2) ((i 1).castLE hsub2)

/-- A tile's program runs to `Q`. -/
abbrev runs {α : Type} (d : Dev nD) (i : grid2.Coords) (p : Prog (Eff F i) α) (Q : α → sProp (M F)) : sProp (M F) :=
  wp frame (wpE (defs₀ (F := F)) 𝒱₀ (thr d i) none) Set.univ p Q

theorem read_whole {s : Shape} (m : Memref sig .scVector .vmem s .f32) (f : m.view.ty.Contents (Elt F)) :
    (m.access (.whole s)).read (Elt F) f = m.view.read (Elt F) f := by
  funext x
  show _root_.cast _ (f (m.view.emb ((Rect.whole s).emb x))) = _root_.cast _ (f (m.view.emb x))
  rw [Rect.emb_whole_apply]

theorem wp_gather {s : Shape} {α : Type} {m : Memref sig .scVector .vmem s .f32} {hl : m.view.Loads}
    {idxs : Fin s.rank → IVec S16 32} (h : InB s idxs) {X : Vec F s .f32} {q : PosShare TreeShare}
    {K : FVec F S16 .f32 → Prog (Eff F i) α} {Q : α → sProp (M F)} :
    (owns (thr d i) m q X : sProp (M F)) ⊢ (owns (thr d i) m q X -∗ runs d i (K (ld X idxs)) Q) -∗ runs d i (gather m hl idxs K) Q := by
  unfold gather runs
  rw [wp_assume_of _ _ _ _ h]
  unfold owns
  iintro ⟨%f, %hf, H⟩ Hk
  ihave H' := (Entails.of_eq (show ((m.view.loc (thr d i) ↦[m.view.set]{q} f : sProp (M F))) = ((m.access (.whole s)).loc (thr d i) ↦[m.view.set]{q} f) from rfl)) $$ H
  iapply (wp_load_rect 𝒱₀ (thr d i) none Set.univ (m := m) (r := Rect.whole s) (S := m.view.set) ((View.set_slice_rectWhole m.view).le)) $$ H'
  iintro H
  rw [read_whole, hf, ← ld_eq X idxs h]
  iapply Hk
  iexists f
  isplitr; · ipureintro; exact hf
  iexact H

theorem wp_scatter {s : Shape} {α : Type} {m : Memref sig .scVector .vmem s .f32} {hs : (m.access (.whole s)).Stores Finset.univ}
    {idxs : Fin s.rank → IVec S16 32} (h : InB s idxs) {v : FVec F S16 .f32} {X : Vec F s .f32}
    {K : Prog (Eff F i) α} {Q : α → sProp (M F)} :
    (owns (thr d i) m fullShare X : sProp (M F)) ⊢ (owns (thr d i) m fullShare (put X idxs v) -∗ runs d i K Q) -∗ runs d i (scatter m hs idxs v K) Q := by
  unfold scatter runs
  rw [wp_assume_of _ _ _ _ h]
  unfold owns
  iintro ⟨%f, %hf, H⟩ Hk
  ihave H' := (Entails.of_eq (show ((m.view.loc (thr d i) ↦[m.view.set]{fullShare} f : sProp (M F))) = ((m.access (.whole s)).loc (thr d i) ↦[m.view.set]{fullShare} f) from rfl)) $$ H
  iapply (wp_load_rect 𝒱₀ (thr d i) none Set.univ (m := m) (r := Rect.whole s) (S := m.view.set) ((View.set_slice_rectWhole m.view).le)) $$ H'
  iintro H
  iapply (wp_store 𝒱₀ (thr d i) none Set.univ (m := m) (r := Rect.whole s) (Mk := Finset.univ) (S := m.view.set)
    (by rw [View.setOn_univ]; exact (View.set_slice_rectWhole m.view).le)) $$ H
  iintro H
  rw [read_whole, hf, ← put_eq X idxs v h]
  iapply Hk
  iexists _
  isplitr
  rotate_left
  · iexact H
  · ipureintro; exact (read_whole m _).symm.trans (View.read_write_univ _ _)

/-! ## The indices stay inside their buffers -/

theorem lanes_toNat (x : S16.Idx) : (lanes x).toNat = (x 0).val := by
  have hx : (x 0).val < 16 := (x 0).isLt
  show (BitVec.ofNat 32 (0 * S16.size 0 + (x 0).val)).toNat = _
  rw [Nat.zero_mul, Nat.zero_add, BitVec.toNat_ofNat]
  exact Nat.mod_eq_of_lt (by omega)

theorem trips2 : k2_t2_loop.trips = 8 := by decide
theorem trips1 : k2_t1_loop.trips = 512 := by decide

theorem tokens_toNat (t : Fin k2_t2_loop.trips) (x : S16.Idx) : (tokens t x).toNat = 16 * t.val + (x 0).val := by
  have hx : (x 0).val < 16 := (x 0).isLt
  have ht : t.val < 8 := trips2 ▸ t.isLt
  show ((0#32 + BitVec.ofNat 32 t.val * 1#32) * 16#32 + lanes x).toNat = _
  rw [BitVec.toNat_add, lanes_toNat]
  simp only [BitVec.toNat_mul, BitVec.toNat_add, BitVec.toNat_ofNat]
  omega

theorem cleared_toNat (t : Fin k2_t1_loop.trips) (x : S16.Idx) : (cleared t x).toNat = 16 * t.val + (x 0).val := by
  have hx : (x 0).val < 16 := (x 0).isLt
  have ht : t.val < 512 := trips1 ▸ t.isLt
  show ((0#32 + BitVec.ofNat 32 t.val * 1#32) * 16#32 + lanes x).toNat = _
  rw [BitVec.toNat_add, lanes_toNat]
  simp only [BitVec.toNat_mul, BitVec.toNat_add, BitVec.toNat_ofNat]
  omega

theorem rows_toNat (t : Fin k2_t2_loop.trips) (x : S16.Idx) : (rows t x).toNat = 64 * (tokens t x).toNat := by
  have h := tokens_toNat t x
  have hx : (x 0).val < 16 := (x 0).isLt
  have ht : t.val < 8 := trips2 ▸ t.isLt
  show (tokens t x * 64#32).toNat = _
  simp only [BitVec.toNat_mul, BitVec.toNat_ofNat]
  omega

theorem rows_add_toNat (t : Fin k2_t2_loop.trips) (x : S16.Idx) {e : BitVec 32} (he : e.toNat < 64) :
    (rows t x + e).toNat = 64 * (tokens t x).toNat + e.toNat := by
  have h := tokens_toNat t x
  have hx : (x 0).val < 16 := (x 0).isLt
  have ht : t.val < 8 := trips2 ▸ t.isLt
  rw [BitVec.toNat_add, rows_toNat]
  omega

theorem act_toNat (t : Fin k2_t2_loop.trips) (x : S16.Idx) {k : ℕ} (hk : k < 3) :
    (tokens t x * 3#32 + BitVec.ofNat 32 k).toNat = 3 * (tokens t x).toNat + k := by
  have h := tokens_toNat t x
  have hx : (x 0).val < 16 := (x 0).isLt
  have ht : t.val < 8 := trips2 ▸ t.isLt
  simp only [BitVec.toNat_mul, BitVec.toNat_add, BitVec.toNat_ofNat]
  omega

theorem tokens_lt (t : Fin k2_t2_loop.trips) (x : S16.Idx) : (tokens t x).toNat < 128 := by
  have h := tokens_toNat t x
  have hx : (x 0).val < 16 := (x 0).isLt
  have ht : t.val < 8 := trips2 ▸ t.isLt
  omega

/-- Every index of a list is an expert's. -/
def Small (l : Tops F) : Prop := ∀ p ∈ l, ∀ x, (p.2 x).toNat < 64

theorem small_nil : Small ([] : Tops F) := fun _ h => nomatch h
theorem small_cons {p : FVec F S16 .f32 × IVec S16 32} {l : Tops F} : Small (p :: l) ↔ (∀ x, (p.2 x).toNat < 64) ∧ Small l :=
  List.forall_mem_cons

theorem select_lt {c : IVec S16 1} {a b : IVec S16 32} (ha : ∀ x, (a x).toNat < 64) (hb : ∀ x, (b x).toNat < 64) (x : S16.Idx) :
    (select c a b x).toNat < 64 := by
  show (if c x = 1#1 then a x else b x).toNat < 64
  split
  · exact ha x
  · exact hb x

theorem small_ins {l : Tops F} : ∀ {v : FVec F S16 .f32} {vi : IVec S16 32}, Small l → (∀ x, (vi x).toNat < 64) → Small (ins l v vi) := by
  induction l with
  | nil => intro _ _ _ _; exact small_nil
  | cons p l ih =>
    intro v vi h hv
    have h' := small_cons.mp h
    exact small_cons.mpr ⟨select_lt hv h'.1, ih h'.2 (select_lt h'.1 hv)⟩

theorem small_merge {a : Tops F} : ∀ {b : Tops F}, Small a → Small b → Small (merge a b) := by
  induction a with
  | nil => intro _ _ _; exact small_nil
  | cons p a ih =>
    intro b ha hb
    cases b with
    | nil => exact small_nil
    | cons q b => exact small_cons.mpr ⟨select_lt (small_cons.mp ha).1 (small_cons.mp hb).1, ih (small_cons.mp ha).2 (small_cons.mp hb).2⟩

theorem small_reverse {l : Tops F} (h : Small l) : Small l.reverse := fun p hp => h p (List.mem_reverse.mp hp)

theorem small_expo {mx : FVec F S16 .f32} {l : Tops F} (h : Small l) : Small (expo mx l) := by
  induction l with
  | nil => exact small_nil
  | cons p l ih => exact small_cons.mpr ⟨(small_cons.mp h).1, ih (small_cons.mp h).2⟩

theorem small_tops0 : Small (tops0 : Tops F) := by
  intro p hp x
  have : p = (broadcast S16 (Scalar.ofBits .f32 0xFF800000#32), broadcast S16 0#32) := by
    simpa [tops0] using hp
  subst this
  exact (by decide : (0#32).toNat < 64)

theorem small_listAfter {f8 : Vec F S64x128 .f32} {toks : IVec S16 32} {cb : FVec F S16 .f32} {es : List (BitVec 32)} :
    ∀ {l : Tops F}, (∀ e ∈ es, e.toNat < 64) → Small l → Small (listAfter f8 toks cb es l) := by
  induction es with
  | nil => intro l _ h; exact h
  | cons e es ih =>
    intro l he h
    exact ih (fun e' h' => he e' (List.mem_cons_of_mem _ h')) (small_ins h fun _ => he e List.mem_cons_self)

theorem low_lt : ∀ e ∈ lowExperts, e.toNat < 64 := by
  intro e he
  have h := List.all_eq_true.mp (show (lowExperts.all fun e => decide (e.toNat < 64)) = true from rfl) e he
  exact of_decide_eq_true h
theorem high_lt : ∀ e ∈ highExperts, e.toNat < 64 := by
  intro e he
  have h := List.all_eq_true.mp (show (highExperts.all fun e => decide (e.toNat < 64)) = true from rfl) e he
  exact of_decide_eq_true h

theorem inB_two {a b : IVec S16 32} (ha : ∀ x, (a x).toNat < 64) (hb : ∀ x, (b x).toNat < 128) : InB S64x128 ![a, b] := by
  intro k x
  match k with
  | 0 => exact ha x
  | 1 => exact hb x

theorem inB_three {c : BitVec 32} {a b : IVec S16 32} (hc : c.toNat < 3) (ha : ∀ x, (a x).toNat < 64) (hb : ∀ x, (b x).toNat < 128) :
    InB S3x64x128 ![broadcast S16 c, a, b] := by
  intro k x
  match k with
  | 0 => exact hc
  | 1 => exact ha x
  | 2 => exact hb x

theorem inB_row (t : Fin k2_t2_loop.trips) {a : IVec S16 32} (ha : ∀ x, (a x).toNat < 64) : InB S8192 ![addi (rows t) a] := by
  intro k x
  obtain rfl : k = 0 := Subsingleton.elim _ _
  have h := rows_add_toNat t x (ha x)
  have h' := tokens_lt t x
  have h2 := ha x
  show (rows t x + a x).toNat < 8192
  omega

theorem inB_cleared (t : Fin k2_t1_loop.trips) : InB S8192 ![cleared t] := by
  intro k x
  obtain rfl : k = 0 := Subsingleton.elim _ _
  have h := cleared_toNat t x
  have hx : (x 0).val < 16 := (x 0).isLt
  have ht : t.val < 512 := trips1 ▸ t.isLt
  show (cleared t x).toNat < 8192
  omega

theorem inB_tokens (t : Fin k2_t2_loop.trips) : InB S128 ![tokens t] := by
  intro k x
  obtain rfl : k = 0 := Subsingleton.elim _ _
  exact tokens_lt t x

theorem inB_act (t : Fin k2_t2_loop.trips) {k : ℕ} (hk : k < 3) :
    InB S384 ![addi (muli (tokens t) (broadcast S16 3#32)) (broadcast S16 (BitVec.ofNat 32 k))] := by
  intro j x
  obtain rfl : j = 0 := Subsingleton.elim _ _
  have h := act_toNat t x hk
  have h' := tokens_lt t x
  show (tokens t x * 3#32 + BitVec.ofNat 32 k).toNat < 384
  omega

theorem inB_act0 (t : Fin k2_t2_loop.trips) : InB S384 ![muli (tokens t) (broadcast S16 3#32)] := by
  intro j x
  obtain rfl : j = 0 := Subsingleton.elim _ _
  have h := act_toNat t x (k := 0) (by decide)
  have h' := tokens_lt t x
  show (tokens t x * 3#32).toNat < 384
  have e : (tokens t x * 3#32 + BitVec.ofNat 32 0) = tokens t x * 3#32 := BitVec.add_zero _
  rw [e] at h
  omega

/-! ## The parts of one vector of tokens -/

section Parts

variable {arg8 : Memref sig .scVector .vmem S64x128 .f32} {arg9 : Memref sig .scVector .vmem S128 .f32}
  {arg10 : Memref sig .scVector .vmem S3x64x128 .f32} {arg11 : Memref sig .scVector .vmem S384 .f32}
  {arg12 : Memref sig .scVector .vmem S8192 .f32} {arg13 : Memref sig .scVector .vmem S8192 .f32}
  {α : Type}

theorem wp_experts (t : Fin k2_t2_loop.trips) {cb : FVec F S16 .f32} {f8 : Vec F S64x128 .f32} {q : PosShare TreeShare}
    {K : Tops F → Prog (Eff F i) α} {Q : α → sProp (M F)} (es : List (BitVec 32)) :
    ∀ {l : Tops F} {g : Vec F S8192 .f32}, (∀ e ∈ es, e.toNat < 64) →
    (iprop(owns (thr d i) arg8 q f8 ∗ owns (thr d i) arg13 fullShare g) : sProp (M F))
      ⊢ ((owns (thr d i) arg8 q f8 ∗ owns (thr d i) arg13 fullShare (logitsAfter f8 (tokens t) cb (rows t) es g))
            -∗ runs d i (K (listAfter f8 (tokens t) cb es l)) Q)
        -∗ runs d i (experts arg8 arg13 (tokens t) cb (rows t) es l K) Q := by
  induction es with
  | nil =>
    intro l g _
    iintro H Hk
    iapply Hk
    iexact H
  | cons e es ih =>
    intro l g he
    have he0 : e.toNat < 64 := he e List.mem_cons_self
    unfold experts
    iintro ⟨H8, H13⟩ Hk
    iapply (wp_gather d (inB_two (a := broadcast S16 e) (fun _ => he0) (tokens_lt t))) $$ H8
    iintro H8
    iapply (wp_scatter d (inB_row t (a := broadcast S16 e) fun _ => he0)) $$ H13
    iintro H13
    rw [insK_eq]
    iapply (ih fun e' h' => he e' (List.mem_cons_of_mem _ h')) $$ [H8 H13]
    · isplitl [H8]; · iexact H8
      iexact H13
    iintro H
    iapply Hk
    iexact H

theorem wp_gates (t : Fin k2_t2_loop.trips) {rz : FVec F S16 .f32} {f10 : Vec F S3x64x128 .f32} {q : PosShare TreeShare}
    {K : FVec F S16 .f32 → FVec F S16 .f32 → FVec F S16 .f32 → Prog (Eff F i) α} {Q : α → sProp (M F)} (l : Tops F) :
    ∀ {a0 a1 a2 : FVec F S16 .f32} {g : Vec F S8192 .f32}, Small l →
    (iprop(owns (thr d i) arg10 q f10 ∗ owns (thr d i) arg12 fullShare g) : sProp (M F))
      ⊢ ((owns (thr d i) arg10 q f10 ∗ owns (thr d i) arg12 fullShare (gatesAfter (rows t) rz l g))
            -∗ runs d i (K (actAfter f10 (tokens t) rz 0#32 l a0) (actAfter f10 (tokens t) rz 1#32 l a1) (actAfter f10 (tokens t) rz 2#32 l a2)) Q)
        -∗ runs d i (gates arg10 arg12 (tokens t) (rows t) rz K l a0 a1 a2) Q := by
  induction l with
  | nil =>
    intro a0 a1 a2 g _
    iintro H Hk
    iapply Hk
    iexact H
  | cons p l ih =>
    intro a0 a1 a2 g hl
    obtain ⟨v, vi⟩ := p
    have hv : ∀ x, (vi x).toNat < 64 := (small_cons.mp hl).1
    unfold gates
    iintro ⟨H10, H12⟩ Hk
    iapply (wp_scatter d (inB_row t hv)) $$ H12
    iintro H12
    iapply (wp_gather d (inB_three (c := 0#32) (by decide) hv (tokens_lt t))) $$ H10
    iintro H10
    iapply (wp_gather d (inB_three (c := 1#32) (by decide) hv (tokens_lt t))) $$ H10
    iintro H10
    iapply (wp_gather d (inB_three (c := 2#32) (by decide) hv (tokens_lt t))) $$ H10
    iintro H10
    iapply (ih (small_cons.mp hl).2) $$ [H10 H12]
    · isplitl [H10]; · iexact H10
      iexact H12
    iintro H
    iapply Hk
    iexact H

theorem wp_actions (t : Fin k2_t2_loop.trips) {a : Vec F S384 .f32} {a0 a1 a2 : FVec F S16 .f32} {Q : PUnit → sProp (M F)} :
    (owns (thr d i) arg11 fullShare a : sProp (M F))
      ⊢ (owns (thr d i) arg11 fullShare (put (put (put a ![muli (tokens t) (broadcast S16 3#32)] a0)
            ![addi (muli (tokens t) (broadcast S16 3#32)) (broadcast S16 1#32)] a1)
            ![addi (muli (tokens t) (broadcast S16 3#32)) (broadcast S16 2#32)] a2) -∗ Q ⟨⟩)
        -∗ runs d i (actions arg11 (tokens t) a0 a1 a2) Q := by
  unfold actions
  iintro H Hk
  iapply (wp_scatter d (inB_act0 t)) $$ H
  iintro H
  iapply (wp_scatter d (inB_act t (k := 1) (by decide))) $$ H
  iintro H
  iapply (wp_scatter d (inB_act t (k := 2) (by decide))) $$ H
  iintro H
  unfold runs
  rw [wp_ret]; imodintro
  iapply Hk
  iexact H

/-- What follows the two lists. -/
def rest (arg10 : Memref sig .scVector .vmem S3x64x128 .f32) (arg11 : Memref sig .scVector .vmem S384 .f32)
    (arg12 : Memref sig .scVector .vmem S8192 .f32) (t : Fin k2_t2_loop.trips) (a b : Tops F) : Prog (Eff F i) PUnit :=
  mergeK a b.reverse fun w => headK a fun m _ => headK b fun m' _ => expoK (maximumf m m') w fun w =>
  headK w fun z0 ws => totalK z0 ws fun z =>
  gates arg10 arg12 (tokens t) (rows t)
    (divf (broadcast S16 (Scalar.ofBits .f32 0x3F800000#32)) z) (actions arg11 (tokens t)) w zeros zeros zeros

theorem rest_eq (t : Fin k2_t2_loop.trips) (a b : Tops F) : rest (i := i) arg10 arg11 arg12 t a b
    = gates arg10 arg12 (tokens t) (rows t)
      (divf (broadcast S16 (Scalar.ofBits .f32 0x3F800000#32))
        (total (top (expo (maximumf (top a) (top b)) (merge a b.reverse))) (expo (maximumf (top a) (top b)) (merge a b.reverse)).tail))
      (actions arg11 (tokens t)) (expo (maximumf (top a) (top b)) (merge a b.reverse)) zeros zeros zeros := by
  unfold rest
  simp only [mergeK_eq, headK_eq, expoK_eq, totalK_eq]

theorem rest_chosen (t : Fin k2_t2_loop.trips) (f8 : Vec F S64x128 .f32) (f9 : Vec F S128 .f32) :
    rest (i := i) arg10 arg11 arg12 t (lowTops f8 f9 t) (highTops f8 f9 t)
    = gates arg10 arg12 (tokens t) (rows t) (invSum f8 f9 t) (actions arg11 (tokens t)) (weights f8 f9 t) zeros zeros zeros := by
  rw [rest_eq]; unfold invSum weights chosen; rfl

theorem lowTops_def (f8 : Vec F S64x128 .f32) (f9 : Vec F S128 .f32) (t : Fin k2_t2_loop.trips) :
    lowTops f8 f9 t = listAfter f8 (tokens t) (ld f9 ![tokens t]) lowExperts tops0 := rfl
theorem highTops_def (f8 : Vec F S64x128 .f32) (f9 : Vec F S128 .f32) (t : Fin k2_t2_loop.trips) :
    highTops f8 f9 t = listAfter f8 (tokens t) (ld f9 ![tokens t]) highExperts tops0 := rfl

theorem small_weights (t : Fin k2_t2_loop.trips) (f8 : Vec F S64x128 .f32) (f9 : Vec F S128 .f32) : Small (weights f8 f9 t) :=
  small_expo (small_merge (small_listAfter low_lt small_tops0) (small_reverse (small_listAfter high_lt small_tops0)))

theorem tile_eq (t : Fin k2_t2_loop.trips) : tile (F := F) (i := i) arg8 arg9 arg10 arg11 arg12 arg13 t
    = gather (F := F) arg9 (View.loads_vmem h_S128) ![tokens t] fun cb =>
      experts arg8 arg13 (tokens t) cb (rows t) lowExperts tops0 fun a =>
      experts arg8 arg13 (tokens t) cb (rows t) highExperts tops0 fun b => rest arg10 arg11 arg12 t a b := rfl

attribute [local irreducible] weights invSum lowTops highTops listAfter logitsAfter gatesAfter actAfter gates experts actions

/-- One vector of tokens. -/
theorem wp_tile (t : Fin k2_t2_loop.trips) {f8 : Vec F S64x128 .f32} {f9 : Vec F S128 .f32} {f10 : Vec F S3x64x128 .f32}
    {a : Vec F S384 .f32} {g lg : Vec F S8192 .f32} {Q : PUnit → sProp (M F)} :
    (iprop(owns (thr d i) arg8 fullShare f8 ∗ owns (thr d i) arg9 fullShare f9 ∗ owns (thr d i) arg10 fullShare f10
        ∗ owns (thr d i) arg11 fullShare a ∗ owns (thr d i) arg12 fullShare g ∗ owns (thr d i) arg13 fullShare lg) : sProp (M F))
      ⊢ ((owns (thr d i) arg8 fullShare f8 ∗ owns (thr d i) arg9 fullShare f9 ∗ owns (thr d i) arg10 fullShare f10
        ∗ owns (thr d i) arg11 fullShare (stepA f8 f9 f10 t a) ∗ owns (thr d i) arg12 fullShare (stepG f8 f9 t g)
        ∗ owns (thr d i) arg13 fullShare (stepL f8 f9 t lg)) -∗ Q ⟨⟩)
        -∗ runs d i (tile arg8 arg9 arg10 arg11 arg12 arg13 t) Q := by
  rw [tile_eq]
  iintro ⟨H8, H9, H10, H11, H12, H13⟩ Hk
  iapply (wp_gather d (inB_tokens t)) $$ H9
  iintro H9
  iapply (wp_experts d t lowExperts low_lt) $$ [H8 H13]
  · isplitl [H8]; · iexact H8
    iexact H13
  iintro ⟨H8, H13⟩
  iapply (wp_experts d t highExperts high_lt) $$ [H8 H13]
  · isplitl [H8]; · iexact H8
    iexact H13
  iintro ⟨H8, H13⟩
  rw [show listAfter f8 (tokens t) (ld f9 ![tokens t]) lowExperts tops0 = lowTops f8 f9 t from (lowTops_def f8 f9 t).symm,
    show listAfter f8 (tokens t) (ld f9 ![tokens t]) highExperts tops0 = highTops f8 f9 t from (highTops_def f8 f9 t).symm, rest_chosen]
  iapply (wp_gates d t (weights f8 f9 t) (small_weights t f8 f9)) $$ [H10 H12]
  · isplitl [H10]; · iexact H10
    iexact H12
  iintro ⟨H10, H12⟩
  iapply (wp_actions d t) $$ H11
  iintro H11
  iapply Hk
  isplitl [H8]; · iexact H8
  isplitl [H9]; · iexact H9
  isplitl [H10]; · iexact H10
  isplitl [H11]; · iexact H11
  isplitl [H12]; · iexact H12
  iexact H13

end Parts

end Cert.KernelIdeal.Gen.Tile

end
-- ==== Proof.Ideal.TileBody.lean ====
module

public import proofs.«01_k».proof.Proof.Ideal.TileRun

@[expose] public section

noncomputable section

namespace Cert.KernelIdeal.Gen.Tile

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
variable (d : Dev nD) {i : grid2.Coords}

/-- A tile's debts, its waits recorded beyond `W` all at the index none. -/
def owing (d : Dev nD) (i : grid2.Coords) (O : CellTallies nD τ sig (HIx 1)) (W : Waits sig (HIx 1)) : sProp (M F) :=
  iprop(∃ W', ⌜∀ p ∈ W', p ∈ W ∨ p.2 = none⌝ ∗ owes (thr d i) O W')

theorem owing_intro {O : CellTallies nD τ sig (HIx 1)} {W : Waits sig (HIx 1)} :
    (owes (thr d i) O W : sProp (M F)) ⊢ owing d i O W := by
  unfold owing
  iintro H
  iexists W
  isplitr; · ipureintro; exact fun p h => .inl h
  iexact H

/-- A copy and the wait for it: the destination's elements rewritten, everything else back. -/
theorem wp_copy {α : Type} {sp sp' : Space} {s : Shape} {sem : DmaSems sig S_}
    {src : Memref sig .scVector sp s .f32} {dst : Memref sig .scVector sp' s .f32}
    {hs : src.view.WordExact} {hd : dst.view.WordExact}
    {ht : DmaTarget.Typed (τ := τ) (nD := nD) (p := .scVector ((i 0).castLE hcore2) ((i 1).castLE hsub2)) sp (.dma sem.sem) (.here dst)}
    {O : CellTallies nD τ sig (HIx 1)} {W : Waits sig (HIx 1)}
    {Ss : Finset (Idx (src.view.loc (thr d i)))} {Sd : Finset (Idx (dst.view.loc (thr d i)))} {q : PosShare TreeShare}
    {fs : Buf (Elt F) (src.view.loc (thr d i))} {fd : Buf (Elt F) (dst.view.loc (thr d i))}
    {K : Prog (Eff F i) α} {Q : α → sProp (M F)}
    (hn : 0 < s.numel) (hSs : src.view.set ⊆ Ss) (hSd : dst.view.set ⊆ Sd) :
    (iprop(Transfers.MayWaits (thr d i) (none : HIx 1) O ∗ (src.view.loc (thr d i) ↦[Ss]{q} fs) ∗ (dst.view.loc (thr d i) ↦[Sd]{fullShare} fd)
        ∗ semVal (thr d i, .dma sem.sem) 0 ∗ owing d i O W) : sProp (M F))
      ⊢ (((src.view.loc (thr d i) ↦[Ss]{q} fs)
            ∗ (dst.view.loc (thr d i) ↦[Sd]{fullShare} (dst.view.write (Elt F) fd (src.view.read (Elt F) fs) Finset.univ))
            ∗ semVal (thr d i, .dma sem.sem) 0 ∗ owing d i O W) -∗ runs d i K Q)
        -∗ runs d i (copy sem src dst hs hd ht K) Q := by
  unfold copy runs owing
  iintro ⟨#Hmw, Hs, Hd, Hv, %W', %hW', HO⟩ Hk
  ihave Hs' := (pointsTo_split_subset (ℓ := src.view.loc (thr d i)) hSs).1 $$ Hs
  icases Hs' with ⟨Hs, Hrest⟩
  iapply (Transfers.wp_dmaLocal EC 𝒱₀ (thr d i) none (src := src) (via := ReadAs.same) (dst := dst) (sm := .dma sem.sem) (none : HIx 1)
      (dst.view.amount (.dma sem.sem)) rfl (View.amount_pos _ _ hn) hSd) $$ [Hs Hd Hv]
  · isplitl [Hs]; · iexact Hs
    isplitl [Hd]; · iexact Hd
    iexact Hv
  iintro Hf
  iapply (Transfers.wp_waitLocalO EC 𝒱₀ (thr d i) none (none : HIx 1) (N := dst.view.amount (.dma sem.sem)) rfl) $$ [Hf HO]
  · isplitl [Hf]; · iexact Hf
    isplitl [HO]; · iexact HO
    iapply (Transfers.MayWaits.elim (SemLoc.dma sem.sem)) $$ Hmw
  iintro ⟨⟨Hd, Hs⟩, Hv, HO⟩
  ihave Hs' := (pointsTo_split_subset (ℓ := src.view.loc (thr d i)) hSs).2 $$ [Hs Hrest]
  · isplitl [Hs] <;> iassumption
  iapply Hk
  isplitl [Hs']; · iexact Hs'
  isplitl [Hd]; · iexact Hd
  isplitl [Hv]; · iexact Hv
  iexists _
  isplitr
  rotate_left
  · iexact HO
  · ipureintro
    intro p hp
    rcases Finset.mem_insert.mp hp with rfl | hp
    · exact .inr rfl
    · exact hW' p hp

end Cert.KernelIdeal.Gen.Tile

end
-- ==== Proof.Ideal.Lane.lean ====
module

public import proofs.«01_k».proof.Proof.Ideal.TileRun

@[expose] public section

noncomputable section

namespace Cert.KernelIdeal.Gen.Tile

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## One token's lists -/

/-- A list of values beside their indices, of one token. -/
abbrev TopsS (F : FTy → Type) := List (F .f32 × BitVec 32)

def insS : TopsS F → F .f32 → BitVec 32 → TopsS F
  | [], _, _ => []
  | (m, mi) :: l, v, vi =>
    (Scalar.select (FloatOps.cmpf .ogt v m) v m, Scalar.select (FloatOps.cmpf .ogt v m) vi mi) ::
      insS l (Scalar.select (FloatOps.cmpf .ogt v m) m v) (Scalar.select (FloatOps.cmpf .ogt v m) mi vi)

def mergeS : TopsS F → TopsS F → TopsS F
  | (m, mi) :: a, (n, ni) :: b =>
    (Scalar.select (FloatOps.cmpf .oge m n) m n, Scalar.select (FloatOps.cmpf .oge m n) mi ni) :: mergeS a b
  | _, _ => []

def expoS (mx : F .f32) : TopsS F → TopsS F
  | [] => []
  | (v, vi) :: l => (FloatOps.exp (FloatOps.subf v mx), vi) :: expoS mx l

def totalS (z : F .f32) : TopsS F → F .f32
  | [] => z
  | (v, _) :: l => totalS (FloatOps.addf z v) l

/-- Minus infinity, zero and one. -/
def ninf : F .f32 := Scalar.ofBits .f32 0xFF800000#32
def fzero : F .f32 := Scalar.ofBits .f32 0x00000000#32
def fone : F .f32 := Scalar.ofBits .f32 0x3F800000#32

def topS : TopsS F → F .f32
  | [] => ninf
  | (v, _) :: _ => v

def tops0S : TopsS F :=
  let a := (ninf, 0#32)
  [a, a, a, a, a, a, a, a]

def listS (lg : BitVec 32 → F .f32) (es : List (BitVec 32)) (l : TopsS F) : TopsS F :=
  es.foldl (fun l e => insS l (lg e) e) l

/-- The two halves' lists, the weights of the chosen, one over their sum. -/
def lowS (lg : BitVec 32 → F .f32) : TopsS F := listS lg lowExperts tops0S
def highS (lg : BitVec 32 → F .f32) : TopsS F := listS lg highExperts tops0S
def weightsS (lg : BitVec 32 → F .f32) : TopsS F :=
  expoS (FloatOps.maximumf (topS (lowS lg)) (topS (highS lg))) (mergeS (lowS lg) (highS lg).reverse)
def invS (lg : BitVec 32 → F .f32) : F .f32 := FloatOps.divf fone (totalS (topS (weightsS lg)) (weightsS lg).tail)

/-- A token's gate of expert `e`. -/
def gateS (lg : BitVec 32 → F .f32) (e : ℕ) : F .f32 :=
  (weightsS lg).foldl (fun g p => if p.2.toNat = e then FloatOps.mulf p.1 (invS lg) else g) fzero

/-- A token's product with the action values `q`. -/
def actS (lg q : BitVec 32 → F .f32) : F .f32 :=
  (weightsS lg).foldl (fun a p => FloatOps.addf a (FloatOps.mulf (FloatOps.mulf p.1 (invS lg)) (q p.2))) fzero

/-! ## A lane of the sixteen -/

def lane (x : S16.Idx) (l : Tops F) : TopsS F := l.map fun p => (p.1 x, p.2 x)

theorem lane_ins (x : S16.Idx) (l : Tops F) : ∀ v vi, lane x (ins l v vi) = insS (lane x l) (v x) (vi x) := by
  induction l with
  | nil => intro _ _; rfl
  | cons p l ih => intro v vi; exact congrArg _ (ih _ _)

theorem lane_merge (x : S16.Idx) (a : Tops F) : ∀ b, lane x (merge a b) = mergeS (lane x a) (lane x b) := by
  induction a with
  | nil => intro b; rfl
  | cons p a ih =>
    intro b
    cases b with
    | nil => rfl
    | cons q b => exact congrArg _ (ih _)

theorem lane_expo (x : S16.Idx) (mx : FVec F S16 .f32) (l : Tops F) : lane x (expo mx l) = expoS (mx x) (lane x l) := by
  induction l with
  | nil => rfl
  | cons p l ih => exact congrArg _ ih

theorem lane_total (x : S16.Idx) (l : Tops F) : ∀ z, total z l x = totalS (z x) (lane x l) := by
  induction l with
  | nil => intro _; rfl
  | cons p l ih => intro z; exact ih _

theorem lane_top (x : S16.Idx) (l : Tops F) : top l x = topS (lane x l) := by cases l <;> rfl
theorem lane_tail (x : S16.Idx) (l : Tops F) : lane x l.tail = (lane x l).tail := by cases l <;> rfl
theorem lane_reverse (x : S16.Idx) (l : Tops F) : lane x l.reverse = (lane x l).reverse := by
  unfold lane; rw [List.map_reverse]

theorem lane_listAfter (x : S16.Idx) (f8 : Vec F S64x128 .f32) (toks : IVec S16 32) (cb : FVec F S16 .f32) (es : List (BitVec 32)) :
    ∀ l, lane x (listAfter f8 toks cb es l) = listS (fun e => logit f8 toks cb e x) es (lane x l) := by
  induction es with
  | nil => intro _; rfl
  | cons e es ih =>
    intro l
    refine (ih _).trans ?_
    show listS _ es (lane x (ins l _ _)) = listS _ es _
    rw [lane_ins]
    rfl

theorem lane_weights (x : S16.Idx) (f8 : Vec F S64x128 .f32) (f9 : Vec F S128 .f32) (t : Fin k2_t2_loop.trips) :
    lane x (weights f8 f9 t) = weightsS fun e => logit f8 (tokens t) (ctxOf f9 t) e x := by
  unfold weights chosen lowTops highTops
  rw [lane_expo, lane_merge, lane_reverse, lane_listAfter, lane_listAfter]
  show expoS (FloatOps.maximumf (top (listAfter f8 (tokens t) (ctxOf f9 t) lowExperts tops0) x) (top (listAfter f8 (tokens t) (ctxOf f9 t) highExperts tops0) x)) _ = _
  rw [lane_top, lane_top, lane_listAfter, lane_listAfter]
  rfl

theorem lane_invSum (x : S16.Idx) (f8 : Vec F S64x128 .f32) (f9 : Vec F S128 .f32) (t : Fin k2_t2_loop.trips) :
    invSum f8 f9 t x = invS fun e => logit f8 (tokens t) (ctxOf f9 t) e x := by
  unfold invSum invS
  show FloatOps.divf fone (total (top (weights f8 f9 t)) (weights f8 f9 t).tail x) = _
  rw [lane_total, lane_top, lane_tail, lane_weights]

/-! ## Scatters at distinct places -/

section Put
variable {N : ℕ}

/-- Lane `k`, and one lane's write. -/
def lk (k : Fin 16) : S16.Idx := Shape.ofLane (d := ![16]) k
def putStep {s : Shape} (a : S16.Idx → s.Idx) (v : FVec F S16 .f32) (g : Vec F s .f32) (k : Fin 16) : Vec F s .f32 :=
  fun j => if ∀ b, (j b).val = (a (lk k) b).val then v (lk k) else g j

theorem put_foldl {s : Shape} (f : Vec F s .f32) (idxs : Fin s.rank → IVec S16 32) (v : FVec F S16 .f32) (h : InB s idxs) :
    put f idxs v = (List.finRange 16).foldl (putStep (idxAt idxs h) v) f := by
  rw [put_eq f idxs v h]
  show List.foldl _ f (List.finRange 16) = _
  congr 1
  funext g k
  refine (if_pos rfl).trans ?_
  funext j
  unfold putStep
  simp only [Bool.false_eq_true, if_false]
  congr

theorem put_fold {s : Shape} (a : S16.Idx → s.Idx) (v : FVec F S16 .f32) (j : s.Idx) (l : List (Fin 16)) :
    ∀ f : Vec F s .f32,
    ((∀ k ∈ l, a (lk k) ≠ j) → l.foldl (putStep a v) f j = f j)
    ∧ ∀ w, (∃ k ∈ l, a (lk k) = j) → (∀ k ∈ l, a (lk k) = j → v (lk k) = w) → l.foldl (putStep a v) f j = w := by
  induction l with
  | nil => exact fun f => ⟨fun _ => rfl, fun w ⟨k, h, _⟩ => nomatch h⟩
  | cons k l ih =>
    intro f
    have heq : ∀ k, (∀ b, (j b).val = (a (lk k) b).val) ↔ a (lk k) = j :=
      fun k => ⟨fun h => funext fun b => Fin.ext (h b).symm, fun h b => by rw [h]⟩
    rw [List.foldl_cons]
    refine ⟨fun h => ?_, fun w hw hall => ?_⟩
    · rw [(ih _).1 fun k' hk' => h k' (List.mem_cons_of_mem _ hk')]
      exact if_neg fun hk => h k List.mem_cons_self ((heq k).mp hk)
    · by_cases hl : ∃ k' ∈ l, a (lk k') = j
      · exact (ih _).2 w hl fun k' hk' => hall k' (List.mem_cons_of_mem _ hk')
      · rw [(ih _).1 fun k' hk' e => hl ⟨k', hk', e⟩]
        obtain ⟨k', hk', e⟩ := hw
        have hkk : k' = k := by
          rcases List.mem_cons.mp hk' with h | h
          · exact h
          · exact absurd ⟨k', h, e⟩ hl
        subst hkk
        unfold putStep
        rw [if_pos ((heq k').mpr e)]
        exact hall k' List.mem_cons_self e

/-- A scatter into a line of places: where no lane points, nothing; where lanes point that agree, their value. -/
theorem put_miss (f : Vec F ⟨1, ![N]⟩ .f32) (a : IVec S16 32) (v : FVec F S16 .f32) (h : InB ⟨1, ![N]⟩ ![a]) (j : Shape.Idx ⟨1, ![N]⟩)
    (hm : ∀ x, (a x).toNat ≠ (j 0).val) : put f ![a] v j = f j := by
  rw [put_foldl f _ v h]
  exact (put_fold (idxAt ![a] h) v j (List.finRange 16) f).1 fun k _ e =>
    hm (lk k) (show (idxAt (s := ⟨1, ![N]⟩) ![a] h (lk k) 0).val = _ from congrArg (fun z : Shape.Idx ⟨1, ![N]⟩ => (z 0).val) e)

theorem put_hit (f : Vec F ⟨1, ![N]⟩ .f32) (a : IVec S16 32) (v : FVec F S16 .f32) (h : InB ⟨1, ![N]⟩ ![a]) (j : Shape.Idx ⟨1, ![N]⟩)
    (x : S16.Idx) (hx : (a x).toNat = (j 0).val) (hu : ∀ y, (a y).toNat = (j 0).val → y = x) : put f ![a] v j = v x := by
  rw [put_foldl f _ v h]
  have hl : ∀ y : S16.Idx, lk (y 0) = y := fun y => funext fun b => by
    obtain rfl : b = 0 := Subsingleton.elim _ _
    rfl
  refine (put_fold (idxAt ![a] h) v j (List.finRange 16) f).2 _ ⟨x 0, List.mem_finRange _, ?_⟩ fun k _ e => ?_
  · rw [hl]
    funext b
    obtain rfl : b = 0 := Subsingleton.elim _ _
    exact Fin.ext hx
  · rw [hu (lk k) (show (idxAt (s := ⟨1, ![N]⟩) ![a] h (lk k) 0).val = _ from congrArg (fun z : Shape.Idx ⟨1, ![N]⟩ => (z 0).val) e)]

end Put

/-- Lane number `n` of the sixteen. -/
def laneOf (n : ℕ) : S16.Idx := fun a => ⟨n % 16, by
  obtain rfl : a = 0 := Subsingleton.elim _ _
  exact Nat.mod_lt _ (by decide)⟩

theorem laneOf_val (n : ℕ) : ((laneOf n) 0).val = n % 16 := rfl
theorem eq_laneOf {x : S16.Idx} {n : ℕ} (h : (x 0).val = n % 16) : x = laneOf n := funext fun a => by
  obtain rfl : a = 0 := Subsingleton.elim _ _
  exact Fin.ext h

theorem put_row (g : Vec F S8192 .f32) (t : Fin k2_t2_loop.trips) (vi : IVec S16 32) (v : FVec F S16 .f32) (hv : ∀ x, (vi x).toNat < 64)
    (j : S8192.Idx) :
    put g ![addi (rows t) vi] v j
      = if (j 0).val / 64 / 16 = t.val ∧ (vi (laneOf ((j 0).val / 64))).toNat = (j 0).val % 64 then v (laneOf ((j 0).val / 64)) else g j := by
  have haddr : ∀ x, (addi (rows t) vi x).toNat = 64 * (16 * t.val + (x 0).val) + (vi x).toNat := fun x => by
    rw [← tokens_toNat]; exact rows_add_toNat t x (hv x)
  have key : ∀ x, (addi (rows t) vi x).toNat = (j 0).val → x = laneOf ((j 0).val / 64) ∧ (j 0).val / 64 / 16 = t.val ∧ (vi x).toNat = (j 0).val % 64 := fun x e => by
    have hx : (x 0).val < 16 := (x 0).isLt
    have h2 := hv x
    rw [haddr] at e
    refine ⟨eq_laneOf ?_, ?_, ?_⟩ <;> omega
  split
  · rename_i h
    refine put_hit (N := 8192) g _ v (inB_row t hv) j _ ?_ fun y e => (key y e).1
    rw [haddr, laneOf_val, h.2]
    have h1 := h.1
    omega
  · rename_i h
    exact put_miss (N := 8192) g _ v (inB_row t hv) j fun x e => h (by
      obtain ⟨h1, h2, h3⟩ := key x e
      exact ⟨h2, h1 ▸ h3⟩)

theorem put_cleared (g : Vec F S8192 .f32) (t : Fin k2_t1_loop.trips) (v : FVec F S16 .f32) (j : S8192.Idx) :
    put g ![cleared t] v j = if (j 0).val / 16 = t.val then v (laneOf (j 0).val) else g j := by
  have key : ∀ x, (cleared t x).toNat = (j 0).val → x = laneOf (j 0).val ∧ (j 0).val / 16 = t.val := fun x e => by
    have hx : (x 0).val < 16 := (x 0).isLt
    rw [cleared_toNat] at e
    refine ⟨eq_laneOf ?_, ?_⟩ <;> omega
  split
  · rename_i h
    refine put_hit (N := 8192) g _ v (inB_cleared t) j _ ?_ fun y e => (key y e).1
    rw [cleared_toNat, laneOf_val]
    omega
  · rename_i h
    exact put_miss (N := 8192) g _ v (inB_cleared t) j fun x e => h (key x e).2

theorem put_act (g : Vec F S384 .f32) (t : Fin k2_t2_loop.trips) (k : ℕ) (a : IVec S16 32) (hk : k < 3)
    (ha : ∀ x, (a x).toNat = 3 * (tokens t x).toNat + k) (v : FVec F S16 .f32)
    (j : S384.Idx) :
    put g ![a] v j
      = if (j 0).val / 3 / 16 = t.val ∧ (j 0).val % 3 = k then v (laneOf ((j 0).val / 3)) else g j := by
  have hB : InB S384 ![a] := fun b x => by
    obtain rfl : b = 0 := Subsingleton.elim _ _
    have h1 := tokens_lt t x
    show (a x).toNat < 384
    rw [ha]; omega
  have key : ∀ x, (a x).toNat = (j 0).val → x = laneOf ((j 0).val / 3) ∧ (j 0).val / 3 / 16 = t.val ∧ (j 0).val % 3 = k := fun x e => by
    have hx : (x 0).val < 16 := (x 0).isLt
    rw [ha, tokens_toNat] at e
    refine ⟨eq_laneOf ?_, ?_, ?_⟩ <;> omega
  split
  · rename_i h
    refine put_hit (N := 384) g _ v hB j _ ?_ fun y e => (key y e).1
    rw [ha, tokens_toNat, laneOf_val]
    omega
  · rename_i h
    exact put_miss (N := 384) g _ v hB j fun x e => h (key x e).2

/-- A loop that changes each place at one trip only. -/
theorem after_closed {N : ℕ} {J β : Type} (step : Fin N → (J → β) → J → β) (p : J → ℕ) (w : J → β → β)
    (hs : ∀ t g j, step t g j = if p j = t.val then w j (g j) else g j) (g : J → β) (j : J) (n : ℕ) (hn : n ≤ N) :
    after step g n j = if p j < n then w j (g j) else g j := by
  induction n with
  | zero => rfl
  | succ n ih =>
    have hn' : n < N := hn
    show (if h : n < N then step ⟨n, h⟩ (after step g n) else after step g n) j = _
    rw [dif_pos hn', hs, ih (Nat.le_of_lt hn')]
    by_cases h : p j = n
    · rw [if_pos h, if_neg (by omega), if_pos (by omega)]
    · rw [if_neg h]
      by_cases h' : p j < n
      · rw [if_pos h', if_pos (by omega)]
      · rw [if_neg h', if_neg (by omega)]

end Cert.KernelIdeal.Gen.Tile

end
-- ==== Proof.Ideal.Closed.lean ====
module

public import proofs.«01_k».proof.Proof.Ideal.Lane

@[expose] public section

noncomputable section

namespace Cert.KernelIdeal.Gen.Tile

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## What a tile leaves, place by place -/

/-- Places of the three scratch buffers. -/
def ix8 (e : BitVec 32) (c : ℕ) : S64x128.Idx := fun
  | 0 => ⟨e.toNat % 64, Nat.mod_lt _ (by decide)⟩
  | 1 => ⟨c % 128, Nat.mod_lt _ (by decide)⟩
def ix9 (c : ℕ) : S128.Idx := fun | 0 => ⟨c % 128, Nat.mod_lt _ (by decide)⟩
def ix10 (k : ℕ) (e : BitVec 32) (c : ℕ) : S3x64x128.Idx := fun
  | 0 => ⟨k % 3, Nat.mod_lt _ (by decide)⟩
  | 1 => ⟨e.toNat % 64, Nat.mod_lt _ (by decide)⟩
  | 2 => ⟨c % 128, Nat.mod_lt _ (by decide)⟩

/-- A token's score of expert `e`. -/
def score8 (f8 : Vec F S64x128 .f32) (f9 : Vec F S128 .f32) (c : ℕ) (e : BitVec 32) : F .f32 :=
  FloatOps.addf (f8 (ix8 e c)) (f9 (ix9 c))

section
variable (f8 : Vec F S64x128 .f32) (f9 : Vec F S128 .f32) (f10 : Vec F S3x64x128 .f32) (t : Fin k2_t2_loop.trips)

theorem logit_lane (x : S16.Idx) {e : BitVec 32} (he : e.toNat < 64) :
    logit f8 (tokens t) (ctxOf f9 t) e x = score8 f8 f9 (tokens t x).toNat e := by
  have ht := tokens_lt t x
  unfold logit ctxOf score8
  show FloatOps.addf (ld f8 ![broadcast S16 e, tokens t] x) (ld f9 ![tokens t] x) = _
  rw [ld_eq f8 _ (inB_two (a := broadcast S16 e) (fun _ => he) (tokens_lt t)), ld_eq f9 _ (inB_tokens t)]
  congr 1
  · refine congrArg f8 (funext fun a => ?_)
    match a with
    | 0 => exact Fin.ext (Nat.mod_eq_of_lt he).symm
    | 1 => exact Fin.ext (Nat.mod_eq_of_lt ht).symm
  · refine congrArg f9 (funext fun a => ?_)
    match a with
    | 0 => exact Fin.ext (Nat.mod_eq_of_lt ht).symm

theorem listS_congr {lg lg' : BitVec 32 → F .f32} (es : List (BitVec 32)) : ∀ l, (∀ e ∈ es, lg e = lg' e) →
    listS lg es l = listS lg' es l := by
  induction es with
  | nil => intro _ _; rfl
  | cons e es ih =>
    intro l h
    show listS lg es (insS l (lg e) e) = listS lg' es (insS l (lg' e) e)
    rw [h e List.mem_cons_self]
    exact ih _ fun e' h' => h e' (List.mem_cons_of_mem _ h')

theorem weightsS_congr {lg lg' : BitVec 32 → F .f32} (h : ∀ e : BitVec 32, e.toNat < 64 → lg e = lg' e) :
    weightsS lg = weightsS lg' := by
  unfold weightsS lowS highS
  rw [listS_congr lowExperts _ fun e he => h e (low_lt e he), listS_congr highExperts _ fun e he => h e (high_lt e he)]

theorem lane_weights_score (x : S16.Idx) : lane x (weights f8 f9 t) = weightsS (score8 f8 f9 (tokens t x).toNat) :=
  (lane_weights x f8 f9 t).trans (weightsS_congr fun _ he => logit_lane f8 f9 t x he)

theorem lane_inv_score (x : S16.Idx) : invSum f8 f9 t x = invS (score8 f8 f9 (tokens t x).toNat) := by
  rw [lane_invSum]
  unfold invS
  rw [weightsS_congr fun _ he => logit_lane f8 f9 t x he]

/-- A token's lane in its vector. -/
theorem tokens_laneOf {n : ℕ} (h : n / 16 = t.val) : (tokens t (laneOf n)).toNat = n := by
  rw [tokens_toNat, laneOf_val]; omega

theorem logitsAfter_apply (es : List (BitVec 32)) (j : S8192.Idx) : ∀ g, (∀ e ∈ es, e.toNat < 64) →
    logitsAfter f8 (tokens t) (ctxOf f9 t) (rows t) es g j
      = if (j 0).val / 64 / 16 = t.val ∧ BitVec.ofNat 32 ((j 0).val % 64) ∈ es
        then score8 f8 f9 ((j 0).val / 64) (BitVec.ofNat 32 ((j 0).val % 64)) else g j := by
  induction es with
  | nil => intro g _; rw [if_neg fun h => nomatch h.2]; rfl
  | cons e es ih =>
    intro g he
    have he0 : e.toNat < 64 := he e List.mem_cons_self
    show logitsAfter f8 (tokens t) (ctxOf f9 t) (rows t) es (put g ![addi (rows t) (broadcast S16 e)] (logit f8 (tokens t) (ctxOf f9 t) e)) j = _
    rw [ih _ fun e' h' => he e' (List.mem_cons_of_mem _ h'), put_row g t (broadcast S16 e) _ (fun _ => he0)]
    have hb : (e.toNat = (j 0).val % 64) ↔ BitVec.ofNat 32 ((j 0).val % 64) = e := by
      refine ⟨fun h => by rw [← h, BitVec.ofNat_toNat, BitVec.setWidth_eq], fun h => ?_⟩
      rw [← h, BitVec.toNat_ofNat]
      omega
    show (if _ then _ else if (j 0).val / 64 / 16 = t.val ∧ e.toNat = (j 0).val % 64 then logit f8 (tokens t) (ctxOf f9 t) e (laneOf ((j 0).val / 64)) else g j) = _
    by_cases h1 : (j 0).val / 64 / 16 = t.val
    · rw [logit_lane f8 f9 t _ he0, tokens_laneOf t h1]
      by_cases h2 : BitVec.ofNat 32 ((j 0).val % 64) ∈ es
      · rw [if_pos ⟨h1, h2⟩, if_pos ⟨h1, List.mem_cons_of_mem _ h2⟩]
      · rw [if_neg fun h => h2 h.2]
        by_cases h3 : e.toNat = (j 0).val % 64
        · rw [if_pos ⟨h1, h3⟩, if_pos ⟨h1, by rw [hb.mp h3]; exact List.mem_cons_self⟩, hb.mp h3]
        · rw [if_neg fun h => h3 h.2, if_neg]
          rintro ⟨-, h⟩
          rcases List.mem_cons.mp h with h | h
          · exact h3 (hb.mpr h)
          · exact h2 h
    · rw [if_neg fun h => h1 h.1, if_neg fun h => h1 h.1, if_neg fun h => h1 h.1]

theorem all_experts : ∀ n : Fin 64, BitVec.ofNat 32 n.val ∈ lowExperts ∨ BitVec.ofNat 32 n.val ∈ highExperts := by
  intro n
  have h : ((List.finRange 64).all fun n => lowExperts.contains (BitVec.ofNat 32 n.val) || highExperts.contains (BitVec.ofNat 32 n.val)) = true := rfl
  have h' := List.all_eq_true.mp h n (List.mem_finRange n)
  rcases Bool.or_eq_true_iff.mp h' with h' | h'
  · exact .inl (List.contains_iff_mem.mp h')
  · exact .inr (List.contains_iff_mem.mp h')

theorem stepL_apply (g : Vec F S8192 .f32) (j : S8192.Idx) :
    stepL f8 f9 t g j = if (j 0).val / 64 / 16 = t.val then score8 f8 f9 ((j 0).val / 64) (BitVec.ofNat 32 ((j 0).val % 64)) else g j := by
  unfold stepL
  rw [logitsAfter_apply f8 f9 t highExperts j _ high_lt, logitsAfter_apply f8 f9 t lowExperts j _ low_lt]
  by_cases h1 : (j 0).val / 64 / 16 = t.val
  · rw [if_pos h1]
    rcases all_experts ⟨(j 0).val % 64, Nat.mod_lt _ (by decide)⟩ with h | h
    · by_cases h2 : BitVec.ofNat 32 ((j 0).val % 64) ∈ highExperts
      · rw [if_pos ⟨h1, h2⟩]
      · rw [if_neg fun h => h2 h.2, if_pos ⟨h1, h⟩]
    · rw [if_pos ⟨h1, h⟩]
  · rw [if_neg h1, if_neg fun h => h1 h.1, if_neg fun h => h1 h.1]

theorem gatesAfter_apply (rz : FVec F S16 .f32) (l : Tops F) (j : S8192.Idx) : ∀ g, Small l →
    gatesAfter (rows t) rz l g j
      = if (j 0).val / 64 / 16 = t.val then
          (lane (laneOf ((j 0).val / 64)) l).foldl (fun g p => if p.2.toNat = (j 0).val % 64 then FloatOps.mulf p.1 (rz (laneOf ((j 0).val / 64))) else g) (g j)
        else g j := by
  induction l with
  | nil => intro g _; split <;> rfl
  | cons p l ih =>
    intro g hl
    show gatesAfter (rows t) rz l (put g ![addi (rows t) p.2] (mulf p.1 rz)) j = _
    rw [ih _ (small_cons.mp hl).2, put_row g t p.2 _ (small_cons.mp hl).1]
    by_cases h1 : (j 0).val / 64 / 16 = t.val
    · rw [if_pos h1, if_pos h1]
      show _ = List.foldl _ (if (p.2 (laneOf ((j 0).val / 64))).toNat = (j 0).val % 64 then _ else _) (lane (laneOf ((j 0).val / 64)) l)
      congr 1
      by_cases h2 : (p.2 (laneOf ((j 0).val / 64))).toNat = (j 0).val % 64
      · rw [if_pos ⟨h1, h2⟩, if_pos h2]; rfl
      · rw [if_neg fun h => h2 h.2, if_neg h2]
    · rw [if_neg h1, if_neg h1, if_neg fun h => h1 h.1]

theorem actAfter_apply (rz : FVec F S16 .f32) (k : Fin 3) (l : Tops F) (x : S16.Idx) : ∀ a, Small l →
    actAfter f10 (tokens t) rz (BitVec.ofNat 32 k.val) l a x
      = (lane x l).foldl (fun a p => FloatOps.addf a (FloatOps.mulf (FloatOps.mulf p.1 (rz x)) (f10 (ix10 k.val p.2 (tokens t x).toNat)))) (a x) := by
  have hk : (BitVec.ofNat 32 k.val).toNat = k.val := by
    rw [BitVec.toNat_ofNat]; exact Nat.mod_eq_of_lt (by have := k.isLt; omega)
  induction l with
  | nil => intro a _; rfl
  | cons p l ih =>
    intro a hl
    show actAfter f10 (tokens t) rz (BitVec.ofNat 32 k.val) l (addf a (mulf (mulf p.1 rz) (ld f10 ![broadcast S16 (BitVec.ofNat 32 k.val), p.2, tokens t]))) x = _
    rw [ih _ (small_cons.mp hl).2]
    show List.foldl _ (FloatOps.addf (a x) (FloatOps.mulf (FloatOps.mulf (p.1 x) (rz x)) (ld f10 ![broadcast S16 (BitVec.ofNat 32 k.val), p.2, tokens t] x))) _
      = List.foldl _ (FloatOps.addf (a x) (FloatOps.mulf (FloatOps.mulf (p.1 x) (rz x)) _)) (lane x l)
    rw [ld_eq f10 _ (inB_three (by rw [hk]; exact k.isLt) (small_cons.mp hl).1 (tokens_lt t))]
    congr 3
    refine congrArg f10 (funext fun b => ?_)
    match b with
    | 0 => exact Fin.ext (hk.trans (Nat.mod_eq_of_lt k.isLt).symm)
    | 1 => exact Fin.ext (Nat.mod_eq_of_lt ((small_cons.mp hl).1 x)).symm
    | 2 => exact Fin.ext (Nat.mod_eq_of_lt (tokens_lt t x)).symm

theorem action_apply (k : Fin 3) {n : ℕ} (h : n / 16 = t.val) :
    action f8 f9 f10 t (BitVec.ofNat 32 k.val) (laneOf n) = actS (score8 f8 f9 n) fun e => f10 (ix10 k.val e n) := by
  unfold action actS
  rw [actAfter_apply f10 t _ k _ _ _ (small_weights t f8 f9), lane_weights_score, lane_inv_score, tokens_laneOf t h]
  rfl

theorem stepA_apply (a : Vec F S384 .f32) (j : S384.Idx) :
    stepA f8 f9 f10 t a j = if (j 0).val / 3 / 16 = t.val
      then actS (score8 f8 f9 ((j 0).val / 3)) (fun e => f10 (ix10 ((j 0).val % 3) e ((j 0).val / 3))) else a j := by
  unfold stepA
  have h0 : ∀ x, (muli (tokens t) (broadcast S16 3#32) x).toNat = 3 * (tokens t x).toNat + 0 := fun x => by
    rw [← act_toNat t x (k := 0) (by decide)]
    exact congrArg BitVec.toNat (BitVec.add_zero (tokens t x * 3#32)).symm
  have h1 : ∀ x, (addi (muli (tokens t) (broadcast S16 3#32)) (broadcast S16 1#32) x).toNat = 3 * (tokens t x).toNat + 1 :=
    fun x => act_toNat t x (k := 1) (by decide)
  have h2 : ∀ x, (addi (muli (tokens t) (broadcast S16 3#32)) (broadcast S16 2#32) x).toNat = 3 * (tokens t x).toNat + 2 :=
    fun x => act_toNat t x (k := 2) (by decide)
  rw [put_act _ t 2 _ (by decide) h2, put_act _ t 1 _ (by decide) h1, put_act _ t 0 _ (by decide) h0]
  by_cases h1 : (j 0).val / 3 / 16 = t.val
  · have e0 := action_apply f8 f9 f10 t 0 h1
    have e1 := action_apply f8 f9 f10 t 1 h1
    have e2 := action_apply f8 f9 f10 t 2 h1
    have hm : (j 0).val % 3 < 3 := Nat.mod_lt _ (by decide)
    rw [if_pos h1]
    rcases (by omega : (j 0).val % 3 = 0 ∨ (j 0).val % 3 = 1 ∨ (j 0).val % 3 = 2) with h | h | h
    · rw [if_neg (by omega), if_neg (by omega), if_pos ⟨h1, h⟩, h]; exact e0
    · rw [if_neg (by omega), if_pos ⟨h1, h⟩, h]; exact e1
    · rw [if_pos ⟨h1, h⟩, h]; exact e2
  · rw [if_neg h1, if_neg fun h => h1 h.1, if_neg fun h => h1 h.1, if_neg fun h => h1 h.1]

theorem stepG_apply (g : Vec F S8192 .f32) (j : S8192.Idx) :
    stepG f8 f9 t g j = if (j 0).val / 64 / 16 = t.val then
        (weightsS (score8 f8 f9 ((j 0).val / 64))).foldl (fun g p => if p.2.toNat = (j 0).val % 64 then FloatOps.mulf p.1 (invS (score8 f8 f9 ((j 0).val / 64))) else g) (g j)
      else g j := by
  unfold stepG
  rw [gatesAfter_apply t _ _ j g (small_weights t f8 f9)]
  by_cases h1 : (j 0).val / 64 / 16 = t.val
  · rw [if_pos h1, if_pos h1, lane_weights_score, lane_inv_score, tokens_laneOf t h1]
  · rw [if_neg h1, if_neg h1]

end

section
variable (f8 : Vec F S64x128 .f32) (f9 : Vec F S128 .f32) (f10 : Vec F S3x64x128 .f32)

attribute [local irreducible] weightsS invS score8

/-- The logits, gates and actions of a tile. -/
theorem closedL (g : Vec F S8192 .f32) :
    after (stepL f8 f9) g k2_t2_loop.trips = fun j => score8 f8 f9 ((j 0).val / 64) (BitVec.ofNat 32 ((j 0).val % 64)) := by
  funext j
  have hj : (j 0).val < 8192 := (j 0).isLt
  rw [after_closed (stepL f8 f9) (fun j : S8192.Idx => (j 0).val / 64 / 16)
    (fun j _ => score8 f8 f9 ((j 0).val / 64) (BitVec.ofNat 32 ((j 0).val % 64))) (fun t g j => stepL_apply f8 f9 t g j) g j _ le_rfl]
  exact if_pos (by rw [trips2]; omega)

theorem closed0 (g : Vec F S8192 .f32) : after clearStep g k2_t1_loop.trips = fun _ => fzero := by
  funext j
  have hj : (j 0).val < 8192 := (j 0).isLt
  rw [after_closed clearStep (fun j : S8192.Idx => (j 0).val / 16)
    (fun j _ => fzero) (fun t g j => put_cleared g t zeros j) g j _ le_rfl]
  exact if_pos (by rw [trips1]; omega)

theorem closedG (g : Vec F S8192 .f32) :
    after (stepG f8 f9) (after clearStep g k2_t1_loop.trips) k2_t2_loop.trips = fun j => gateS (score8 f8 f9 ((j 0).val / 64)) ((j 0).val % 64) := by
  funext j
  have hj : (j 0).val < 8192 := (j 0).isLt
  have h : (j 0).val / 64 / 16 < k2_t2_loop.trips := by rw [trips2]; omega
  rw [closed0, after_closed (stepG f8 f9) (fun j : S8192.Idx => (j 0).val / 64 / 16)
    (fun j x => (weightsS (score8 f8 f9 ((j 0).val / 64))).foldl (fun g p => if p.2.toNat = (j 0).val % 64 then FloatOps.mulf p.1 (invS (score8 f8 f9 ((j 0).val / 64))) else g) x)
    (fun t g j => stepG_apply f8 f9 t g j) _ j _ le_rfl, if_pos h]
  unfold gateS
  rfl

theorem closedA (a : Vec F S384 .f32) :
    after (stepA f8 f9 f10) a k2_t2_loop.trips
      = fun j => actS (score8 f8 f9 ((j 0).val / 3)) fun e => f10 (ix10 ((j 0).val % 3) e ((j 0).val / 3)) := by
  funext j
  have hj : (j 0).val < 384 := (j 0).isLt
  rw [after_closed (stepA f8 f9 f10) (fun j : S384.Idx => (j 0).val / 3 / 16)
    (fun j _ => actS (score8 f8 f9 ((j 0).val / 3)) fun e => f10 (ix10 ((j 0).val % 3) e ((j 0).val / 3)))
    (fun t g j => stepA_apply f8 f9 f10 t g j) a j _ le_rfl]
  exact if_pos (by rw [trips2]; omega)

end

end Cert.KernelIdeal.Gen.Tile

end
-- ==== Proof.Ideal.Pieces.lean ====
module

public import proofs.«01_k».proof.Proof.Ideal.Body
public import proofs.«01_k».proof.Proof.Ideal.Closed

@[expose] public section

noncomputable section

namespace Cert.KernelIdeal.Gen.Tile

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The pieces of the arrays the tiles work on -/

/-- A tile's number among the thirty-two. -/
def wid (i : grid2.Coords) : ℕ := 2 * (i 1).val + (i 0).val

/-- The elements of each array tile `w` works on. -/
def own15 (w : ℕ) : Finset S64x4096.Idx := Finset.univ.filter fun j => (j 1).val / 128 = w
def own16 (w : ℕ) : Finset S4096.Idx := Finset.univ.filter fun j => (j 0).val / 128 = w
def own18 (w : ℕ) : Finset S3x64x4096.Idx := Finset.univ.filter fun j => (j 2).val / 128 = w
def ownA (w : ℕ) : Finset S12288.Idx := Finset.univ.filter fun j => (j 0).val / 384 = w
def ownG (w : ℕ) : Finset S262144.Idx := Finset.univ.filter fun j => (j 0).val / 8192 = w

/-- The arrays as a tile names them. -/
abbrev r15 : Memref sig .scVector .hbm S64x4096 .f32 := Memref.whole main_v15_scv
abbrev r16 : Memref sig .scVector .hbm S4096 .f32 := Memref.whole main_v16_scv
abbrev r18 : Memref sig .scVector .hbm S3x64x4096 .f32 := Memref.whole main_v18_scv
abbrev rA : Memref sig .scVector .hbm S12288 .f32 := Memref.whole main_v19_0_scv
abbrev rG : Memref sig .scVector .hbm S262144 .f32 := Memref.whole main_v19_1_scv
abbrev rL : Memref sig .scVector .hbm S262144 .f32 := Memref.whole main_v19_2_scv
abbrev s8 : Memref sig .scVector .vmem S64x128 .f32 := Memref.whole cc2_scratch0
abbrev s9 : Memref sig .scVector .vmem S128 .f32 := Memref.whole cc2_scratch1
abbrev s10 : Memref sig .scVector .vmem S3x64x128 .f32 := Memref.whole cc2_scratch2
abbrev s11 : Memref sig .scVector .vmem S384 .f32 := Memref.whole cc2_scratch3
abbrev s12 : Memref sig .scVector .vmem S8192 .f32 := Memref.whole cc2_scratch4
abbrev s13 : Memref sig .scVector .vmem S8192 .f32 := Memref.whole cc2_scratch5

theorem sub15 (i : grid2.Coords) : (srcS r15 i).view.set ⊆ own15 (wid i) := by
  show ((View.whole main_v15_scv).slice (Rect.unit (s := S64x4096) (k2_off1 i) S64x128.size (k2_off1_inb i))).set ⊆ _
  rw [View.set_slice_whole]
  intro j hj
  have h := (Rect.mem_set_unit.mp hj) 1
  rw [k2_off1_eq] at h
  refine Finset.mem_filter.mpr ⟨Finset.mem_univ _, ?_⟩
  have h1 : 256 * (i 1).val + 128 * (i 0).val ≤ (j 1).val := h.1
  have h2 : (j 1).val < 256 * (i 1).val + 128 * (i 0).val + 128 := h.2
  show (j 1).val / 128 = 2 * (i 1).val + (i 0).val
  omega
theorem sub16 (i : grid2.Coords) : (srcC r16 i).view.set ⊆ own16 (wid i) := by
  show ((View.whole main_v16_scv).slice (Rect.unit (s := S4096) (k2_off2 i) S128.size (k2_off2_inb i))).set ⊆ _
  rw [View.set_slice_whole]
  intro j hj
  have h := (Rect.mem_set_unit.mp hj) 0
  rw [k2_off2_eq] at h
  refine Finset.mem_filter.mpr ⟨Finset.mem_univ _, ?_⟩
  have h1 : 256 * (i 1).val + 128 * (i 0).val ≤ (j 0).val := h.1
  have h2 : (j 0).val < 256 * (i 1).val + 128 * (i 0).val + 128 := h.2
  show (j 0).val / 128 = 2 * (i 1).val + (i 0).val
  omega
theorem sub18 (i : grid2.Coords) (k : ℕ) {o : Fin 3 → ℕ} (ho : o = ![k, 0, 256 * (i 1).val + 128 * (i 0).val])
    (h : ∀ a, o a + S1x64x128.size a ≤ S3x64x4096.size a) :
    ((r18.slice (Rect.unit (s := S3x64x4096) o S1x64x128.size h) (fun _ => rfl)).squeeze S64x128 squeezes_S1x64x128_S64x128).view.set ⊆ own18 (wid i) := by
  show (((View.whole main_v18_scv).slice (Rect.unit (s := S3x64x4096) o S1x64x128.size h)).reshape _ _).set ⊆ _
  rw [View.set_reshape, View.set_slice_whole]
  intro j hj
  have h := (Rect.mem_set_unit.mp hj) 2
  rw [ho] at h
  refine Finset.mem_filter.mpr ⟨Finset.mem_univ _, ?_⟩
  have h1 : 256 * (i 1).val + 128 * (i 0).val ≤ (j 2).val := h.1
  have h2 : (j 2).val < 256 * (i 1).val + 128 * (i 0).val + 128 := h.2
  show (j 2).val / 128 = 2 * (i 1).val + (i 0).val
  omega
theorem subA (i : grid2.Coords) : (dstA rA i).view.set ⊆ ownA (wid i) := by
  show ((View.whole main_v19_0_scv).slice (Rect.unit (s := S12288) (k2_off6 i) S384.size (k2_off6_inb i))).set ⊆ _
  rw [View.set_slice_whole]
  intro j hj
  have h := (Rect.mem_set_unit.mp hj) 0
  rw [k2_off6_eq] at h
  refine Finset.mem_filter.mpr ⟨Finset.mem_univ _, ?_⟩
  have h1 : 768 * (i 1).val + 384 * (i 0).val ≤ (j 0).val := h.1
  have h2 : (j 0).val < 768 * (i 1).val + 384 * (i 0).val + 384 := h.2
  show (j 0).val / 384 = 2 * (i 1).val + (i 0).val
  omega
theorem subG (i : grid2.Coords) : (dstG rG i).view.set ⊆ ownG (wid i) := by
  show ((View.whole main_v19_1_scv).slice (Rect.unit (s := S262144) (k2_off7 i) S8192.size (k2_off7_inb i))).set ⊆ _
  rw [View.set_slice_whole]
  intro j hj
  have h := (Rect.mem_set_unit.mp hj) 0
  rw [k2_off7_eq] at h
  refine Finset.mem_filter.mpr ⟨Finset.mem_univ _, ?_⟩
  have h1 : 16384 * (i 1).val + 8192 * (i 0).val ≤ (j 0).val := h.1
  have h2 : (j 0).val < 16384 * (i 1).val + 8192 * (i 0).val + 8192 := h.2
  show (j 0).val / 8192 = 2 * (i 1).val + (i 0).val
  omega
theorem subL (i : grid2.Coords) : (dstL rL i).view.set ⊆ ownG (wid i) := by
  show ((View.whole main_v19_2_scv).slice (Rect.unit (s := S262144) (k2_off7 i) S8192.size (k2_off7_inb i))).set ⊆ _
  rw [View.set_slice_whole]
  intro j hj
  have h := (Rect.mem_set_unit.mp hj) 0
  rw [k2_off7_eq] at h
  refine Finset.mem_filter.mpr ⟨Finset.mem_univ _, ?_⟩
  have h1 : 16384 * (i 1).val + 8192 * (i 0).val ≤ (j 0).val := h.1
  have h2 : (j 0).val < 16384 * (i 1).val + 8192 * (i 0).val + 8192 := h.2
  show (j 0).val / 8192 = 2 * (i 1).val + (i 0).val
  omega

/-! ## What the whole arrays hold -/

/-- Places of the three arrays the tiles read. -/
def ix15 (e : BitVec 32) (c : ℕ) : S64x4096.Idx := fun
  | 0 => ⟨e.toNat % 64, Nat.mod_lt _ (by decide)⟩
  | 1 => ⟨c % 4096, Nat.mod_lt _ (by decide)⟩
def ix16 (c : ℕ) : S4096.Idx := fun | 0 => ⟨c % 4096, Nat.mod_lt _ (by decide)⟩
def ix18 (k : ℕ) (e : BitVec 32) (c : ℕ) : S3x64x4096.Idx := fun
  | 0 => ⟨k % 3, Nat.mod_lt _ (by decide)⟩
  | 1 => ⟨e.toNat % 64, Nat.mod_lt _ (by decide)⟩
  | 2 => ⟨c % 4096, Nat.mod_lt _ (by decide)⟩

section
variable (f15 : Vec F S64x4096 .f32) (f16 : Vec F S4096 .f32) (f18 : Vec F S3x64x4096 .f32)

/-- Token `c`'s score of expert `e`. -/
def scoreT (c : ℕ) (e : BitVec 32) : F .f32 := FloatOps.addf (f15 (ix15 e c)) (f16 (ix16 c))
/-- The three arrays the tiles write. -/
def outL : Vec F S262144 .f32 := fun j => scoreT f15 f16 ((j 0).val / 64) (BitVec.ofNat 32 ((j 0).val % 64))
def outG : Vec F S262144 .f32 := fun j => gateS (scoreT f15 f16 ((j 0).val / 64)) ((j 0).val % 64)
def outA : Vec F S12288 .f32 := fun j =>
  actS (scoreT f15 f16 ((j 0).val / 3)) fun e => f18 (ix18 ((j 0).val % 3) e ((j 0).val / 3))

/-- What tile `w` reads. -/
def got15 (w : ℕ) : Vec F S64x128 .f32 := fun x => f15 fun
  | 0 => x 0
  | 1 => ⟨(128 * w + (x 1).val) % 4096, Nat.mod_lt _ (by decide)⟩
def got16 (w : ℕ) : Vec F S128 .f32 := fun x => f16 fun | 0 => ⟨(128 * w + (x 0).val) % 4096, Nat.mod_lt _ (by decide)⟩
def got18 (w : ℕ) : Vec F S3x64x128 .f32 := fun x => f18 fun
  | 0 => x 0
  | 1 => x 1
  | 2 => ⟨(128 * w + (x 2).val) % 4096, Nat.mod_lt _ (by decide)⟩

theorem wid_lt (i : grid2.Coords) : wid i < 32 := by
  have h0 : (i 0).val < 2 := (i 0).isLt
  have h1 : (i 1).val < 16 := (i 1).isLt
  unfold wid
  omega

theorem read15 (i : grid2.Coords) : (srcS r15 i).view.read (Elt F) f15 = got15 f15 (wid i) := by
  funext x
  refine (View.read_apply _ _).trans ((cast_eq _ _).trans (congrArg f15 (funext fun a => Fin.ext ?_)))
  have hw := wid_lt i
  unfold wid at hw
  match a with
  | 0 => show k2_off1 i 0 + 1 * (x 0).val = (x 0).val
         rw [k2_off1_eq]
         show 0 + 1 * (x 0).val = (x 0).val
         omega
  | 1 => show k2_off1 i 1 + 1 * (x 1).val = (128 * wid i + (x 1).val) % 4096
         rw [k2_off1_eq]
         have hx : (x 1).val < 128 := (x 1).isLt
         show 256 * (i 1).val + 128 * (i 0).val + 1 * (x 1).val = _
         unfold wid
         omega
theorem read16 (i : grid2.Coords) : (srcC r16 i).view.read (Elt F) f16 = got16 f16 (wid i) := by
  funext x
  refine (View.read_apply _ _).trans ((cast_eq _ _).trans (congrArg f16 (funext fun a => Fin.ext ?_)))
  have hw := wid_lt i
  unfold wid at hw
  match a with
  | 0 => show k2_off2 i 0 + 1 * (x 0).val = (128 * wid i + (x 0).val) % 4096
         rw [k2_off2_eq]
         have hx : (x 0).val < 128 := (x 0).isLt
         show 256 * (i 1).val + 128 * (i 0).val + 1 * (x 0).val = _
         unfold wid
         omega

/-- A plane copied: that plane's elements are what the tile reads, the others stay. -/
theorem plane (i : grid2.Coords) (k : ℕ) {od os : Fin 3 → ℕ} (hod : od = ![k, 0, 0]) (hos : os = ![k, 0, 256 * (i 1).val + 128 * (i 0).val])
    (hd : ∀ a, od a + S1x64x128.size a ≤ S3x64x128.size a) (hs : ∀ a, os a + S1x64x128.size a ≤ S3x64x4096.size a)
    (fd : Vec F S3x64x128 .f32) (x : S3x64x128.Idx) :
    ((s10.slice (Rect.unit (s := S3x64x128) od S1x64x128.size hd) (fun _ => rfl)).squeeze S64x128 squeezes_S1x64x128_S64x128).view.write (Elt F) fd
        (((r18.slice (Rect.unit (s := S3x64x4096) os S1x64x128.size hs) (fun _ => rfl)).squeeze S64x128 squeezes_S1x64x128_S64x128).view.read (Elt F) f18) Finset.univ x
      = if (x 0).val = k then got18 f18 (wid i) x else fd x := by
  have hw := wid_lt i
  unfold wid at hw
  by_cases hx : (x 0).val = k
  · rw [if_pos hx]
    let z : S1x64x128.Idx := fun | 0 => ⟨0, by decide⟩ | 1 => x 1 | 2 => x 2
    let y : S64x128.Idx := (Shape.reshapeEquiv squeezes_S1x64x128_S64x128.numel_eq).symm z
    have hy : Shape.reshapeEquiv squeezes_S1x64x128_S64x128.numel_eq y = z := Equiv.apply_symm_apply _ _
    have he : ((s10.slice (Rect.unit (s := S3x64x128) od S1x64x128.size hd) (fun _ => rfl)).squeeze S64x128 squeezes_S1x64x128_S64x128).view.emb y = x := by
      show (Rect.unit (s := S3x64x128) od S1x64x128.size hd).emb (Shape.reshapeEquiv squeezes_S1x64x128_S64x128.numel_eq y) = x
      rw [hy]
      subst hod
      funext a
      refine Fin.ext ?_
      match a with
      | 0 => show k + 1 * 0 = (x 0).val
             omega
      | 1 => show 0 + 1 * (x 1).val = (x 1).val
             omega
      | 2 => show 0 + 1 * (x 2).val = (x 2).val
             omega
    have hwr := View.write_emb_of_mem (v := ((s10.slice (Rect.unit (s := S3x64x128) od S1x64x128.size hd) (fun _ => rfl)).squeeze S64x128 squeezes_S1x64x128_S64x128).view)
      (Val := Elt F) fd (((r18.slice (Rect.unit (s := S3x64x4096) os S1x64x128.size hs) (fun _ => rfl)).squeeze S64x128 squeezes_S1x64x128_S64x128).view.read (Elt F) f18)
      (Finset.mem_univ y)
    rw [he] at hwr
    refine hwr.trans ((cast_eq _ _).trans ((View.read_apply _ _).trans ((cast_eq _ _).trans ?_)))
    show f18 ((Rect.unit (s := S3x64x4096) os S1x64x128.size hs).emb (Shape.reshapeEquiv squeezes_S1x64x128_S64x128.numel_eq y)) = _
    rw [hy]
    subst hos
    refine congrArg f18 (funext fun a => Fin.ext ?_)
    match a with
    | 0 => show k + 1 * 0 = (x 0).val
           omega
    | 1 => show 0 + 1 * (x 1).val = (x 1).val
           omega
    | 2 => show 256 * (i 1).val + 128 * (i 0).val + 1 * (x 2).val = (128 * wid i + (x 2).val) % 4096
           have hx : (x 2).val < 128 := (x 2).isLt
           unfold wid
           omega
  · rw [if_neg hx]
    refine View.write_of_not_mem _ _ _ fun h => hx ?_
    rw [View.setOn_univ] at h
    have h' : x ∈ (((View.whole cc2_scratch2).slice (Rect.unit (s := S3x64x128) od S1x64x128.size hd)).reshape S64x128 squeezes_S1x64x128_S64x128.numel_eq).set := h
    rw [View.set_reshape, View.set_slice_whole] at h'
    have h0 := (Rect.mem_set_unit.mp h') 0
    subst hod
    have h1 : k ≤ (x 0).val := h0.1
    have h2 : (x 0).val < k + 1 := h0.2
    omega

/-- The three planes copied: what the tile reads, whatever was there. -/
theorem planes (i : grid2.Coords) (fd : Vec F S3x64x128 .f32) :
    (dstQ2 s10).view.write (Elt F) ((dstQ1 s10).view.write (Elt F) ((dstQ0 s10).view.write (Elt F) fd
      ((srcQ0 r18 i).view.read (Elt F) f18) Finset.univ) ((srcQ1 r18 i).view.read (Elt F) f18) Finset.univ) ((srcQ2 r18 i).view.read (Elt F) f18) Finset.univ
      = got18 f18 (wid i) := by
  funext x
  have hx : (x 0).val < 3 := (x 0).isLt
  refine (plane f18 i 2 rfl (k2_off5_eq i) _ (k2_off5_inb i) _ x).trans ?_
  by_cases h2 : (x 0).val = 2
  · rw [if_pos h2]
  rw [if_neg h2]
  refine (plane f18 i 1 rfl (k2_off4_eq i) _ (k2_off4_inb i) _ x).trans ?_
  by_cases h1 : (x 0).val = 1
  · rw [if_pos h1]
  rw [if_neg h1]
  refine (plane f18 i 0 rfl (k2_off3_eq i) _ (k2_off3_inb i) _ x).trans ?_
  rw [if_pos (by omega)]

/-- A tile's scores are the whole array's. -/
theorem score_got (w c : ℕ) (hw : w < 32) (hc : c < 128) :
    score8 (got15 f15 w) (got16 f16 w) c = scoreT f15 f16 (128 * w + c) := by
  funext e
  unfold score8 scoreT got15 got16
  congr 1
  · refine congrArg f15 (funext fun a => ?_)
    match a with
    | 0 => rfl
    | 1 => refine Fin.ext ?_
           show (128 * w + c % 128) % 4096 = (128 * w + c) % 4096
           omega
  · refine congrArg f16 (funext fun a => ?_)
    match a with
    | 0 => refine Fin.ext ?_
           show (128 * w + c % 128) % 4096 = (128 * w + c) % 4096
           omega

attribute [local irreducible] weightsS invS score8 gateS actS scoreT got15 got16

/-- A tile's logits, written out, are the whole array's there; the same for its gates and actions. -/
theorem writeL (i : grid2.Coords) (fd : Vec F S262144 .f32) : ∀ j ∈ ownG (wid i),
    (dstL rL i).view.write (Elt F) fd
      (s13.view.read (Elt F) fun j : S8192.Idx => score8 (got15 f15 (wid i)) (got16 f16 (wid i)) ((j 0).val / 64) (BitVec.ofNat 32 ((j 0).val % 64))) Finset.univ j
      = outL f15 f16 j := by
  intro j hj
  simp only [ownG, Finset.mem_filter, Finset.mem_univ, true_and] at hj
  have hw := wid_lt i
  let x : S8192.Idx := fun | 0 => ⟨(j 0).val % 8192, Nat.mod_lt _ (by decide)⟩
  have hx : ((x 0).val) = (j 0).val % 8192 := rfl
  have he : (dstL rL i).view.emb x = j := funext fun a => Fin.ext (by
    match a with
    | 0 => show k2_off7 i 0 + 1 * ((j 0).val % 8192) = (j 0).val
           rw [k2_off7_eq]
           show 16384 * (i 1).val + 8192 * (i 0).val + 1 * ((j 0).val % 8192) = (j 0).val
           unfold wid at hj
           omega)
  have hwr := View.write_emb_of_mem (v := (dstL rL i).view) (Val := Elt F) fd
    (s13.view.read (Elt F) fun j : S8192.Idx => score8 (got15 f15 (wid i)) (got16 f16 (wid i)) ((j 0).val / 64) (BitVec.ofNat 32 ((j 0).val % 64))) (Finset.mem_univ x)
  rw [he] at hwr
  refine hwr.trans ((cast_eq _ _).trans ?_)
  show score8 (got15 f15 (wid i)) (got16 f16 (wid i)) ((j 0).val % 8192 / 64) (BitVec.ofNat 32 ((j 0).val % 8192 % 64)) = _
  rw [score_got f15 f16 _ _ hw (by omega)]
  unfold outL
  rw [show 128 * wid i + (j 0).val % 8192 / 64 = (j 0).val / 64 by omega, show (j 0).val % 8192 % 64 = (j 0).val % 64 by omega]

theorem writeG (i : grid2.Coords) (fd : Vec F S262144 .f32) : ∀ j ∈ ownG (wid i),
    (dstG rG i).view.write (Elt F) fd
      (s12.view.read (Elt F) fun j : S8192.Idx => gateS (score8 (got15 f15 (wid i)) (got16 f16 (wid i)) ((j 0).val / 64)) ((j 0).val % 64)) Finset.univ j
      = outG f15 f16 j := by
  intro j hj
  simp only [ownG, Finset.mem_filter, Finset.mem_univ, true_and] at hj
  have hw := wid_lt i
  let x : S8192.Idx := fun | 0 => ⟨(j 0).val % 8192, Nat.mod_lt _ (by decide)⟩
  have he : (dstG rG i).view.emb x = j := funext fun a => Fin.ext (by
    match a with
    | 0 => show k2_off7 i 0 + 1 * ((j 0).val % 8192) = (j 0).val
           rw [k2_off7_eq]
           show 16384 * (i 1).val + 8192 * (i 0).val + 1 * ((j 0).val % 8192) = (j 0).val
           unfold wid at hj
           omega)
  have hwr := View.write_emb_of_mem (v := (dstG rG i).view) (Val := Elt F) fd
    (s12.view.read (Elt F) fun j : S8192.Idx => gateS (score8 (got15 f15 (wid i)) (got16 f16 (wid i)) ((j 0).val / 64)) ((j 0).val % 64)) (Finset.mem_univ x)
  rw [he] at hwr
  refine hwr.trans ((cast_eq _ _).trans ?_)
  show gateS (score8 (got15 f15 (wid i)) (got16 f16 (wid i)) ((j 0).val % 8192 / 64)) ((j 0).val % 8192 % 64) = _
  rw [score_got f15 f16 _ _ hw (by omega)]
  unfold outG
  rw [show 128 * wid i + (j 0).val % 8192 / 64 = (j 0).val / 64 by omega, show (j 0).val % 8192 % 64 = (j 0).val % 64 by omega]

theorem writeA (i : grid2.Coords) (fd : Vec F S12288 .f32) : ∀ j ∈ ownA (wid i),
    (dstA rA i).view.write (Elt F) fd
      (s11.view.read (Elt F) fun j : S384.Idx => actS (score8 (got15 f15 (wid i)) (got16 f16 (wid i)) ((j 0).val / 3))
        fun e => got18 f18 (wid i) (ix10 ((j 0).val % 3) e ((j 0).val / 3))) Finset.univ j
      = outA f15 f16 f18 j := by
  intro j hj
  simp only [ownA, Finset.mem_filter, Finset.mem_univ, true_and] at hj
  have hw := wid_lt i
  let x : S384.Idx := fun | 0 => ⟨(j 0).val % 384, Nat.mod_lt _ (by decide)⟩
  have he : (dstA rA i).view.emb x = j := funext fun a => Fin.ext (by
    match a with
    | 0 => show k2_off6 i 0 + 1 * ((j 0).val % 384) = (j 0).val
           rw [k2_off6_eq]
           show 768 * (i 1).val + 384 * (i 0).val + 1 * ((j 0).val % 384) = (j 0).val
           unfold wid at hj
           omega)
  have hwr := View.write_emb_of_mem (v := (dstA rA i).view) (Val := Elt F) fd
    (s11.view.read (Elt F) fun j : S384.Idx => actS (score8 (got15 f15 (wid i)) (got16 f16 (wid i)) ((j 0).val / 3))
        fun e => got18 f18 (wid i) (ix10 ((j 0).val % 3) e ((j 0).val / 3))) (Finset.mem_univ x)
  rw [he] at hwr
  refine hwr.trans ((cast_eq _ _).trans ?_)
  show actS (score8 (got15 f15 (wid i)) (got16 f16 (wid i)) ((j 0).val % 384 / 3))
        (fun e => got18 f18 (wid i) (ix10 ((j 0).val % 384 % 3) e ((j 0).val % 384 / 3))) = _
  rw [score_got f15 f16 _ _ hw (by omega)]
  unfold outA
  rw [show 128 * wid i + (j 0).val % 384 / 3 = (j 0).val / 3 by omega]
  congr 1
  funext e
  refine congrArg f18 (funext fun a => ?_)
  match a with
  | 0 => refine Fin.ext ?_
         show (j 0).val % 384 % 3 % 3 = (j 0).val % 3 % 3
         omega
  | 1 => rfl
  | 2 => refine Fin.ext ?_
         show (128 * wid i + (j 0).val % 384 / 3 % 128) % 4096 = (j 0).val / 3 % 4096
         omega

end

end Cert.KernelIdeal.Gen.Tile

end
-- ==== Proof.Ideal.TileWhole.lean ====
module

public import proofs.«01_k».proof.Proof.Ideal.TileBody
public import proofs.«01_k».proof.Proof.Ideal.Pieces
public import Idealize.ShloMosaic.Lib.Scf
public import Idealize.ShloMosaic.Lib.Memref

@[expose] public section

set_option maxRecDepth 20000

noncomputable section

namespace Cert.KernelIdeal.Gen.Tile

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
variable (d : Dev nD) {i : grid2.Coords}

/-! ## The two loops -/

theorem after_succ {N : ℕ} {β : Type} (step : Fin N → β → β) (b : β) (k : Fin N) :
    after step b (k.val + 1) = step k (after step b k.val) := by
  show (if h : k.val < N then step ⟨k.val, h⟩ (after step b k.val) else after step b k.val) = _
  rw [dif_pos k.isLt]

theorem after_zero {N : ℕ} {β : Type} (step : Fin N → β → β) (b : β) : after step b 0 = b := rfl

attribute [local irreducible] after

theorem wp_clears {α : Type} {arg12 : Memref sig .scVector .vmem S8192 .f32} {g : Vec F S8192 .f32}
    {KK : PUnit → Prog (Eff F i) α} {Q : α → sProp (M F)} :
    (owns (thr d i) arg12 fullShare g : sProp (M F))
      ⊢ (∀ acc, owns (thr d i) arg12 fullShare (after clearStep g k2_t1_loop.trips) -∗ runs d i (KK acc) Q)
        -∗ runs d i ((Scf.Loop.for k2_t1_loop k2_t1_ok ⟨⟩ fun t _ => clear arg12 t) >>= KK) Q := by
  refine (Entails.of_eq (congrArg (owns (thr d i) arg12 fullShare) (after_zero clearStep g).symm)).trans ?_
  refine Scf.wp_for_bind frame (wpE (defs₀ (F := F)) 𝒱₀ (thr d i) none) Set.univ k2_t1_loop.lb k2_t1_loop.ub k2_t1_loop.st k2_t1_ok ⟨⟩
    (fun t _ => clear arg12 t) (fun n _ => (owns (thr d i) arg12 fullShare (after clearStep g n) : sProp (M F))) ?_
  intro k _
  show (owns (thr d i) arg12 fullShare (after clearStep g k.val) : sProp (M F)) ⊢ runs d i (clear arg12 k) fun _ => owns (thr d i) arg12 fullShare (after clearStep g (k.val + 1))
  rw [show after clearStep g (k.val + 1) = put (after clearStep g k.val) ![cleared k] zeros from after_succ clearStep g k]
  unfold clear
  iintro H
  iapply (wp_scatter d (inB_cleared k)) $$ H
  iintro H
  unfold runs
  rw [wp_ret]
  imodintro
  iexact H

section
variable {arg8 : Memref sig .scVector .vmem S64x128 .f32} {arg9 : Memref sig .scVector .vmem S128 .f32}
variable {arg10 : Memref sig .scVector .vmem S3x64x128 .f32} {arg11 : Memref sig .scVector .vmem S384 .f32}
variable {arg12 : Memref sig .scVector .vmem S8192 .f32} {arg13 : Memref sig .scVector .vmem S8192 .f32}
variable (f8 : Vec F S64x128 .f32) (f9 : Vec F S128 .f32) (f10 : Vec F S3x64x128 .f32)

/-- The tile's scratch after `n` trips of the second loop. -/
def held2 (arg8 : Memref sig .scVector .vmem S64x128 .f32) (arg9 : Memref sig .scVector .vmem S128 .f32)
    (arg10 : Memref sig .scVector .vmem S3x64x128 .f32) (arg11 : Memref sig .scVector .vmem S384 .f32)
    (arg12 : Memref sig .scVector .vmem S8192 .f32) (arg13 : Memref sig .scVector .vmem S8192 .f32)
    (i : grid2.Coords) (a : Vec F S384 .f32) (g lg : Vec F S8192 .f32) (n : ℕ) : sProp (M F) :=
  iprop(owns (thr d i) arg8 fullShare f8 ∗ owns (thr d i) arg9 fullShare f9 ∗ owns (thr d i) arg10 fullShare f10
        ∗ owns (thr d i) arg11 fullShare (after (stepA f8 f9 f10) a n) ∗ owns (thr d i) arg12 fullShare (after (stepG f8 f9) g n)
        ∗ owns (thr d i) arg13 fullShare (after (stepL f8 f9) lg n))

theorem wp_tiles {α : Type} {a : Vec F S384 .f32} {g lg : Vec F S8192 .f32}
    {KK : PUnit → Prog (Eff F i) α} {Q : α → sProp (M F)} :
    held2 d f8 f9 f10 arg8 arg9 arg10 arg11 arg12 arg13 i a g lg 0
      ⊢ (∀ acc, held2 d f8 f9 f10 arg8 arg9 arg10 arg11 arg12 arg13 i a g lg k2_t2_loop.trips -∗ runs d i (KK acc) Q)
        -∗ runs d i ((Scf.Loop.for k2_t2_loop k2_t2_ok ⟨⟩ fun t _ => tile arg8 arg9 arg10 arg11 arg12 arg13 t) >>= KK) Q := by
  refine Scf.wp_for_bind frame (wpE (defs₀ (F := F)) 𝒱₀ (thr d i) none) Set.univ k2_t2_loop.lb k2_t2_loop.ub k2_t2_loop.st k2_t2_ok ⟨⟩
    (fun t _ => tile arg8 arg9 arg10 arg11 arg12 arg13 t) (fun n _ => held2 d f8 f9 f10 arg8 arg9 arg10 arg11 arg12 arg13 i a g lg n) ?_
  intro k _
  show held2 d f8 f9 f10 arg8 arg9 arg10 arg11 arg12 arg13 i a g lg k.val ⊢ runs d i (tile arg8 arg9 arg10 arg11 arg12 arg13 k) fun _ => held2 d f8 f9 f10 arg8 arg9 arg10 arg11 arg12 arg13 i a g lg (k.val + 1)
  unfold held2
  rw [after_succ (stepA f8 f9 f10) a k, after_succ (stepG f8 f9) g k, after_succ (stepL f8 f9) lg k]
  iintro H
  iapply (wp_tile d k) $$ H
  iintro H
  iexact H
end

/-! ## The whole body -/

abbrev cell (d : Dev nD) (i : grid2.Coords) (r : DmaSems sig S_) : GSem nD τ sig := (thr d i, .dma r.sem)

/-- What a tile reads, and what it writes. -/
def insT (d : Dev nD) (i : grid2.Coords) (f15 : Vec F S64x4096 .f32) (f16 : Vec F S4096 .f32) (f18 : Vec F S3x64x4096 .f32) : sProp (M F) :=
  iprop((r15.view.loc (thr d i) ↦[own15 (wid i)]{fullShare} f15) ∗ (r16.view.loc (thr d i) ↦[own16 (wid i)]{fullShare} f16)
    ∗ (r18.view.loc (thr d i) ↦[own18 (wid i)]{fullShare} f18))
def outsT (d : Dev nD) (i : grid2.Coords) (a : Vec F S12288 .f32) (g l : Vec F S262144 .f32) : sProp (M F) :=
  iprop((rA.view.loc (thr d i) ↦[ownA (wid i)]{fullShare} a) ∗ (rG.view.loc (thr d i) ↦[ownG (wid i)]{fullShare} g)
    ∗ (rL.view.loc (thr d i) ↦[ownG (wid i)]{fullShare} l))
/-- A tile's scratch, at any contents, and its copies' semaphores, none in flight. -/
def scratch (d : Dev nD) (i : grid2.Coords) : sProp (M F) :=
  iprop((∃ f, (thr d i).loc cc2_scratch0 ↦{fullShare} f) ∗ (∃ f, (thr d i).loc cc2_scratch1 ↦{fullShare} f)
    ∗ (∃ f, (thr d i).loc cc2_scratch2 ↦{fullShare} f) ∗ (∃ f, (thr d i).loc cc2_scratch3 ↦{fullShare} f)
    ∗ (∃ f, (thr d i).loc cc2_scratch4 ↦{fullShare} f) ∗ (∃ f, (thr d i).loc cc2_scratch5 ↦{fullShare} f))
def sems (d : Dev nD) (i : grid2.Coords) : sProp (M F) :=
  iprop(semVal (cell d i cc2_scoped0) 0 ∗ semVal (cell d i cc2_scoped1) 0 ∗ semVal (cell d i cc2_scoped2) 0 ∗ semVal (cell d i cc2_scoped3) 0
    ∗ semVal (cell d i cc2_scoped4) 0 ∗ semVal (cell d i cc2_scoped5) 0 ∗ semVal (cell d i cc2_scoped6) 0 ∗ semVal (cell d i cc2_scoped7) 0)

/-- The body at its arrays, its scratch and its semaphores. -/
abbrev theBody (i : grid2.Coords) : Prog (Eff F i) PUnit :=
  body (i := i) r15 r16 r18 rA rG rL s8 s9 s10 s11 s12 s13 (Memref.isWhole_whole _) (Memref.isWhole_whole _) (Memref.isWhole_whole _)
    (Memref.isWhole_whole _) (Memref.isWhole_whole _) cc2_scoped0 cc2_scoped1 cc2_scoped2 cc2_scoped3 cc2_scoped4 cc2_scoped5 cc2_scoped6 cc2_scoped7

theorem pos_numel8 : 0 < S64x128.numel := by decide
theorem pos_numel9 : 0 < S128.numel := by decide
theorem pos_numel11 : 0 < S384.numel := by decide
theorem pos_numel12 : 0 < S8192.numel := by decide

theorem wp_body (d : Dev nD) (i : grid2.Coords) {O : CellTallies nD τ sig (HIx 1)} {W : Waits sig (HIx 1)}
    (f15 : Vec F S64x4096 .f32) (f16 : Vec F S4096 .f32) (f18 : Vec F S3x64x4096 .f32) (a0 : Vec F S12288 .f32) (g0 l0 : Vec F S262144 .f32) :
    (iprop(Transfers.MayWaits (thr d i) (none : HIx 1) O ∗ insT d i f15 f16 f18 ∗ outsT d i a0 g0 l0 ∗ scratch d i ∗ sems d i ∗ owing d i O W) : sProp (M F))
      ⊢ runs d i (theBody i) fun _ =>
        iprop(insT d i f15 f16 f18 ∗ outsT d i (outA f15 f16 f18) (outG f15 f16) (outL f15 f16) ∗ scratch d i ∗ sems d i ∗ owing d i O W) := by
  unfold insT outsT scratch sems theBody body
  iintro ⟨#Hmw, ⟨H15, H16, H18⟩, ⟨HA, HG, HL⟩, ⟨⟨%b8, H8⟩, ⟨%b9, H9⟩, ⟨%b10, H10⟩, ⟨%b11, H11⟩, ⟨%b12, H12⟩, ⟨%b13, H13⟩⟩, ⟨V0, V1, V2, V3, V4, V5, V6, V7⟩, HO⟩
  iapply (wp_copy d (src := srcS r15 i) (dst := s8) (Ss := own15 (wid i)) (Sd := Finset.univ) pos_numel8 (sub15 i) (Finset.subset_univ _)) $$ [H15 H8 V0 HO]
  · isplitr; · iexact Hmw
    isplitl [H15]; · iexact H15
    isplitl [H8]; · iexact H8
    isplitl [V0]; · iexact V0
    iexact HO
  iintro ⟨H15, H8, V0, HO⟩
  iapply (wp_copy d (src := srcC r16 i) (dst := s9) (Ss := own16 (wid i)) (Sd := Finset.univ) pos_numel9 (sub16 i) (Finset.subset_univ _)) $$ [H16 H9 V1 HO]
  · isplitr; · iexact Hmw
    isplitl [H16]; · iexact H16
    isplitl [H9]; · iexact H9
    isplitl [V1]; · iexact V1
    iexact HO
  iintro ⟨H16, H9, V1, HO⟩
  iapply (wp_copy d (src := srcQ0 r18 i) (dst := dstQ0 s10) (Ss := own18 (wid i)) (Sd := Finset.univ) pos_numel8 (sub18 i 0 (k2_off3_eq i) (k2_off3_inb i)) (Finset.subset_univ _)) $$ [H18 H10 V2 HO]
  · isplitr; · iexact Hmw
    isplitl [H18]; · iexact H18
    isplitl [H10]; · iexact H10
    isplitl [V2]; · iexact V2
    iexact HO
  iintro ⟨H18, H10, V2, HO⟩
  iapply (wp_copy d (src := srcQ1 r18 i) (dst := dstQ1 s10) (Ss := own18 (wid i)) (Sd := Finset.univ) pos_numel8 (sub18 i 1 (k2_off4_eq i) (k2_off4_inb i)) (Finset.subset_univ _)) $$ [H18 H10 V3 HO]
  · isplitr; · iexact Hmw
    isplitl [H18]; · iexact H18
    isplitl [H10]; · iexact H10
    isplitl [V3]; · iexact V3
    iexact HO
  iintro ⟨H18, H10, V3, HO⟩
  iapply (wp_copy d (src := srcQ2 r18 i) (dst := dstQ2 s10) (Ss := own18 (wid i)) (Sd := Finset.univ) pos_numel8 (sub18 i 2 (k2_off5_eq i) (k2_off5_inb i)) (Finset.subset_univ _)) $$ [H18 H10 V4 HO]
  · isplitr; · iexact Hmw
    isplitl [H18]; · iexact H18
    isplitl [H10]; · iexact H10
    isplitl [V4]; · iexact V4
    iexact HO
  iintro ⟨H18, H10, V4, HO⟩
  ihave H8 := (Entails.of_eq (show ((s8.view.loc (thr d i) ↦[Finset.univ]{fullShare} s8.view.write (Elt F) b8 ((srcS r15 i).view.read (Elt F) f15) Finset.univ : sProp (M F)))
      = owns (thr d i) s8 fullShare (got15 f15 (wid i)) by rw [owns_whole, read15, View.write_whole_univ])) $$ H8
  ihave H9 := (Entails.of_eq (show ((s9.view.loc (thr d i) ↦[Finset.univ]{fullShare} s9.view.write (Elt F) b9 ((srcC r16 i).view.read (Elt F) f16) Finset.univ : sProp (M F)))
      = owns (thr d i) s9 fullShare (got16 f16 (wid i)) by rw [owns_whole, read16, View.write_whole_univ])) $$ H9
  ihave H10 := (Entails.of_eq (show ((s10.view.loc (thr d i) ↦[Finset.univ]{fullShare} (dstQ2 s10).view.write (Elt F) ((dstQ1 s10).view.write (Elt F) ((dstQ0 s10).view.write (Elt F) b10
      ((srcQ0 r18 i).view.read (Elt F) f18) Finset.univ) ((srcQ1 r18 i).view.read (Elt F) f18) Finset.univ) ((srcQ2 r18 i).view.read (Elt F) f18) Finset.univ : sProp (M F)))
      = owns (thr d i) s10 fullShare (got18 f18 (wid i)) by rw [owns_whole, planes])) $$ H10
  ihave H11 := (Entails.of_eq (owns_whole (thr d i) cc2_scratch3 fullShare b11).symm) $$ H11
  ihave H12 := (Entails.of_eq (owns_whole (thr d i) cc2_scratch4 fullShare b12).symm) $$ H12
  ihave H13 := (Entails.of_eq (owns_whole (thr d i) cc2_scratch5 fullShare b13).symm) $$ H13
  iapply (wp_clears d) $$ H12
  iintro %_ H12
  iapply (wp_tiles d (got15 f15 (wid i)) (got16 f16 (wid i)) (got18 f18 (wid i))) $$ [H8 H9 H10 H11 H12 H13]
  · unfold held2
    rw [after_zero, after_zero, after_zero]
    isplitl [H8]; · iexact H8
    isplitl [H9]; · iexact H9
    isplitl [H10]; · iexact H10
    isplitl [H11]; · iexact H11
    isplitl [H12]; · iexact H12
    iexact H13
  iintro %_ H
  ihave H := (Entails.of_eq (show held2 d (got15 f15 (wid i)) (got16 f16 (wid i)) (got18 f18 (wid i)) s8 s9 s10 s11 s12 s13 i b11
      (after clearStep b12 k2_t1_loop.trips) b13 k2_t2_loop.trips
      = iprop(((thr d i).loc cc2_scratch0 ↦{fullShare} got15 f15 (wid i)) ∗ ((thr d i).loc cc2_scratch1 ↦{fullShare} got16 f16 (wid i))
          ∗ ((thr d i).loc cc2_scratch2 ↦{fullShare} got18 f18 (wid i))
          ∗ ((thr d i).loc cc2_scratch3 ↦{fullShare} (fun j : S384.Idx => actS (score8 (got15 f15 (wid i)) (got16 f16 (wid i)) ((j 0).val / 3))
              fun e => got18 f18 (wid i) (ix10 ((j 0).val % 3) e ((j 0).val / 3))))
          ∗ ((thr d i).loc cc2_scratch4 ↦{fullShare} (fun j : S8192.Idx => gateS (score8 (got15 f15 (wid i)) (got16 f16 (wid i)) ((j 0).val / 64)) ((j 0).val % 64)))
          ∗ ((thr d i).loc cc2_scratch5 ↦{fullShare} (fun j : S8192.Idx => score8 (got15 f15 (wid i)) (got16 f16 (wid i)) ((j 0).val / 64) (BitVec.ofNat 32 ((j 0).val % 64))))) by
    unfold held2
    rw [closedA, closedG, closedL, owns_whole, owns_whole, owns_whole, owns_whole, owns_whole, owns_whole])) $$ H
  icases H with ⟨H8, H9, H10, H11, H12, H13⟩
  iapply (wp_copy d (src := s11) (dst := dstA rA i) (Ss := Finset.univ) (Sd := ownA (wid i)) pos_numel11 (Finset.subset_univ _) (subA i)) $$ [H11 HA V5 HO]
  · isplitr; · iexact Hmw
    isplitl [H11]; · iexact H11
    isplitl [HA]; · iexact HA
    isplitl [V5]; · iexact V5
    iexact HO
  iintro ⟨H11, HA, V5, HO⟩
  iapply (wp_copy d (src := s12) (dst := dstG rG i) (Ss := Finset.univ) (Sd := ownG (wid i)) pos_numel12 (Finset.subset_univ _) (subG i)) $$ [H12 HG V6 HO]
  · isplitr; · iexact Hmw
    isplitl [H12]; · iexact H12
    isplitl [HG]; · iexact HG
    isplitl [V6]; · iexact V6
    iexact HO
  iintro ⟨H12, HG, V6, HO⟩
  iapply (wp_copy d (src := s13) (dst := dstL rL i) (Ss := Finset.univ) (Sd := ownG (wid i)) pos_numel12 (Finset.subset_univ _) (subL i)) $$ [H13 HL V7 HO]
  · isplitr; · iexact Hmw
    isplitl [H13]; · iexact H13
    isplitl [HL]; · iexact HL
    isplitl [V7]; · iexact V7
    iexact HO
  iintro ⟨H13, HL, V7, HO⟩
  unfold runs
  rw [wp_ret]
  imodintro
  isplitl [H15 H16 H18]
  · isplitl [H15]; · iexact H15
    isplitl [H16]; · iexact H16
    iexact H18
  isplitl [HA HG HL]
  · isplitl [HA]
    · iapply (Entails.of_eq (pointsTo_congr (ℓ := rA.view.loc (thr d i)) (q := fullShare) (writeA f15 f16 f18 i a0))) $$ HA
    isplitl [HG]
    · iapply (Entails.of_eq (pointsTo_congr (ℓ := rG.view.loc (thr d i)) (q := fullShare) (writeG f15 f16 i g0))) $$ HG
    iapply (Entails.of_eq (pointsTo_congr (ℓ := rL.view.loc (thr d i)) (q := fullShare) (writeL f15 f16 i l0))) $$ HL
  isplitl [H8 H9 H10 H11 H12 H13]
  · isplitl [H8]; · iexists _; iexact H8
    isplitl [H9]; · iexists _; iexact H9
    isplitl [H10]; · iexists _; iexact H10
    isplitl [H11]; · iexists _; iexact H11
    isplitl [H12]; · iexists _; iexact H12
    iexists _; iexact H13
  isplitl [V0 V1 V2 V3 V4 V5 V6 V7]
  · isplitl [V0]; · iexact V0
    isplitl [V1]; · iexact V1
    isplitl [V2]; · iexact V2
    isplitl [V3]; · iexact V3
    isplitl [V4]; · iexact V4
    isplitl [V5]; · iexact V5
    isplitl [V6]; · iexact V6
    iexact V7
  iexact HO

end Cert.KernelIdeal.Gen.Tile

end
-- ==== Proof.Ideal.Obl.lean ====
module

public import proofs.«01_k».proof.Proof.Ideal.TileWhole

@[expose] public section

noncomputable section

namespace Cert.KernelIdeal.Gen.Tile

open Idealize.ShloMosaic
open Idealize.ShloMosaic.SparseCore (S V T)
open Idealize.ShloMosaic.SparseCore.Cfg (HIx Pay ownBufs ownSems0 ownCells ownRefs mem_ownCells)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## A tile's own scratch and semaphores -/

theorem assoc_eq (A B C : sProp (M F)) : iprop((A ∗ B) ∗ C) = iprop(A ∗ B ∗ C) :=
  BI.Entails.antisymm Idealize.SL.BI.sep_assoc Idealize.SL.BI.sep_assoc'

/-- The members of a list, split off a separating product over a set that has them. -/
theorem bigSep_list {I : Type} [DecidableEq I] (Φ : I → sProp (M F)) : ∀ (l : List I) (s : Finset I), l.Nodup → (∀ a ∈ l, a ∈ s) →
    ∃ R : sProp (M F), bigSep s Φ = l.foldr (fun a p => iprop(Φ a ∗ p)) R
  | [], s, _, _ => ⟨_, rfl⟩
  | a :: l, s, hn, hs => by
    obtain ⟨R, hR⟩ := bigSep_list Φ l (s.erase a) (List.nodup_cons.mp hn).2 fun b hb =>
      Finset.mem_erase.mpr ⟨fun e => (List.nodup_cons.mp hn).1 (e ▸ hb), hs b (List.mem_cons_of_mem _ hb)⟩
    exact ⟨R, (SparseCore.bigSep_erase' (hs a List.mem_cons_self)).trans (by rw [hR]; rfl)⟩

variable [FloatOps F]

theorem ownSems_eq (d : Dev nD) (i : grid2.Coords) : ∃ R : sProp (M F), (ownSems0 (thr d i) : sProp (M F)) = iprop(sems d i ∗ R) := by
  unfold SparseCore.Cfg.ownSems0
  have hs : ∀ r : SemLoc sig, r.isScoped .scVector = true → ((thr d i, r) : GSem nD τ sig) ∈ ownCells (thr d i) := fun r h =>
    mem_ownCells.mpr ⟨rfl, h⟩
  obtain ⟨R, hR⟩ := bigSep_list (F := F) (fun g => semVal g 0)
    (([SemLoc.dma cc2_scoped0.sem, SemLoc.dma cc2_scoped1.sem, SemLoc.dma cc2_scoped2.sem, SemLoc.dma cc2_scoped3.sem, SemLoc.dma cc2_scoped4.sem,
      SemLoc.dma cc2_scoped5.sem, SemLoc.dma cc2_scoped6.sem, SemLoc.dma cc2_scoped7.sem] : List (SemLoc sig)).map fun r => ((thr d i, r) : GSem nD τ sig))
    (ownCells (thr d i)) (List.Nodup.map (fun _ _ e => (Prod.mk.inj e).2) (by decide)) (by
      intro a ha
      obtain ⟨r, hr, rfl⟩ := List.mem_map.mp ha
      clear ha; exact hs r (by revert r; decide))
  refine ⟨R, hR.trans ?_⟩
  unfold sems
  simp only [List.map_cons, List.map_nil, List.foldr_cons, List.foldr_nil]
  simp only [assoc_eq]

theorem ownBufs_eq (d : Dev nD) (i : grid2.Coords) : ∃ R : sProp (M F), (ownBufs (thr d i) : sProp (M F)) = iprop(scratch d i ∗ R) := by
  unfold SparseCore.Cfg.ownBufs
  obtain ⟨R, hR⟩ := bigSep_list (F := F) (fun b => iprop(∃ f, (((thr d i).1, b) : Loc nD τ sig) ↦{fullShare} f))
    (([cc2_scratch0, cc2_scratch1, cc2_scratch2, cc2_scratch3, cc2_scratch4, cc2_scratch5] : List (Ref sig .scVector)).map (thr d i).2.devRef)
    (ownRefs (thr d i).2) (List.Nodup.map (Proc.devRef_injective _) (show ([cc2_scratch0, cc2_scratch1, cc2_scratch2, cc2_scratch3, cc2_scratch4, cc2_scratch5] : List (Ref sig .scVector)).Nodup by decide)) (by
      intro a ha
      obtain ⟨r, hr, rfl⟩ := List.mem_map.mp ha
      refine SparseCore.Cfg.mem_ownRefs_of_owner ?_
      simp only [List.mem_cons, List.not_mem_nil, _root_.or_false] at hr
      rcases hr with rfl | rfl | rfl | rfl | rfl | rfl <;> rfl)
  refine ⟨R, hR.trans ?_⟩
  unfold scratch
  simp only [List.map_cons, List.map_nil, List.foldr_cons, List.foldr_nil]
  simp only [assoc_eq]

/-! ## The call's operands, dealt to the tiles -/

/-- The contents a device's call is entered with: its three operands, and its three results before it. -/
structure Conts (F : FTy → Type) where
  f15 : Vec F S64x4096 .f32
  f16 : Vec F S4096 .f32
  f18 : Vec F S3x64x4096 .f32
  a0 : Vec F S12288 .f32
  g0 : Vec F S262144 .f32
  l0 : Vec F S262144 .f32

/-- The coordinates of a pair of SparseCore and tile. -/
def co (c : Fin 2) (s : Fin 16) : grid2.Coords :=
  fun | 0 => c | 1 => s | ⟨_ + 2, h⟩ => absurd h (Nat.not_lt.2 (Nat.le_add_left _ _))

/-- A tile's part before the call, and after it. -/
def goT (k : Conts F) (d : Dev nD) (i : grid2.Coords) : sProp (M F) := iprop(insT d i k.f15 k.f16 k.f18 ∗ outsT d i k.a0 k.g0 k.l0)
def tdT (k : Conts F) (d : Dev nD) (i : grid2.Coords) : sProp (M F) :=
  iprop(insT d i k.f15 k.f16 k.f18 ∗ outsT d i (outA k.f15 k.f16 k.f18) (outG k.f15 k.f16) (outL k.f15 k.f16))

instance goT_storable (k : Conts F) (d : Dev nD) (i : grid2.Coords) : BI.Storable (upEmb : UEmb _ (M F)) (goT k d i) := by
  unfold goT insT outsT; infer_instance
instance tdT_storable (k : Conts F) (d : Dev nD) (i : grid2.Coords) : BI.Storable (upEmb : UEmb _ (M F)) (tdT k d i) := by
  unfold tdT insT outsT; infer_instance

/-- What the call takes for each SparseCore and what it brings back: its tiles' parts. -/
def P (ks : Dev nD → Conts F) : (K (F := F)).Pay (nD := nD) (Val := Elt F) (Name := ℕ) (U := UU) where
  st := fun q d c => match q with | 0 => bigSep Finset.univ fun s : Fin 16 => goT (ks d) d (co c s)
  dn := fun q d c => match q with | 0 => bigSep Finset.univ fun s : Fin 16 => tdT (ks d) d (co c s)
  go := fun q d c s => match q with | 0 => goT (ks d) d (co c s)
  td := fun q d c s => match q with | 0 => tdT (ks d) d (co c s)
  x := fun _ _ => iprop(emp)

instance P_storable (ks : Dev nD → Conts F) : (P (F := F) ks).IsStorable where
  st q d c := match q with
    | 0 => (inferInstance : BI.Storable (upEmb : UEmb _ (M F)) (bigSep Finset.univ fun s : Fin 16 => goT (ks d) d (co c s)))
  dn q d c := match q with
    | 0 => (inferInstance : BI.Storable (upEmb : UEmb _ (M F)) (bigSep Finset.univ fun s : Fin 16 => tdT (ks d) d (co c s)))
  go q d c s := match q with
    | 0 => (inferInstance : BI.Storable (upEmb : UEmb _ (M F)) (goT (ks d) d (co c s)))
  td q d c s := match q with
    | 0 => (inferInstance : BI.Storable (upEmb : UEmb _ (M F)) (tdT (ks d) d (co c s)))

theorem vecSplit (ks : Dev nD → Conts F) : (K (F := F)).VecSplit' (P ks) 0 := by
  intro d c
  show (bigSep Finset.univ fun s : Fin 16 => goT (ks d) d (co c s)) ⊢ |={Set.univ}=> iprop(
    (bigSep Finset.univ fun s : Fin 16 => goT (ks d) d (co c s))
      ∗ ((bigSep Finset.univ fun s : Fin 16 => tdT (ks d) d (co c s)) -∗ bigSep Finset.univ fun s : Fin 16 => tdT (ks d) d (co c s)))
  iintro H; imodintro
  isplitl [H]; · iexact H
  iintro H; iexact H

/-! ## A tile's obligation -/

theorem tile_body (k : Conts F) (d : Dev nD) (i : grid2.Coords) (O : CellTallies nD τ sig (HIx 1)) (W : Waits sig (HIx 1)) (hO : ∀ g, O g none = 0) :
    iprop(levAts (K (F := F)).L (K (F := F)).lev ∗ emp ∗ goT k d i ∗ scopedBufs (thr d i) ∗ scopedSems0 (thr d i) ∗ owes (thr d i) O W)
      ⊢ runs d i (theBody i) fun _ => iprop(tdT k d i ∗ scopedBufs (thr d i) ∗ scopedSems0 (thr d i)
          ∗ ∃ W', ⌜∀ p ∈ W', p ∈ W ∨ p.2 = none⌝ ∗ owes (thr d i) O W') := by
  rw [(K (F := F)).scopedBufs_V kfacts d ((i 0).castLE hcore2) ((i 1).castLE hsub2),
    SparseCore.Cfg.scopedSems0_V (Val := Elt F) d ((i 0).castLE hcore2) ((i 1).castLE hsub2)]
  obtain ⟨RS, hRS⟩ := ownSems_eq (F := F) d i
  obtain ⟨RB, hRB⟩ := ownBufs_eq (F := F) d i
  rw [hRS, hRB]
  unfold goT tdT
  iintro ⟨Hlv, -, ⟨Hi, Ho⟩, ⟨Hs, HRB⟩, ⟨Hm, HRS⟩, HO⟩
  ihave Hmw := ((K (F := F)).mayWaits_none (thr := thr d i) hO) $$ Hlv
  ihave HO := (owing_intro d) $$ HO
  iapply (wp_wand_r frame _ Set.univ)
  isplitl [Hmw Hi Ho Hs Hm HO]
  · iapply (wp_body d i k.f15 k.f16 k.f18 k.a0 k.g0 k.l0)
    isplitl [Hmw]; · iexact Hmw
    isplitl [Hi]; · iexact Hi
    isplitl [Ho]; · iexact Ho
    isplitl [Hs]; · iexact Hs
    isplitl [Hm]; · iexact Hm
    iexact HO
  iintro %_ ⟨Hi, Ho, Hs, Hm, HO⟩
  isplitl [Hi Ho]
  · isplitl [Hi] <;> iassumption
  isplitl [Hs HRB]
  · isplitl [Hs] <;> iassumption
  isplitl [Hm HRS]
  · isplitl [Hm] <;> iassumption
  unfold owing; iexact HO

theorem obl_post {thr : Thread nD τ} {A B C : sProp (M F)} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  iexact HO

theorem defs₀_vector (c : Fin τ.nSC) (s : Fin τ.nSub) :
    defs₀ (F := F) (.scVector c s) 2 () = SparseCore.onTile hcore2 hsub2 (fun c s => theBody (F := F) (co c s)) ⟨⟩ c s := by
  refine Eq.trans ?_ (congrArg (fun f => SparseCore.onTile hcore2 hsub2 f ⟨⟩ c s) (funext fun c' => funext fun s' =>
    body_eq (F := F) (co c' s') r15 (Memref.isWhole_whole _) r16 (Memref.isWhole_whole _) r18 (Memref.isWhole_whole _) rA (Memref.isWhole_whole _)
      rG (Memref.isWhole_whole _) rL (Memref.isWhole_whole _) s8 (Memref.isWhole_whole _) s9 (Memref.isWhole_whole _) s10 (Memref.isWhole_whole _)
      s11 (Memref.isWhole_whole _) s12 (Memref.isWhole_whole _) s13 (Memref.isWhole_whole _)
      cc2_scoped0 cc2_scoped1 cc2_scoped2 cc2_scoped3 cc2_scoped4 cc2_scoped5 cc2_scoped6 cc2_scoped7))
  rfl

theorem tileObl (ks : Dev nD → Conts F) : (K (F := F)).TileObl (D (F := F)) 𝒱 (P ks) v₀ 0 := by
  intro d c i O W hO _ _
  simp only [show (P ks).ox = fun _ _ => 0 from rfl, add_zero]
  change _ ⊢ wp _ _ _ (Pipeline.liftProg (defs₀ (F := F) (.scVector ((K (F := F)).core 0 c) ((K (F := F)).sub 0 i)) 2 ())) _
  refine BI.Entails.trans ?_ (Pipeline.wp_liftProg (D (F := F)) (Pipeline.defs_kernel pcfgs defs₀) 𝒱₀ _ Set.univ none _ _)
  have hc : ((K (F := F)).core 0 c).val < grid2.bound 0 ∧ ((K (F := F)).sub 0 i).val < grid2.bound 1 := ⟨c.isLt, i.isLt⟩
  rw [defs₀_vector]; simp only [SparseCore.onTile, hc, and_self, ↓reduceDIte]
  exact (tile_body (ks d) d (co ⟨_, hc.1⟩ ⟨_, hc.2⟩) O W hO).trans (wp_mono frame _ _ fun _ => obl_post)

end Cert.KernelIdeal.Gen.Tile

end
-- ==== Proof.Ideal.Deal.lean ====
module

public import proofs.«01_k».proof.Proof.Ideal.Obl
public import Idealize.ShloMosaic.Lib.Pipeline.RegionArraysS

@[expose] public section

noncomputable section

namespace Cert.KernelIdeal.Gen.Tile

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (ucRefs)

variable {F : FTy → Type}

theorem wid_co (c : Fin 2) (s : Fin 16) : wid (co c s) = 2 * s.val + c.val := rfl

/-- A whole array, dealt to the thirty-two tiles by the number of the tile each element is for. -/
theorem deal {ℓ : Loc nD τ sig} (g : Idx ℓ → ℕ) (hg : ∀ j, g j < 32) (f : Buf (Elt F) ℓ) :
    (ℓ ↦{fullShare} f : sProp (M F))
      = bigSep Finset.univ fun c : Fin 2 => bigSep Finset.univ fun s : Fin 16 =>
          ℓ ↦[Finset.univ.filter fun j => g j = wid (co c s)]{fullShare} f := by
  classical
  have h1 := pointsTo_biUnion (Ix := HIx 1) (Val := Elt F) (Name := ℕ) (U := UU) (Lvl := ℕ) (q := fullShare) (f := f) (Finset.univ : Finset (Fin 2 × Fin 16))
    (fun p => Finset.univ.filter fun j : Idx ℓ => g j = wid (co p.1 p.2)) (by
      intro p _ p' _ hp
      refine Finset.disjoint_left.mpr fun j h h' => hp ?_
      have e := (Finset.mem_filter.mp h).2.symm.trans (Finset.mem_filter.mp h').2
      rw [wid_co, wid_co] at e
      have hc := p.1.isLt; have hc' := p'.1.isLt
      refine Prod.ext (Fin.ext ?_) (Fin.ext ?_) <;> omega)
  have h2 : ((Finset.univ : Finset (Fin 2 × Fin 16)).biUnion fun p => Finset.univ.filter fun j : Idx ℓ => g j = wid (co p.1 p.2)) = Finset.univ := by
    refine Finset.eq_univ_iff_forall.mpr fun j => Finset.mem_biUnion.mpr
      ⟨(⟨g j % 2, Nat.mod_lt _ (by decide)⟩, ⟨g j / 2, by have := hg j; omega⟩), Finset.mem_univ _, Finset.mem_filter.mpr ⟨Finset.mem_univ _, ?_⟩⟩
    rw [wid_co]; show g j = 2 * (g j / 2) + g j % 2; omega
  rw [h2] at h1
  rw [h1, bigSep_univ_prod]

variable [FloatOps F]

abbrev b15 : DevRef τ sig := Proc.devRef .tc (main_v15 : Ref sig .tc)
abbrev b16 : DevRef τ sig := Proc.devRef .tc (main_v16 : Ref sig .tc)
abbrev b18 : DevRef τ sig := Proc.devRef .tc (main_v18 : Ref sig .tc)
abbrev bA : DevRef τ sig := Proc.devRef .tc (main_v19_0 : Ref sig .tc)
abbrev bG : DevRef τ sig := Proc.devRef .tc (main_v19_1 : Ref sig .tc)
abbrev bL : DevRef τ sig := Proc.devRef .tc (main_v19_2 : Ref sig .tc)

/-- The call's arrays. -/
abbrev six : Finset (DevRef τ sig) := {b15, b16, b18, bA, bG, bL}

/-- The call's operands and results as a valuation has them. -/
def conts (W : Valuation τ sig (Elt F)) : Conts F := ⟨W b15, W b16, W b18, W bA, W bG, W bL⟩

/-- The arrays after the call. -/
def afterCall (W : Valuation τ sig (Elt F)) : Valuation τ sig (Elt F) :=
  Function.update (Function.update (Function.update W bA (outA (W b15) (W b16) (W b18))) bG (outG (W b15) (W b16))) bL (outL (W b15) (W b16))

theorem afterCall_L (W : Valuation τ sig (Elt F)) : afterCall W bL = outL (W b15) (W b16) := Function.update_self _ _ _
theorem afterCall_G (W : Valuation τ sig (Elt F)) : afterCall W bG = outG (W b15) (W b16) := by
  unfold afterCall; rw [Function.update_of_ne (show bG ≠ bL by decide)]; exact Function.update_self _ _ _
theorem afterCall_A (W : Valuation τ sig (Elt F)) : afterCall W bA = outA (W b15) (W b16) (W b18) := by
  unfold afterCall; rw [Function.update_of_ne (show bA ≠ bL by decide), Function.update_of_ne (show bA ≠ bG by decide)]; exact Function.update_self _ _ _
theorem afterCall_of_ne (W : Valuation τ sig (Elt F)) {b : DevRef τ sig} (hA : b ≠ bA) (hG : b ≠ bG) (hL : b ≠ bL) : afterCall W b = W b := by
  unfold afterCall; rw [Function.update_of_ne hL, Function.update_of_ne hG, Function.update_of_ne hA]

theorem deal15 (d : Dev nD) (f : Vec F S64x4096 .f32) : ((SparseCore.T d).loc main_v15 ↦{fullShare} f : sProp (M F))
    = bigSep Finset.univ fun c : Fin 2 => bigSep Finset.univ fun s : Fin 16 => r15.view.loc (thr d (co c s)) ↦[own15 (wid (co c s))]{fullShare} f :=
  deal (ℓ := (SparseCore.T d).loc main_v15) (fun j : S64x4096.Idx => (j 1).val / 128) (fun j : S64x4096.Idx => by
    have h : (j 1).val < 4096 := (j 1).isLt
    omega) f
theorem deal16 (d : Dev nD) (f : Vec F S4096 .f32) : ((SparseCore.T d).loc main_v16 ↦{fullShare} f : sProp (M F))
    = bigSep Finset.univ fun c : Fin 2 => bigSep Finset.univ fun s : Fin 16 => r16.view.loc (thr d (co c s)) ↦[own16 (wid (co c s))]{fullShare} f :=
  deal (ℓ := (SparseCore.T d).loc main_v16) (fun j : S4096.Idx => (j 0).val / 128) (fun j : S4096.Idx => by
    have h : (j 0).val < 4096 := (j 0).isLt
    omega) f
theorem deal18 (d : Dev nD) (f : Vec F S3x64x4096 .f32) : ((SparseCore.T d).loc main_v18 ↦{fullShare} f : sProp (M F))
    = bigSep Finset.univ fun c : Fin 2 => bigSep Finset.univ fun s : Fin 16 => r18.view.loc (thr d (co c s)) ↦[own18 (wid (co c s))]{fullShare} f :=
  deal (ℓ := (SparseCore.T d).loc main_v18) (fun j : S3x64x4096.Idx => (j 2).val / 128) (fun j : S3x64x4096.Idx => by
    have h : (j 2).val < 4096 := (j 2).isLt
    omega) f
theorem dealA (d : Dev nD) (f : Vec F S12288 .f32) : ((SparseCore.T d).loc main_v19_0 ↦{fullShare} f : sProp (M F))
    = bigSep Finset.univ fun c : Fin 2 => bigSep Finset.univ fun s : Fin 16 => rA.view.loc (thr d (co c s)) ↦[ownA (wid (co c s))]{fullShare} f :=
  deal (ℓ := (SparseCore.T d).loc main_v19_0) (fun j : S12288.Idx => (j 0).val / 384) (fun j : S12288.Idx => by
    have h : (j 0).val < 12288 := (j 0).isLt
    omega) f
theorem dealG (d : Dev nD) (f : Vec F S262144 .f32) : ((SparseCore.T d).loc main_v19_1 ↦{fullShare} f : sProp (M F))
    = bigSep Finset.univ fun c : Fin 2 => bigSep Finset.univ fun s : Fin 16 => rG.view.loc (thr d (co c s)) ↦[ownG (wid (co c s))]{fullShare} f :=
  deal (ℓ := (SparseCore.T d).loc main_v19_1) (fun j : S262144.Idx => (j 0).val / 8192) (fun j : S262144.Idx => by
    have h : (j 0).val < 262144 := (j 0).isLt
    omega) f
theorem dealL (d : Dev nD) (f : Vec F S262144 .f32) : ((SparseCore.T d).loc main_v19_2 ↦{fullShare} f : sProp (M F))
    = bigSep Finset.univ fun c : Fin 2 => bigSep Finset.univ fun s : Fin 16 => rL.view.loc (thr d (co c s)) ↦[ownG (wid (co c s))]{fullShare} f :=
  deal (ℓ := (SparseCore.T d).loc main_v19_2) (fun j : S262144.Idx => (j 0).val / 8192) (fun j : S262144.Idx => by
    have h : (j 0).val < 262144 := (j 0).isLt
    omega) f

/-- The six arrays dealt to the tiles, at any contents. -/
theorem six_dealt (d : Dev nD) (W : Valuation τ sig (Elt F)) :
    (StableHlo.held (T d) six W : sProp (M F))
      = bigSep Finset.univ fun c : Fin 2 => bigSep Finset.univ fun s : Fin 16 =>
          iprop(insT d (co c s) (W b15) (W b16) (W b18) ∗ outsT d (co c s) (W bA) (W bG) (W bL)) := by
  unfold StableHlo.held six
  rw [SparseCore.bigSep_insert' (by decide), SparseCore.bigSep_insert' (by decide), SparseCore.bigSep_insert' (by decide),
    SparseCore.bigSep_insert' (by decide), SparseCore.bigSep_insert' (by decide), bigSep_singleton]
  unfold insT outsT
  simp only [bigSep_sep', assoc_eq]
  have two : ∀ {a a' b b' : sProp (M F)}, a = a' → b = b' → iprop(a ∗ b) = iprop(a' ∗ b') := fun h h' => by rw [h, h']
  exact two (deal15 d (W b15)) (two (deal16 d (W b16)) (two (deal18 d (W b18)) (two (dealA d (W bA)) (two (dealG d (W bG)) (dealL d (W bL))))))

/-- What the call takes, and what it hands back. -/
theorem st_eq (ks : Dev nD → Conts F) (d : Dev nD) (W : Valuation τ sig (Elt F)) (h : ks d = conts W) :
    (bigSep Finset.univ fun c : Fin ((K (F := F)).nCore 0) => (P ks).st 0 d c) = (StableHlo.held (T d) six W : sProp (M F)) := by
  rw [six_dealt]
  show (bigSep (Finset.univ : Finset (Fin 2)) fun c => bigSep Finset.univ fun s : Fin 16 => goT (ks d) d (co c s)) = _
  unfold goT; rw [h]; rfl
theorem dn_eq (ks : Dev nD → Conts F) (d : Dev nD) (W : Valuation τ sig (Elt F)) (h : ks d = conts W) :
    (bigSep Finset.univ fun c : Fin ((K (F := F)).nCore 0) => (P ks).dn 0 d c) = (StableHlo.held (T d) six (afterCall W) : sProp (M F)) := by
  rw [six_dealt, afterCall_A, afterCall_G, afterCall_L, afterCall_of_ne W (b := b15) (by decide) (by decide) (by decide),
    afterCall_of_ne W (b := b16) (by decide) (by decide) (by decide), afterCall_of_ne W (b := b18) (by decide) (by decide) (by decide)]
  show (bigSep (Finset.univ : Finset (Fin 2)) fun c => bigSep Finset.univ fun s : Fin 16 => tdT (ks d) d (co c s)) = _
  unfold tdT; rw [h]; rfl

theorem six_sub : six ⊆ ucRefs τ sig := by
  intro b hb
  have h : ∃ r : Ref sig .tc, r.isScoped = false ∧ b = Proc.devRef .tc r := by
    simp only [six, Finset.mem_insert, Finset.mem_singleton] at hb
    rcases hb with rfl | rfl | rfl | rfl | rfl | rfl <;> exact ⟨_, rfl, rfl⟩
  obtain ⟨r, hr, rfl⟩ := h
  exact Pipeline.devRef_mem_ucRefs hr

/-- The rest of the arrays is untouched by the call. -/
theorem held_rest (d : Dev nD) (W : Valuation τ sig (Elt F)) :
    (StableHlo.held (T d) (ucRefs τ sig \ six) (afterCall W) : sProp (M F)) = StableHlo.held (T d) (ucRefs τ sig \ six) W :=
  StableHlo.held_congr (T d) fun b hb => by
    have hb' := (Finset.mem_sdiff.mp hb).2
    exact afterCall_of_ne W (fun e => hb' (e ▸ by decide)) (fun e => hb' (e ▸ by decide)) (fun e => hb' (e ▸ by decide))

end Cert.KernelIdeal.Gen.Tile

end
-- ==== Proof.Ideal.Launch.lean ====
module

public import proofs.«01_k».proof.Proof.Ideal.Mid
public import proofs.«01_k».proof.Proof.Ideal.Deal

@[expose] public section

noncomputable section

namespace Cert.KernelIdeal.Gen.Tile

open Idealize.ShloMosaic Idealize.ShloMosaic.TcCoe
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation RegionSeg arrRef arrRefs afterRegion ucRefs scopedRest)

variable {F : FTy → Type} [FloatOps F] (m : (ℓ : Loc nD τ sig) → Buf (Elt F) ℓ)

/-! ## The arrays along @main -/

def W0 (d : Dev nD) : Valuation τ sig (Elt F) := fun b => m (d, b)
def W1 (d : Dev nD) : Valuation τ sig (Elt F) := StableHlo.after ops0 (W0 m d)
def W2 (d : Dev nD) : Valuation τ sig (Elt F) := afterRegion (dat0 (W1 m) d) (W1 m d)
def W3 (d : Dev nD) : Valuation τ sig (Elt F) := StableHlo.after ops1 (W2 m d)
def W4 (d : Dev nD) : Valuation τ sig (Elt F) := afterRegion (dat1 (W3 m) d) (W3 m d)
def W5 (d : Dev nD) : Valuation τ sig (Elt F) := StableHlo.after ops2 (W4 m d)
def W6 (d : Dev nD) : Valuation τ sig (Elt F) := afterCall (W5 m d)
def W7 (d : Dev nD) : Valuation τ sig (Elt F) := StableHlo.after ops3 (W6 m d)

/-- The contents the tiles work on. -/
def ks (d : Dev nD) : Conts F := conts (W5 m d)

/-- The two pipelines' proof data. -/
def pd : (p : Fin 2) → (c : Dev nD) → Dat τ (Elt F) (HIx 1) ℕ UU ℕ (cfgs p) c
  | ⟨0, _⟩ => dat0 (W1 m)
  | ⟨1, _⟩ => dat1 (W3 m)

theorem body_at0 (c : Dev nD) : BodyObligation (pd m 0 c) (defs₀ (F := F)) 𝒱₀ none Set.univ := body0 (W1 m) c
theorem body_at1 (c : Dev nD) : BodyObligation (pd m 1 c) (defs₀ (F := F)) 𝒱₀ none Set.univ := body1 (W3 m) c

def region0 : RegionSeg (pcfgs (F := F)) adm (pd m) none defs₀ 𝒱₀ ((K (F := F)).L (N := 1)) ((K (F := F)).lev (N := 1)) 0 :=
  region (pd m) 0 launch0 (W1 m) (body_at0 m) (fun _ _ => rfl) (fun _ _ => rfl)
    (fun c => (dat0 (W1 m) c).share_full fun _ => rfl) (fun _ _ => rfl) (fun _ _ => rfl)
def region1 : RegionSeg (pcfgs (F := F)) adm (pd m) none defs₀ 𝒱₀ ((K (F := F)).L (N := 1)) ((K (F := F)).lev (N := 1)) 1 :=
  region (pd m) 1 launch1 (W3 m) (body_at1 m) (fun _ _ => rfl) (fun _ _ => rfl)
    (fun c => (dat1 (W3 m) c).share_full fun _ => rfl) (fun _ _ => rfl) (fun _ _ => rfl)

theorem pre0 (c : Dev nD) : (region0 m).pre c = carried (W1 m c) c := rfl
theorem post0 (c : Dev nD) : (region0 m).post c = carried (W2 m c) c := rfl
theorem pre1 (c : Dev nD) : (region1 m).pre c = carried (W3 m c) c := rfl
theorem post1 (c : Dev nD) : (region1 m).post c = carried (W4 m c) c := rfl

/-! ## The launch element -/

/-- A pipeline's ghost state on a device. -/
def ghost (p : Fin 2) (d : Dev nD) : sProp (M F) :=
  iprop(Pipeline.cellsGhost (Pipeline.pin (pcfgs (F := F)) adm) EP p d ∗ Pipeline.toksInit (Pipeline.pin (pcfgs (F := F)) adm) EP p d)

/-- What @main on a device takes of it. -/
def G (d : Dev nD) : sProp (M F) := iprop(ghost 0 d ∗ ghost 1 d)

def uP : UP := initOf (Pipeline.cells (nD := nD) (τ := τ) (Pipeline.pin (pcfgs (F := F)) adm) cellOf_inj)
  (Pipeline.launchToks (nD := nD) (τ := τ) (Pipeline.pin (pcfgs (F := F)) adm) cellOf_inj)
def u₀ : UU := (initOf (K (F := F)).hsCells (K (F := F)).hsToks, (uP (F := F), 1))

theorem bigSep_emp' {I : Type} (s : Finset I) : (bigSep s fun _ => iprop(emp)) = (iprop(emp) : sProp (M F)) := bigSep_emp_const s

theorem ghosts (d : Dev nD) : iprop((bigSep Finset.univ fun p : Fin 2 => Pipeline.cellsGhost (Pipeline.pin (pcfgs (F := F)) adm) EP p d)
      ∗ bigSep Finset.univ fun p : Fin 2 => Pipeline.toksInit (Pipeline.pin (pcfgs (F := F)) adm) EP p d) ⊢ (G d : sProp (M F)) := by
  rw [← bigSep_sep', show (Finset.univ : Finset (Fin 2)) = {0, 1} by decide, SparseCore.bigSep_insert' (by decide), bigSep_singleton]
  exact .rfl

theorem own_right : (BI.own ((embR : Emb (UP × Counters) (M F)) (uP (F := F), 1)) : sProp (M F)) ⊢ BI.own (EP (uP (F := F))) := .rfl

theorem hu₀ (ks : Dev nD → Conts F) : (ownU (u₀ (F := F)) : sProp (M F))
    ⊢ |={Set.univ}=> iprop(BI.own (EH (initOf (K (F := F)).hsCells (K (F := F)).hsToks)) ∗ (bigSep Finset.univ fun d : Dev nD => G d)
        ∗ bigSep Finset.univ fun thr : Thread nD τ => bigSep Finset.univ fun q : Fin 1 => (P ks).x q thr) := by
  unfold u₀
  iintro Hu
  ihave H := (ownU_pair _ _) $$ Hu
  icases H with ⟨HH, HP⟩
  ihave HP := own_right (F := F) $$ HP
  unfold uP
  imod (Pipeline.fund_ghost (Pipeline.pin (pcfgs (F := F)) adm) EP cellOf_inj) $$ HP with ⟨Hg, Ht⟩
  imodintro
  isplitl [HH]; · iexact HH
  isplitl [Hg Ht]
  · have h : iprop((bigSep Finset.univ fun d : Dev nD => bigSep Finset.univ fun p : Fin 2 => Pipeline.cellsGhost (Pipeline.pin (pcfgs (F := F)) adm) EP p d)
        ∗ bigSep Finset.univ fun d : Dev nD => bigSep Finset.univ fun p : Fin 2 => Pipeline.toksInit (Pipeline.pin (pcfgs (F := F)) adm) EP p d)
        ⊢ (bigSep Finset.univ fun d : Dev nD => G d : sProp (M F)) := by
      rw [← bigSep_sep']
      exact bigSep_mono fun d _ => ghosts d
    iapply h $$ [Hg Ht]
    isplitl [Hg] <;> iassumption
  unfold P; dsimp only
  rw [show (bigSep Finset.univ fun _ : Thread nD τ => bigSep Finset.univ fun _ : Fin 1 => (iprop(emp) : sProp (M F))) = iprop(emp) from by
    rw [bigSep_congr fun _ _ => bigSep_emp' _, bigSep_emp']]
  iempintro

/-! ## @main on the TensorCore -/

theorem ops0_sub : ∀ op ∈ ops0 (F := F), op.bufs ⊆ ucRefs τ sig := by
  intro op h
  refine Pipeline.sub_ucRefs op ?_
  simp only [ops0, List.mem_cons, List.not_mem_nil, _root_.or_false] at h
  rcases h with rfl | rfl | rfl | rfl | rfl | rfl | rfl | rfl | rfl <;>
    first | exact StableHlo.unary_bufs_sub .. | exact StableHlo.reshape_bufs_sub .. | exact StableHlo.nary_bufs_sub ..
theorem ops1_sub : ∀ op ∈ ops1 (F := F), op.bufs ⊆ ucRefs τ sig := by
  intro op h
  refine Pipeline.sub_ucRefs op ?_
  simp only [ops1, List.mem_cons, List.not_mem_nil, _root_.or_false] at h
  rcases h with rfl | rfl | rfl | rfl <;> first | exact StableHlo.unary_bufs_sub .. | exact StableHlo.reshape_bufs_sub ..
theorem ops2_sub : ∀ op ∈ ops2 (F := F), op.bufs ⊆ ucRefs τ sig := by
  intro op h
  refine Pipeline.sub_ucRefs op ?_
  simp only [ops2, List.mem_cons, List.not_mem_nil, _root_.or_false] at h
  rcases h with rfl | rfl | rfl | rfl <;> first | exact StableHlo.unary_bufs_sub .. | exact StableHlo.reshape_bufs_sub ..
theorem ops3_sub : ∀ op ∈ ops3 (F := F), op.bufs ⊆ ucRefs τ sig := by
  intro op h
  refine Pipeline.sub_ucRefs op ?_
  simp only [ops3, List.mem_cons, List.not_mem_nil, _root_.or_false] at h
  rcases h with rfl | rfl | rfl <;> first | exact StableHlo.unary_bufs_sub .. | exact StableHlo.reshape_bufs_sub ..
theorem ops0_fresh : ∀ op ∈ ops0 (F := F), op.fresh = ∅ := by
  intro _ h; (repeat (cases h with | head => rfl | tail _ h => ?_)); exact nomatch h
theorem ops1_fresh : ∀ op ∈ ops1 (F := F), op.fresh = ∅ := by
  intro _ h; (repeat (cases h with | head => rfl | tail _ h => ?_)); exact nomatch h
theorem ops2_fresh : ∀ op ∈ ops2 (F := F), op.fresh = ∅ := by
  intro _ h; (repeat (cases h with | head => rfl | tail _ h => ?_)); exact nomatch h
theorem ops3_fresh : ∀ op ∈ ops3 (F := F), op.fresh = ∅ := by
  intro _ h; (repeat (cases h with | head => rfl | tail _ h => ?_)); exact nomatch h

attribute [local irreducible] ops0 ops1 ops2 ops3 W1 W2 W3 W4 W5 W6

set_option backward.isDefEq.respectTransparency.types false in
/-- A dense call on device `d`'s TensorCore, at @main's definitions. -/
theorem wp_region {p : Fin 2} (R : RegionSeg (pcfgs (F := F)) adm (pd m) none defs₀ 𝒱₀ ((K (F := F)).L (N := 1)) ((K (F := F)).lev (N := 1)) p)
    [∀ e, Nonempty (Elt F e)] (d : Dev nD) (Q : PUnit → sProp (M F)) :
    iprop((iprop(boundary (d.tc : Thread nD τ) ∗ R.post d) -∗ Q ⟨⟩)
        ∗ boundary (d.tc : Thread nD τ) ∗ R.pre d ∗ levAts (K (F := F)).L ((K (F := F)).lev (N := 1)) ∗ ghost p d)
      ⊢ wp frame (wpE ((K (F := F)).defs (D (F := F))) 𝒱 (d.tc : Thread nD τ) none) Set.univ
          (Prog.lift (.customCall (SparseCore.inner (Pipeline.entry p)) ())) Q := by
  refine BI.Entails.trans ?_ ((K (F := F)).wp_liftProg (D (F := F)) 𝒱 (d.tc : Thread nD τ) Set.univ none (Prog.lift (.customCall (Pipeline.entry p) ())) Q)
  have h : iprop((iprop(boundary (d.tc : Thread nD τ) ∗ R.post d) -∗ Q ⟨⟩)
        ∗ boundary (d.tc : Thread nD τ) ∗ R.pre d ∗ levAts (K (F := F)).L ((K (F := F)).lev (N := 1)) ∗ ghost p d)
      ⊢ iprop((iprop(boundary (d.tc : Thread nD τ) ∗ R.post d)
          -∗ wp frame (wpE (D (F := F)) 𝒱 (d.tc : Thread nD τ) none) Set.univ (.ret ⟨⟩) Q)
        ∗ boundary (d.tc : Thread nD τ) ∗ R.pre d ∗ levAts (K (F := F)).L ((K (F := F)).lev (N := 1))
        ∗ Pipeline.cellsGhost (Pipeline.pin (pcfgs (F := F)) adm) EP p d ∗ Pipeline.toksInit (Pipeline.pin (pcfgs (F := F)) adm) EP p d) := by
    unfold ghost
    iintro ⟨Hk, Hb, Hp, Hl, Hg, Ht⟩
    isplitl [Hk]
    · iintro H
      rw [wp_ret]; imodintro
      iapply Hk; iexact H
    isplitl [Hb]; · iexact Hb
    isplitl [Hp]; · iexact Hp
    isplitl [Hl]; · iexact Hl
    isplitl [Hg] <;> iassumption
  exact h.trans (Pipeline.RegionSeg.wp (pcfgs (F := F)) adm (pd m) none cellOf_inj EP defs₀ 𝒱₀ _ _ R d none (fun _ h => nomatch h) (fun x => .ret x) Q)

/-- What @main leaves: every array of the TensorCore, at its last contents. -/
def FIN (d : Dev nD) : sProp (M F) := StableHlo.held (T d) (ucRefs τ sig) (W7 m d)

variable (ρ : Dev nD → PrngReg)

/-- What the TensorCore owes before the SparseCores start, apart from the rest of its state. -/
theorem tcSt_owes (d : Dev nD) : ((K (F := F)).tcSt EH d 0 : sProp (M F)) ⊢ iprop((∃ R, ⌜(K (F := F)).WBelow (N := 1) (T d) R 0⌝ ∗ owes (T d) ((K (F := F)).Otc (N := 1) d 0) R)
    ∗ ((∃ R, ⌜(K (F := F)).WBelow (N := 1) (T d) R 0⌝ ∗ owes (T d) ((K (F := F)).Otc (N := 1) d 0) R) -∗ (K (F := F)).tcSt EH d 0)) := by
  unfold SparseCore.Cfg.tcSt
  iintro ⟨HO, H⟩
  isplitl [HO]; · iexact HO
  iintro HO
  isplitl [HO] <;> iassumption

theorem held_six (d : Dev nD) (W : Valuation τ sig (Elt F)) :
    (StableHlo.held (T d) (ucRefs τ sig) W : sProp (M F)) = iprop(StableHlo.held (T d) six W ∗ StableHlo.held (T d) (ucRefs τ sig \ six) W) :=
  StableHlo.held_sub_split (T d) six_sub W

set_option backward.isDefEq.respectTransparency.types false in
theorem hmain [∀ e, Nonempty (Elt F e)] (κ : GSem nD τ sig → ℕ) (d : Dev nD) :
    iprop((K (F := F)).ctx EH (P (ks m)) κ ∗ (K (F := F)).tcSt EH d 0 ∗ (K (F := F)).tcRes m ρ d ∗ G d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd G
  rw [show (unscopedBufs d (fun b => m ((SparseCore.T d).loc b)) : sProp (M F)) = StableHlo.held (d.tc : Thread nD τ) (ucRefs τ sig) (W0 m d)
    from Pipeline.unscopedBufs_held d (W0 m d), main_eq]
  iintro ⟨#Hctx, Hst, ⟨Hb, Hh, Hts, -⟩, ⟨Hg0, Hg1⟩⟩
  ihave #Hlev := (SparseCore.Cfg.ctx_levAts κ) $$ Hctx
  ihave H := tcSt_owes d $$ Hst
  icases H with ⟨HO, Hst⟩
  -- the first stretch of host operations
  iapply (StableHlo.wp_seq 𝒱 none Set.univ d (ucRefs τ sig) _ ops0 ops0_sub ops0_fresh (W0 m d)) $$ [Hb Hh]
  · isplitl [Hb] <;> iassumption
  iintro ⟨Hb, Hh⟩
  rw [wp_bind]
  iapply (wp_region m (region0 m) d _)
  isplitl [Hst Hg1 Hts]
  swap
  · isplitl [Hb]; · iexact Hb
    isplitl [Hh HO]
    · rw [pre0]; unfold carried
      isplitl [Hh]
      · rw [W1]; iexact Hh
      iexact HO
    isplitr; · iexact Hlev
    iexact Hg0
  rw [post0]; unfold carried
  iintro ⟨Hb, Hh, HO⟩
  iapply (StableHlo.wp_seq 𝒱 none Set.univ d (ucRefs τ sig) _ ops1 ops1_sub ops1_fresh (W2 m d)) $$ [Hb Hh]
  · isplitl [Hb] <;> iassumption
  iintro ⟨Hb, Hh⟩
  rw [wp_bind]
  iapply (wp_region m (region1 m) d _)
  isplitl [Hst Hts]
  swap
  · isplitl [Hb]; · iexact Hb
    isplitl [Hh HO]
    · rw [pre1]; unfold carried
      isplitl [Hh]
      · rw [W3]; iexact Hh
      iexact HO
    isplitr; · iexact Hlev
    iexact Hg1
  rw [post1]; unfold carried
  iintro ⟨Hb, Hh, HO⟩
  ihave Hst := Hst $$ HO
  iapply (StableHlo.wp_seq 𝒱 none Set.univ d (ucRefs τ sig) _ ops2 ops2_sub ops2_fresh (W4 m d)) $$ [Hb Hh]
  · isplitl [Hb] <;> iassumption
  iintro ⟨Hb, Hh⟩
  rw [wp_bind]
  ihave Hh := (Entails.of_eq ((congrArg (StableHlo.held (T d) (ucRefs τ sig)) (show StableHlo.after ops2 (W4 m d) = W5 m d by rw [W5])).trans (held_six d (W5 m d)))) $$ Hh
  icases Hh with ⟨H6, Hh⟩
  iapply ((K (F := F)).wp_run (D (F := F)) 𝒱 (EH := EH) (P := P (ks m)) κ d 0)
  isplitr; · iexact Hctx
  isplitl [Hst]; · iexact Hst
  isplitl [H6]
  · rw [st_eq (ks m) d (W5 m d) rfl]; iexact H6
  iintro ⟨Hst, Hdn⟩
  ihave H6 := (Entails.of_eq (dn_eq (ks m) d (W5 m d) rfl)) $$ Hdn
  ihave Hh := (Entails.of_eq (held_rest d (W5 m d)).symm) $$ Hh
  ihave Hh := (Entails.of_eq (held_six d (afterCall (W5 m d))).symm) $$ [H6 Hh]
  · isplitl [H6] <;> iassumption
  iapply (StableHlo.wp_seq 𝒱 none Set.univ d (ucRefs τ sig) _ ops3 ops3_sub ops3_fresh (afterCall (W5 m d))) $$ [Hb Hh]
  · isplitl [Hb] <;> iassumption
  iintro ⟨Hb, Hh⟩
  rw [wp_pure]; imodintro
  isplitl [Hst]; · iexact Hst
  isplitl [Hh]
  · unfold FIN; rw [W7, W6]; iexact Hh
  isplitl [Hb] <;> iassumption

/-! ## The end of the run -/

def fq (d : Dev nD) (s' : Phys nD τ sig (Elt F)) : Prop := ∀ r : Ref sig .tc, r.isScoped = false →
  s'.mem.mem ((SparseCore.T d).loc r) = W7 m d (Proc.devRef .tc r)

theorem hfin (d : Dev nD) (s' : Phys nD τ sig (Elt F)) : iprop(FIN m d ∗ SI s') ⊢ (⌜fq m d s'⌝ : sProp (M F)) := by
  have one : ∀ r : Ref sig .tc, iprop(FIN m d ∗ SI s') ⊢ (⌜r.isScoped = false → s'.mem.mem ((SparseCore.T d).loc r) = W7 m d (Proc.devRef .tc r)⌝ : sProp (M F)) := by
    intro r
    by_cases hr : r.isScoped = false
    · unfold FIN
      rw [StableHlo.held_sub_split (T d) (Finset.singleton_subset_iff.mpr (Pipeline.devRef_mem_ucRefs (τ := τ) hr)) (W7 m d)]
      unfold StableHlo.held
      rw [bigSep_singleton]
      iintro ⟨⟨Hx, -⟩, HSI⟩
      ihave H := (SI_pointsTo_agree (st := s') (ℓ := (SparseCore.T d).loc r) (I := Finset.univ) (q := fullShare) (f := W7 m d (Proc.devRef .tc r))) $$ [HSI Hx]
      · isplitl [HSI] <;> iassumption
      icases H with %hx
      ipureintro; exact fun _ => funext fun i => hx i (Finset.mem_univ i)
    · iintro -
      ipureintro; exact fun h => absurd h hr
  exact (forall_intro one).trans pure_forall.2

/-- Every run ends, with every semaphore at zero and every array of the TensorCore at its last contents. -/
def QC : PUnit × MemSt nD τ sig (Elt F) → Prop := fun r =>
  (∀ (d : Dev nD) (b : Ref sig .tc), b.isScoped = false → r.2.mem ((SparseCore.T d).loc b) = W7 m d (Proc.devRef .tc b)) ∧ r.2.sem = fun _ => 0

theorem run_main [∀ e, Nonempty (Elt F e)] : θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P (ks m)) (A := ∅) kfacts v₀
    (fun q hq => match q with | 0 => nomatch hq)
    (fun q _ => match q with | 0 => tileObl (ks m))
    (fun q _ => match q with | 0 => SparseCore.Cfg.VecSplit.of_plain (vecSplit (ks m)))
    m ρ main G (FIN m) (u₀ (F := F)) (sep_elim_left.trans (hu₀ (ks m))) (hmain m ρ) (fq m) (hfin m) (QC m) (fun _ h hz => ⟨h, hz⟩)

end Cert.KernelIdeal.Gen.Tile

end
-- ==== Proof.Ideal.Kept.lean ====
module

public import proofs.«01_k».proof.Proof.Ideal.Launch

@[expose] public section

noncomputable section

namespace Cert.KernelIdeal.Gen.Tile

open Idealize.ShloMosaic Idealize.ShloMosaic.TcCoe
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation RegionSeg arrRef arrRefs afterRegion ucRefs scopedRest)

variable {F : FTy → Type} [FloatOps F]

/-! ## What each stretch of @main leaves alone -/

theorem kept0 (W : Valuation τ sig (Elt F)) (b : Ref sig .tc)
    (hb : b ≠ main_v0 ∧ b ≠ main_v1 ∧ b ≠ main_v2 ∧ b ≠ main_v3 ∧ b ≠ main_v4 ∧ b ≠ main_v5 ∧ b ≠ main_v6 ∧ b ≠ main_v7 ∧ b ≠ main_v8) :
    StableHlo.after ops0 W (Proc.devRef .tc b) = W (Proc.devRef .tc b) := by
  obtain ⟨h0, h1, h2, h3, h4, h5, h6, h7, h8⟩ := hb
  refine StableHlo.after_of_forall_not_mem (b := Proc.devRef .tc b) ops0 W fun op hop => ?_
  simp only [ops0, List.mem_cons, List.not_mem_nil, _root_.or_false] at hop
  rcases hop with rfl | rfl | rfl | rfl | rfl | rfl | rfl | rfl | rfl <;>
    simp only [StableHlo.unary_writes, StableHlo.reshape_writes, StableHlo.nary_writes, Finset.mem_singleton] <;>
    exact StableHlo.devRef_ne_of_ne ‹_›

theorem kept1 (W : Valuation τ sig (Elt F)) (b : Ref sig .tc) (hb : b ≠ main_v10 ∧ b ≠ main_v11 ∧ b ≠ main_v12 ∧ b ≠ main_v13) :
    StableHlo.after ops1 W (Proc.devRef .tc b) = W (Proc.devRef .tc b) := by
  obtain ⟨h0, h1, h2, h3⟩ := hb
  refine StableHlo.after_of_forall_not_mem (b := Proc.devRef .tc b) ops1 W fun op hop => ?_
  simp only [ops1, List.mem_cons, List.not_mem_nil, _root_.or_false] at hop
  rcases hop with rfl | rfl | rfl | rfl <;>
    simp only [StableHlo.unary_writes, StableHlo.reshape_writes, Finset.mem_singleton] <;>
    exact StableHlo.devRef_ne_of_ne ‹_›

theorem kept2 (W : Valuation τ sig (Elt F)) (b : Ref sig .tc) (hb : b ≠ main_v15 ∧ b ≠ main_v16 ∧ b ≠ main_v17 ∧ b ≠ main_v18) :
    StableHlo.after ops2 W (Proc.devRef .tc b) = W (Proc.devRef .tc b) := by
  obtain ⟨h0, h1, h2, h3⟩ := hb
  refine StableHlo.after_of_forall_not_mem (b := Proc.devRef .tc b) ops2 W fun op hop => ?_
  simp only [ops2, List.mem_cons, List.not_mem_nil, _root_.or_false] at hop
  rcases hop with rfl | rfl | rfl | rfl <;>
    simp only [StableHlo.unary_writes, StableHlo.reshape_writes, Finset.mem_singleton] <;>
    exact StableHlo.devRef_ne_of_ne ‹_›

theorem kept3 (W : Valuation τ sig (Elt F)) (b : Ref sig .tc) (hb : b ≠ main_v20 ∧ b ≠ main_v21 ∧ b ≠ main_v22) :
    StableHlo.after ops3 W (Proc.devRef .tc b) = W (Proc.devRef .tc b) := by
  obtain ⟨h0, h1, h2⟩ := hb
  refine StableHlo.after_of_forall_not_mem (b := Proc.devRef .tc b) ops3 W fun op hop => ?_
  simp only [ops3, List.mem_cons, List.not_mem_nil, _root_.or_false] at hop
  rcases hop with rfl | rfl | rfl <;>
    simp only [StableHlo.reshape_writes, Finset.mem_singleton] <;>
    exact StableHlo.devRef_ne_of_ne ‹_›

theorem kept_region0 (V : Dev nD → Valuation τ sig (Elt F)) (d : Dev nD) (b : Ref sig .tc) (hb : b ≠ main_v9) :
    afterRegion (dat0 V d) (V d) (Proc.devRef .tc b) = V d (Proc.devRef .tc b) :=
  Pipeline.afterRegion_keeps (dat0 V d) (V d) winFacts0.arr_inj (fun _ => rfl) b fun w hw => by
    revert hw
    match w with
    | ⟨0, _⟩ | ⟨1, _⟩ | ⟨2, _⟩ | ⟨3, _⟩ => exact fun _ => rfl
    | ⟨4, _⟩ => exact fun h => absurd h.symm hb

theorem kept_region1 (V : Dev nD → Valuation τ sig (Elt F)) (d : Dev nD) (b : Ref sig .tc) (hb : b ≠ main_v14) :
    afterRegion (dat1 V d) (V d) (Proc.devRef .tc b) = V d (Proc.devRef .tc b) :=
  Pipeline.afterRegion_keeps (dat1 V d) (V d) winFacts1.arr_inj (fun _ => rfl) b fun w hw => by
    revert hw
    match w with
    | ⟨0, _⟩ | ⟨1, _⟩ | ⟨2, _⟩ | ⟨3, _⟩ | ⟨4, _⟩ => exact fun _ => rfl
    | ⟨5, _⟩ => exact fun h => absurd h.symm hb

theorem kept_call (W : Valuation τ sig (Elt F)) (b : Ref sig .tc) (hb : b ≠ main_v19_0 ∧ b ≠ main_v19_1 ∧ b ≠ main_v19_2) :
    afterCall W (Proc.devRef .tc b) = W (Proc.devRef .tc b) :=
  afterCall_of_ne W (StableHlo.devRef_ne_of_ne hb.1) (StableHlo.devRef_ne_of_ne hb.2.1) (StableHlo.devRef_ne_of_ne hb.2.2)

variable (m : (ℓ : Loc nD τ sig) → Buf (Elt F) ℓ)

/-- An argument is written by nothing in @main. -/
theorem W7_arg (d : Dev nD) (b : Ref sig .tc)
    (hb : b ∈ ([main_arg0, main_arg1, main_arg2, main_arg3, main_arg4, main_arg5, main_arg6, main_arg7, main_arg8, main_arg9] : List (Ref sig .tc))) :
    W7 m d (Proc.devRef .tc b) = m ((SparseCore.T d).loc b) := by
  have h : b.isScoped = false ∧ (b ≠ main_v0 ∧ b ≠ main_v1 ∧ b ≠ main_v2 ∧ b ≠ main_v3 ∧ b ≠ main_v4 ∧ b ≠ main_v5 ∧ b ≠ main_v6 ∧ b ≠ main_v7 ∧ b ≠ main_v8)
      ∧ b ≠ main_v9 ∧ (b ≠ main_v10 ∧ b ≠ main_v11 ∧ b ≠ main_v12 ∧ b ≠ main_v13) ∧ b ≠ main_v14
      ∧ (b ≠ main_v15 ∧ b ≠ main_v16 ∧ b ≠ main_v17 ∧ b ≠ main_v18) ∧ (b ≠ main_v19_0 ∧ b ≠ main_v19_1 ∧ b ≠ main_v19_2)
      ∧ (b ≠ main_v20 ∧ b ≠ main_v21 ∧ b ≠ main_v22) := by
    simp only [List.mem_cons, List.not_mem_nil, _root_.or_false] at hb
    rcases hb with rfl | rfl | rfl | rfl | rfl | rfl | rfl | rfl | rfl | rfl <;> decide
  obtain ⟨-, h0, h9, h1, h14, h2, hc, h3⟩ := h
  rw [W7, kept3 _ b h3, W6, kept_call _ b hc, W5, kept2 _ b h2, W4, kept_region1 (W3 m) d b h14, W3, kept1 _ b h1, W2,
    kept_region0 (W1 m) d b h9, W1, kept0 _ b h0]
  rfl

theorem arg_kept {r : PUnit × MemSt nD τ sig (Elt F)} (h : QC m r) (d : Dev nD) (b : Ref sig .tc)
    (hb : b ∈ ([main_arg0, main_arg1, main_arg2, main_arg3, main_arg4, main_arg5, main_arg6, main_arg7, main_arg8, main_arg9] : List (Ref sig .tc))) :
    r.2.mem ((SparseCore.T d).loc b) = m ((SparseCore.T d).loc b) := by
  rw [h.1 d b ?_, W7_arg m d b hb]
  simp only [List.mem_cons, List.not_mem_nil, _root_.or_false] at hb
  rcases hb with rfl | rfl | rfl | rfl | rfl | rfl | rfl | rfl | rfl | rfl <;> rfl

/-- The run's postcondition: the arguments as launched, every semaphore at zero. -/
theorem args_quiet {r : PUnit × MemSt nD τ sig (Elt F)} (h : QC m r) :
    (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
    ∧ r.2.sem = fun _ => 0 :=
  ⟨fun c => ⟨arg_kept m h c main_arg0 (by decide), arg_kept m h c main_arg1 (by decide), arg_kept m h c main_arg2 (by decide),
    arg_kept m h c main_arg3 (by decide), arg_kept m h c main_arg4 (by decide), arg_kept m h c main_arg5 (by decide),
    arg_kept m h c main_arg6 (by decide), arg_kept m h c main_arg7 (by decide), arg_kept m h c main_arg8 (by decide),
    arg_kept m h c main_arg9 (by decide)⟩, h.2⟩

end Cert.KernelIdeal.Gen.Tile

end
-- ==== Proof.Value.Dense.lean ====
/- What the two dense bodies leave in their output blocks, element by element. -/
module

public import proofs.«01_k».proof.Proof.Ideal.Kept
public import Idealize.ShloMosaic.Lib.MatmulPlain
public import Idealize.ShloMosaic.Lib.ValueIdx
public import Idealize.ShloMosaic.Lib.Pipeline.ValueKit
public import Idealize.ShloMosaic.PureOps.Ideal
public import Idealize.ShloMosaic.Lib.Pointwise.Reshape

@[expose] public section

set_option maxRecDepth 16384

noncomputable section

namespace Cert.KernelIdeal.Gen.Tile

open Idealize.ShloMosaic hiding ix1 ix2 ix3
open Idealize.ShloMosaic.TcCoe Idealize.ShloMosaic.ValueIdx
open Idealize.SL.Sem
open Idealize.ShloMosaic.Pipeline (Dat Cfg Window arrRef afterRegion)

/-- A product of two matrices onto zero, at an element. -/
theorem mm {M K N : ℕ} {φ₁ φ₂ : FTy} (d : DotDims ⟨2, ![M, K]⟩ ⟨2, ![K, N]⟩ ⟨2, ![M, N]⟩) (hd : d = DotDims.plain M K N)
    (l : FVec Ideal ⟨2, ![M, K]⟩ φ₁) (r : FVec Ideal ⟨2, ![K, N]⟩ φ₂) (i : Fin M) (j : Fin N) :
    matmul (F := Ideal) d none l r (constant ⟨2, ![M, N]⟩ .f32 0x00000000#32) (ix2 i j) = ∑ k : Fin K, l (ix2 i k) * r (ix2 k j) := by
  subst hd
  refine (Ideal.matmul_plain_apply none l r _ i j).trans ?_
  exact (congrArg (· + _) Ideal.ofBits_zero_f32).trans (zero_add _)

theorem score_pay (x2 : Vec Ideal S256x7 .f32) (x1 : Vec Ideal S7x4096 .f32) (x3 : Vec Ideal S256x1 .f32) (x4 : Vec Ideal S1x256 .f32) (q : Fin 4096) :
    k0_pay1 x2 x1 x3 x4 (ix2 0 q) = ∑ h : Fin 256, x4 (ix2 0 h) * ((∑ k : Fin 7, x2 (ix2 h k) * x1 (ix2 k q)) + x3 (ix2 h 0)) := by
  unfold k0_pay1
  simp only [shapeCast_id]
  refine (mm _ rfl _ _ 0 q).trans (Finset.sum_congr rfl fun h _ => congrArg (x4 (ix2 0 h) * ·) ?_)
  exact congrArg₂ (· + ·) (mm _ rfl _ _ h q) (congrArg x3 (by funext a; fin_cases a <;> rfl))

theorem ctx_pay (x1 : Vec Ideal S256x68 .f32) (x0 : Vec Ideal S68x4096 .f32) (x2 : Vec Ideal S256x1 .f32) (x3 : Vec Ideal S1x256 .f32)
    (x4 : Vec Ideal S1x1 .f32) (q : Fin 4096) :
    k1_pay1 x1 x0 x2 x3 x4 (ix2 0 q)
      = (∑ h : Fin 256, x3 (ix2 0 h) * ((∑ k : Fin 68, x1 (ix2 h k) * x0 (ix2 k q)) + x2 (ix2 h 0))) + x4 (ix2 0 0) := by
  unfold k1_pay1
  simp only [shapeCast_id]
  refine congrArg₂ (· + ·) ((mm _ rfl _ _ 0 q).trans (Finset.sum_congr rfl fun h _ => congrArg (x3 (ix2 0 h) * ·) ?_))
    (congrArg x4 (by funext a; fin_cases a <;> rfl))
  exact congrArg₂ (· + ·) (mm _ rfl _ _ h q) (congrArg x2 (by funext a; fin_cases a <;> rfl))

theorem score_at (x1 : Vec Ideal S7x4096 .f32) (x2 : Vec Ideal S256x7 .f32) (x3 : Vec Ideal S256x1 .f32) (x4 : Vec Ideal S1x256 .f32) (q : Fin 4096) :
    scoreOut x1 x2 x3 x4 (ix2 0 q) = ∑ h : Fin 256, x4 (ix2 0 h) * ((∑ k : Fin 7, x2 (ix2 h k) * x1 (ix2 k q)) + x3 (ix2 h 0)) := by
  refine Eq.trans ?_ (score_pay x2 x1 x3 x4 q)
  unfold scoreOut
  frame_out

theorem ctx_at (x0 : Vec Ideal S68x4096 .f32) (x1 : Vec Ideal S256x68 .f32) (x2 : Vec Ideal S256x1 .f32) (x3 : Vec Ideal S1x256 .f32)
    (x4 : Vec Ideal S1x1 .f32) (q : Fin 4096) :
    ctxOut x0 x1 x2 x3 x4 (ix2 0 q)
      = (∑ h : Fin 256, x3 (ix2 0 h) * ((∑ k : Fin 68, x1 (ix2 h k) * x0 (ix2 k q)) + x2 (ix2 h 0))) + x4 (ix2 0 0) := by
  refine Eq.trans ?_ (ctx_pay x1 x0 x2 x3 x4 q)
  unfold ctxOut
  frame_out

variable (V : Dev nD → Valuation τ sig (Elt Ideal)) (c : Dev nD)

/-- The score of every expert's every token, from the features and the three weights. -/
def scores (x6 : Vec Ideal S7x262144 .f32) (w : Vec Ideal S256x7 .f32) (b : Vec Ideal S256x1 .f32) (s : Vec Ideal S1x256 .f32) : Vec Ideal S1x262144 .f32 :=
  fun j => ∑ h : Fin 256, s (ix2 0 h) * ((∑ k : Fin 7, w (ix2 h k) * x6 (ix2 k (j 1))) + b (ix2 h 0))

theorem idx0 (t : Fin cfg0.N) : (∀ a, win0_0.index t a = ![0, t.val] a) ∧ (∀ a, win0_1.index t a = ![0, 0] a)
    ∧ (∀ a, win0_2.index t a = ![0, 0] a) ∧ (∀ a, win0_3.index t a = ![0, 0] a) ∧ (∀ a, win0_4.index t a = ![0, t.val] a) := by
  revert t; decide +kernel

theorem scores_arr : (dat0 V c).arrAt 4 cfg0.N
    = scores (V c (Proc.devRef .tc main_v6)) (V c (Proc.devRef .tc main_arg6)) (V c (Proc.devRef .tc main_v7)) (V c (Proc.devRef .tc main_v8)) := by
  refine (dat0 V c).arrAt_eq_of_covers 4 _ (by decide +kernel) fun t hf y => ?_
  blk_simp
  rw [after04]
  obtain ⟨a, q, rfl⟩ : ∃ (a : Fin 1) (q : Fin 4096), y = ix2 a q := ⟨y 0, y 1, by funext a; fin_cases a <;> rfl⟩
  obtain rfl : a = 0 := Subsingleton.elim _ _
  refine (score_at _ _ _ _ q).trans ?_
  unfold scores
  blk_simp [blk0]
  refine Finset.sum_congr rfl fun h _ => congrArg₂ (· * ·) (congrArg _ ?_) (congrArg₂ (· + ·)
    (Finset.sum_congr rfl fun k _ => congrArg₂ (· * ·) (congrArg _ ?_) (congrArg _ ?_)) (congrArg _ ?_))
  · blk_ext [idx0 t]
  · blk_ext [idx0 t]
  · blk_ext [idx0 t]
    show _ = ((win0_4.blk t).view.emb (ix2 0 q) 1).val
    blk_simp [idx0 t]
    rfl
  · blk_ext [idx0 t]

/-- The context's term of every token, from the states and the four weights. -/
def ctxs (x : Vec Ideal S68x4096 .f32) (w : Vec Ideal S256x68 .f32) (b : Vec Ideal S256x1 .f32) (s : Vec Ideal S1x256 .f32) (z : Vec Ideal S1x1 .f32) :
    Vec Ideal S1x4096 .f32 :=
  fun j => (∑ h : Fin 256, s (ix2 0 h) * ((∑ k : Fin 68, w (ix2 h k) * x (ix2 k (j 1))) + b (ix2 h 0))) + z (ix2 0 0)

theorem idx1 (t : Fin cfg1.N) : (∀ a, win1_0.index t a = ![0, 0] a) ∧ (∀ a, win1_1.index t a = ![0, 0] a) ∧ (∀ a, win1_2.index t a = ![0, 0] a)
    ∧ (∀ a, win1_3.index t a = ![0, 0] a) ∧ (∀ a, win1_4.index t a = ![0, 0] a) ∧ (∀ a, win1_5.index t a = ![0, 0] a) := by
  revert t; decide +kernel

theorem ctxs_arr : (dat1 V c).arrAt 5 cfg1.N
    = ctxs (V c (Proc.devRef .tc main_v10)) (V c (Proc.devRef .tc main_arg4)) (V c (Proc.devRef .tc main_v11)) (V c (Proc.devRef .tc main_v12))
      (V c (Proc.devRef .tc main_v13)) := by
  refine (dat1 V c).arrAt_eq_of_covers 5 _ (by decide +kernel) fun t hf y => ?_
  blk_simp
  rw [after15]
  obtain ⟨a, q, rfl⟩ : ∃ (a : Fin 1) (q : Fin 4096), y = ix2 a q := ⟨y 0, y 1, by funext a; fin_cases a <;> rfl⟩
  obtain rfl : a = 0 := Subsingleton.elim _ _
  refine (ctx_at _ _ _ _ _ q).trans ?_
  unfold ctxs
  blk_simp [blk1]
  refine congrArg₂ (· + ·) (Finset.sum_congr rfl fun h _ => congrArg₂ (· * ·) (congrArg _ ?_) (congrArg₂ (· + ·)
    (Finset.sum_congr rfl fun k _ => congrArg₂ (· * ·) (congrArg _ ?_) (congrArg _ ?_)) (congrArg _ ?_))) (congrArg _ ?_)
  · blk_ext [idx1 t]
  · blk_ext [idx1 t]
  · blk_ext [idx1 t]
    show _ = ((win1_5.blk t).view.emb (ix2 0 q) 1).val
    blk_simp [idx1 t]
    rfl
  · blk_ext [idx1 t]
  · blk_ext [idx1 t]

end Cert.KernelIdeal.Gen.Tile

end
-- ==== Proof.Value.Arrays.lean ====
/- The arrays @main leaves in its results, as functions of its arguments. -/
module

public import proofs.«01_k».proof.Proof.Value.Dense

@[expose] public section

set_option maxRecDepth 16384

noncomputable section

namespace Cert.KernelIdeal.Gen.Tile

open Idealize.ShloMosaic hiding ix1 ix2 ix3
open Idealize.ShloMosaic.TcCoe Idealize.ShloMosaic.ValueIdx
open Idealize.SL.Sem
open Idealize.ShloMosaic.StableHlo
open Idealize.ShloMosaic.Pipeline (Dat Cfg Window arrRef afterRegion)

variable (m : (ℓ : Loc nD τ sig) → Buf (Elt Ideal) ℓ) (d : Dev nD)

/-- The features of every expert's every token. -/
def feats (x1 : Vec Ideal S4096x64x3 .f32) (x2 x3 : Vec Ideal S4096x64x2 .f32) : Vec Ideal S7x262144 .f32 :=
  concatenate S7x262144 0 [⟨S3x262144, shapeCast S3x262144 (transpose S3x64x4096 [2, 1, 0] x1 transposes_S4096x64x3_S3x64x4096_2_1_0) shapeCasts_S3x64x4096_S3x262144⟩,
    ⟨S2x262144, shapeCast S2x262144 (transpose S2x64x4096 [2, 1, 0] x2 transposes_S4096x64x2_S2x64x4096_2_1_0) shapeCasts_S2x64x4096_S2x262144⟩,
    ⟨S2x262144, shapeCast S2x262144 (transpose S2x64x4096 [2, 1, 0] x3 transposes_S4096x64x2_S2x64x4096_2_1_0) shapeCasts_S2x64x4096_S2x262144⟩]
    concatenates_S3x262144_S2x262144_S2x262144_S7x262144_d0

theorem W1_v6 : W1 m d (Proc.devRef .tc main_v6) = feats (m ((SparseCore.T d).loc main_arg1)) (m ((SparseCore.T d).loc main_arg2)) (m ((SparseCore.T d).loc main_arg3)) := by
  unfold W1 ops0
  after_results_simp
  rfl

theorem W1_v7 : W1 m d (Proc.devRef .tc main_v7) = shapeCast S256x1 (m ((SparseCore.T d).loc main_arg7)) shapeCasts_S256_S256x1 := by
  unfold W1 ops0
  after_results_simp
  rfl

theorem W1_v8 : W1 m d (Proc.devRef .tc main_v8) = extractStridedSlice S1x256 ![0, 0] (m ((SparseCore.T d).loc main_arg8)) slices_S1x512_S1x256_0_0 := by
  unfold W1 ops0
  after_results_simp
  rfl

theorem W1_arg6 : W1 m d (Proc.devRef .tc main_arg6) = m ((SparseCore.T d).loc main_arg6) := by
  rw [W1, kept0 _ main_arg6 (by decide)]; rfl

theorem W2_arg (b : Ref sig .tc) (h9 : b ≠ main_v9)
    (hb : b ≠ main_v0 ∧ b ≠ main_v1 ∧ b ≠ main_v2 ∧ b ≠ main_v3 ∧ b ≠ main_v4 ∧ b ≠ main_v5 ∧ b ≠ main_v6 ∧ b ≠ main_v7 ∧ b ≠ main_v8) :
    W2 m d (Proc.devRef .tc b) = W0 m d (Proc.devRef .tc b) := by
  rw [W2, kept_region0 (W1 m) d b h9, W1, kept0 _ b hb]

theorem W3_v10 : W3 m d (Proc.devRef .tc main_v10) = transpose S68x4096 [1, 0] (m ((SparseCore.T d).loc main_arg0)) transposes_S4096x68_S68x4096_1_0 := by
  have h := W2_arg m d main_arg0 (by decide) (by decide)
  unfold W3
  generalize W2 m d = W at h ⊢
  unfold ops1
  after_results_simp
  rw [h]; rfl

theorem W3_v11 : W3 m d (Proc.devRef .tc main_v11) = shapeCast S256x1 (m ((SparseCore.T d).loc main_arg5)) shapeCasts_S256_S256x1 := by
  have h := W2_arg m d main_arg5 (by decide) (by decide)
  unfold W3
  generalize W2 m d = W at h ⊢
  unfold ops1
  after_results_simp
  rw [h]; rfl

theorem W3_v12 : W3 m d (Proc.devRef .tc main_v12) = extractStridedSlice S1x256 ![0, 256] (m ((SparseCore.T d).loc main_arg8)) slices_S1x512_S1x256_0_256 := by
  have h := W2_arg m d main_arg8 (by decide) (by decide)
  unfold W3
  generalize W2 m d = W at h ⊢
  unfold ops1
  after_results_simp
  rw [h]; rfl

theorem W3_v13 : W3 m d (Proc.devRef .tc main_v13) = shapeCast S1x1 (m ((SparseCore.T d).loc main_arg9)) shapeCasts_S1_S1x1 := by
  have h := W2_arg m d main_arg9 (by decide) (by decide)
  unfold W3
  generalize W2 m d = W at h ⊢
  unfold ops1
  after_results_simp
  rw [h]; rfl

theorem W3_arg4 : W3 m d (Proc.devRef .tc main_arg4) = m ((SparseCore.T d).loc main_arg4) := by
  rw [W3, kept1 _ main_arg4 (by decide), W2_arg m d main_arg4 (by decide) (by decide)]; rfl

/-- The scores and the context's terms the tiles read. -/
def expertScores : Vec Ideal S1x262144 .f32 :=
  scores (feats (m ((SparseCore.T d).loc main_arg1)) (m ((SparseCore.T d).loc main_arg2)) (m ((SparseCore.T d).loc main_arg3))) (m ((SparseCore.T d).loc main_arg6))
    (shapeCast S256x1 (m ((SparseCore.T d).loc main_arg7)) shapeCasts_S256_S256x1)
    (extractStridedSlice S1x256 ![0, 0] (m ((SparseCore.T d).loc main_arg8)) slices_S1x512_S1x256_0_0)

def tokenTerms : Vec Ideal S1x4096 .f32 :=
  ctxs (transpose S68x4096 [1, 0] (m ((SparseCore.T d).loc main_arg0)) transposes_S4096x68_S68x4096_1_0) (m ((SparseCore.T d).loc main_arg4))
    (shapeCast S256x1 (m ((SparseCore.T d).loc main_arg5)) shapeCasts_S256_S256x1)
    (extractStridedSlice S1x256 ![0, 256] (m ((SparseCore.T d).loc main_arg8)) slices_S1x512_S1x256_0_256)
    (shapeCast S1x1 (m ((SparseCore.T d).loc main_arg9)) shapeCasts_S1_S1x1)

theorem W2_v9 : W2 m d (Proc.devRef .tc main_v9) = expertScores m d := by
  unfold W2
  refine (Pipeline.afterRegion_arr (dat0 (W1 m) d) (W1 m d) winFacts0.arr_inj 4).trans ?_
  rw [scores_arr, W1_v6, W1_v7, W1_v8, W1_arg6]
  rfl

theorem W4_v14 : W4 m d (Proc.devRef .tc main_v14) = tokenTerms m d := by
  unfold W4
  refine (Pipeline.afterRegion_arr (dat1 (W3 m) d) (W3 m d) winFacts1.arr_inj 5).trans ?_
  rw [ctxs_arr, W3_v10, W3_v11, W3_v12, W3_v13, W3_arg4]
  rfl

theorem W4_v9 : W4 m d (Proc.devRef .tc main_v9) = expertScores m d := by
  rw [W4, kept_region1 (W3 m) d main_v9 (by decide), W3, kept1 _ main_v9 (by decide), W2_v9]

theorem W4_v6 : W4 m d (Proc.devRef .tc main_v6)
    = feats (m ((SparseCore.T d).loc main_arg1)) (m ((SparseCore.T d).loc main_arg2)) (m ((SparseCore.T d).loc main_arg3)) := by
  rw [W4, kept_region1 (W3 m) d main_v6 (by decide), W3, kept1 _ main_v6 (by decide), W2, kept_region0 (W1 m) d main_v6 (by decide), W1_v6]

theorem W5_15 : W5 m d b15 = shapeCast S64x4096 (expertScores m d) shapeCasts_S1x262144_S64x4096 := by
  have h := W4_v9 m d
  unfold W5
  generalize W4 m d = W at h ⊢
  unfold ops2
  after_results_simp
  rw [h]; rfl

theorem W5_16 : W5 m d b16 = shapeCast S4096 (tokenTerms m d) shapeCasts_S1x4096_S4096 := by
  have h := W4_v14 m d
  unfold W5
  generalize W4 m d = W at h ⊢
  unfold ops2
  after_results_simp
  rw [h]; rfl

/-- The plans the tiles read. -/
def plans : Vec Ideal S3x64x4096 .f32 := shapeCast S3x64x4096 (extractStridedSlice S3x262144 ![0, 0]
  (feats (m ((SparseCore.T d).loc main_arg1)) (m ((SparseCore.T d).loc main_arg2)) (m ((SparseCore.T d).loc main_arg3)))
  slices_S7x262144_S3x262144_0_0) shapeCasts_S3x262144_S3x64x4096

theorem W5_18 : W5 m d b18 = plans m d := by
  have h := W4_v6 m d
  unfold W5
  generalize W4 m d = W at h ⊢
  unfold ops2
  after_results_simp
  rw [h]; rfl

/-- The operands of the tiles' logits. -/
def opS : Vec Ideal S64x4096 .f32 := shapeCast S64x4096 (expertScores m d) shapeCasts_S1x262144_S64x4096
def opC : Vec Ideal S4096 .f32 := shapeCast S4096 (tokenTerms m d) shapeCasts_S1x4096_S4096

theorem W7_20 : W7 m d (Proc.devRef .tc main_v20) = shapeCast S4096x3 (outA (opS m d) (opC m d) (plans m d)) shapeCasts_S12288_S4096x3 := by
  have h : W6 m d bA = outA (opS m d) (opC m d) (plans m d) := by rw [W6, afterCall_A, W5_15, W5_16, W5_18]; rfl
  unfold W7
  generalize W6 m d = W at h ⊢
  unfold ops3
  after_results_simp
  rw [h]; rfl

theorem W7_21 : W7 m d (Proc.devRef .tc main_v21) = shapeCast S4096x64 (outG (opS m d) (opC m d)) shapeCasts_S262144_S4096x64 := by
  have h : W6 m d bG = outG (opS m d) (opC m d) := by rw [W6, afterCall_G, W5_15, W5_16]; rfl
  unfold W7
  generalize W6 m d = W at h ⊢
  unfold ops3
  after_results_simp
  rw [h]; rfl

theorem W7_22 : W7 m d (Proc.devRef .tc main_v22) = shapeCast S4096x64 (outL (opS m d) (opC m d)) shapeCasts_S262144_S4096x64 := by
  have h : W6 m d bL = outL (opS m d) (opC m d) := by rw [W6, afterCall_L, W5_15, W5_16]; rfl
  unfold W7
  generalize W6 m d = W at h ⊢
  unfold ops3
  after_results_simp
  rw [h]; rfl

end Cert.KernelIdeal.Gen.Tile

end
-- ==== Proof.Value.RefTerm.lean ====
/- The reference's results, and the condition on the arguments, as functions of the arguments. -/
module

public import proofs.«01_k».proof.Proof.Gen.ReferenceIdeal.Run
public import proofs.«01_k».proof.Pre_separated
public import Idealize.ShloMosaic.PureOps.Ideal

@[expose] public section

set_option maxRecDepth 16384

noncomputable section

namespace Cert.ReferenceIdeal.Value

open Cert.ReferenceIdeal Cert.ReferenceIdeal.Gen Idealize.ShloMosaic Idealize.ShloMosaic.TcCoe Idealize.SL.Sem Idealize.ShloMosaic.StableHlo

/-- The tokens' parts: the context's and the experts'. -/
def tokenPart (x0 : FVec Ideal S4096x68 .f32) (x4 : FVec Ideal S256x68 .f32) (x5 : FVec Ideal S256 .f32) : FVec Ideal S4096x256 .f32 :=
  addf (Host.dotGeneral dot_S4096x68_S68x256_S4096x256_1_0_0_1_n_n none x0 (transpose S68x256 [1, 0] x4 transposes_S256x68_S68x256_1_0))
    (broadcastInDim S4096x256 ![0, 1] bcast_S1x256_S4096x256_0_1 (broadcastInDim S1x256 ![1] bcast_S256_S1x256_1 x5))

def expertPart (x1 : FVec Ideal S4096x64x3 .f32) (x2 x3 : FVec Ideal S4096x64x2 .f32) (x6 : FVec Ideal S256x7 .f32) (x7 : FVec Ideal S256 .f32) :
    FVec Ideal S4096x64x256 .f32 :=
  addf (Host.dotGeneral dot_S4096x64x7_S7x256_S4096x64x256_2_0_01_1_n_n none
      (concatenate S4096x64x7 2 [⟨S4096x64x3, x1⟩, ⟨S4096x64x2, x2⟩, ⟨S4096x64x2, x3⟩] concatenates_S4096x64x3_S4096x64x2_S4096x64x2_S4096x64x7_d2)
      (transpose S7x256 [1, 0] x6 transposes_S256x7_S7x256_1_0))
    (broadcastInDim S4096x64x256 ![0, 1, 2] bcast_S1x1x256_S4096x64x256_0_1_2 (broadcastInDim S1x1x256 ![2] bcast_S256_S1x1x256_2 x7))

/-- The logits. -/
def logits (x0 : FVec Ideal S4096x68 .f32) (x1 : FVec Ideal S4096x64x3 .f32) (x2 x3 : FVec Ideal S4096x64x2 .f32) (x4 : FVec Ideal S256x68 .f32)
    (x5 : FVec Ideal S256 .f32) (x6 : FVec Ideal S256x7 .f32) (x7 : FVec Ideal S256 .f32) (x8 : FVec Ideal S1x512 .f32) (x9 : FVec Ideal S1 .f32) :
    FVec Ideal S4096x64 .f32 :=
  shapeCast S4096x64 (addf (Host.dotGeneral dot_S4096x64x512_S512x1_S4096x64x1_2_0_01_1_n_n none
      (concatenate S4096x64x512 2 [⟨S4096x64x256, expertPart x1 x2 x3 x6 x7⟩, ⟨S4096x64x256,
        broadcastInDim S4096x64x256 ![0, 1, 2] bcast_S4096x1x256_S4096x64x256_0_1_2 (broadcastInDim S4096x1x256 ![0, 2] bcast_S4096x256_S4096x1x256_0_2 (tokenPart x0 x4 x5))⟩]
        concatenates_S4096x64x256_S4096x64x256_S4096x64x512_d2)
      (transpose S512x1 [1, 0] x8 transposes_S1x512_S512x1_1_0))
    (broadcastInDim S4096x64x1 ![0, 1, 2] bcast_S1x1x1_S4096x64x1_0_1_2 (broadcastInDim S1x1x1 ![2] bcast_S1_S1x1x1_2 x9)))
    shapeCasts_S4096x64x1_S4096x64

/-- The positions an entry of the eight greatest is written to: its row and its expert. -/
def rowNo : IVec S4096x1 32 := broadcastInDim S4096x1 ![0] bcast_S4096_S4096x1_0 (iotaInDim S4096 32 0)
def rowIdx : IVec S4096x1 32 := select (cmpi .slt rowNo (broadcastInDim S4096x1 ![] bcast_S_S4096x1 (constantI S_ 32 0#32)))
  (addi rowNo (broadcastInDim S4096x1 ![] bcast_S_S4096x1 (constantI S_ 32 4096#32))) rowNo
def expertIdx (i : IVec S4096x8 32) : IVec S4096x8 32 := select (cmpi .slt i (broadcastInDim S4096x8 ![] bcast_S_S4096x8 (constantI S_ 32 0#32)))
  (addi i (broadcastInDim S4096x8 ![] bcast_S_S4096x8 (constantI S_ 32 64#32))) i
def places (i : IVec S4096x8 32) : IVec S4096x8x2 32 :=
  concatenate S4096x8x2 2 [⟨S4096x8x1, broadcastInDim S4096x8x1 ![0, 1] bcast_S4096x8_S4096x8x1_0_1 (broadcastInDim S4096x8 ![0, 1] bcast_S4096x1_S4096x8_0_1 rowIdx)⟩,
    ⟨S4096x8x1, broadcastInDim S4096x8x1 ![0, 1] bcast_S4096x8_S4096x8x1_0_1 (expertIdx i)⟩] concatenates_S4096x8x1_S4096x8x1_S4096x8x2_d2

/-- The logits of the eight greatest in place, and minus infinity elsewhere. -/
def kept (l : FVec Ideal S4096x64 .f32) : FVec Ideal S4096x64 .f32 :=
  Host.scatter scatter_S4096x64_S4096x8x2_S4096x8_n_01_01_2 (fun _ b => b) (broadcastInDim S4096x64 ![] bcast_S_S4096x64 (constant S_ .f32 0xFF800000#32))
    (places (Host.topK S4096x8 1 (FloatOps.cmpfTotal (F := Ideal) (φ := .f32) .gt) l sliceFits_S4096x64_S4096x8).2)
    (Host.topK S4096x8 1 (FloatOps.cmpfTotal (F := Ideal) (φ := .f32) .gt) l sliceFits_S4096x64_S4096x8).1

/-- The exponentials of a table's rows, less the row's greatest. -/
def expo (w : FVec Ideal S4096x64 .f32) : FVec Ideal S4096x64 .f32 :=
  Host.exp (subf w (broadcastInDim S4096x64 ![0, 1] bcast_S4096x1_S4096x64_0_1 (broadcastInDim S4096x1 ![0] bcast_S4096_S4096x1_0
    (maximumf (broadcastInDim S4096 ![] bcast_S_S4096 (constant S_ .f32 0xFF800000#32))
      (Host.reduce FloatOps.maximumf w (constant S_ .f32 0xFF800000#32) reducesTo_S4096x64_S4096_d1 h_S_)))))

def softRows (w : FVec Ideal S4096x64 .f32) : FVec Ideal S4096x64 .f32 :=
  Host.divf (expo w) (broadcastInDim S4096x64 ![0, 1] bcast_S4096x1_S4096x64_0_1 (broadcastInDim S4096x1 ![0] bcast_S4096_S4096x1_0
    (Host.reduceAdd (expo w) (constant S_ .f32 0x00000000#32) reducesTo_S4096x64_S4096_d1 h_S_)))

def gates (l : FVec Ideal S4096x64 .f32) : FVec Ideal S4096x64 .f32 := softRows (kept l)

def action (l : FVec Ideal S4096x64 .f32) (x1 : FVec Ideal S4096x64x3 .f32) : FVec Ideal S4096x3 .f32 :=
  Host.dotGeneral dot_S4096x64_S4096x64x3_S4096x3_1_1_n_2_0_0 none (gates l) x1

/-- The logits of the arguments a memory holds. -/
def logitsOf (m : (ℓ : Loc nD τ sig) → Buf (Elt Ideal) ℓ) (c : Dev nD) : FVec Ideal S4096x64 .f32 :=
  logits (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5))
    (m ((c.tc : Thread nD τ).loc main_arg6)) (m ((c.tc : Thread nD τ).loc main_arg7)) (m ((c.tc : Thread nD τ).loc main_arg8))
    (m ((c.tc : Thread nD τ).loc main_arg9))

theorem res_gates (m : (ℓ : Loc nD τ sig) → Buf (Elt Ideal) ℓ) (c : Dev nD) : res_main_v48 m c = gates (logitsOf m c) := by
  unfold res_main_v48; rfl

theorem res_action (m : (ℓ : Loc nD τ sig) → Buf (Elt Ideal) ℓ) (c : Dev nD) :
    res_main_v49 m c = action (logitsOf m c) (m ((c.tc : Thread nD τ).loc main_arg1)) := by
  unfold res_main_v49; rfl

/-- The reference's run: its results are the functions above of its arguments. -/
theorem ref_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v49) = action (logitsOf m c) (m ((c.tc : Thread nD τ).loc main_arg1))
      ∧ r.2.mem ((c.tc : Thread nD τ).loc main_v48) = gates (logitsOf m c)
      ∧ r.2.mem ((c.tc : Thread nD τ).loc main_v19) = logitsOf m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun _ h c => by
    obtain ⟨h49, h48, h19, hr⟩ := h c
    exact ⟨h49.trans (res_action m c), h48.trans (res_gates m c), h19.trans rfl, hr⟩) (run m ρ)

end Cert.ReferenceIdeal.Value
-- ==== Proof.Value.Select.lean ====
/- The eight greatest of sixty-four values, as the tile program finds them: a list of eight kept by insertion for each half, and
   the two lists merged. Where the eighth greatest value is above the ninth, the merged list holds exactly the eight greatest,
   in some order. -/
module

public import proofs.«01_k».proof.Proof.Ideal.Lane
public import Idealize.ShloMosaic.PureOps.Ideal.Laws

@[expose] public section

noncomputable section

namespace Cert.KernelIdeal.Gen.Tile

open Idealize.ShloMosaic

/-- A value beside its index. -/
abbrev Entry := EReal × BitVec 32

def Desc (l : List Entry) : Prop := l.Pairwise fun a b => b.1 ≤ a.1

theorem select_gt (v m : EReal) {α : Type} (a b : α) :
    Scalar.select (FloatOps.cmpf (F := Ideal) (φ := .f32) .ogt v m) a b = if m < v then a else b := by
  show Scalar.select (Ideal.cmp .ogt v m) a b = _
  unfold Ideal.cmp Scalar.select
  by_cases h : m < v <;> simp [h]

theorem select_ge (v m : EReal) {α : Type} (a b : α) :
    Scalar.select (FloatOps.cmpf (F := Ideal) (φ := .f32) .oge v m) a b = if m ≤ v then a else b := by
  show Scalar.select (Ideal.cmp .oge v m) a b = _
  unfold Ideal.cmp Scalar.select
  by_cases h : m ≤ v <;> simp [h]

/-! ## Insertion -/

/-- An insertion keeps all but one entry, and that one is no greater than those kept. -/
theorem ins_spec (l : List Entry) : ∀ (v : EReal) (vi : BitVec 32), Desc l →
    ∃ d : Entry, (insS (F := Ideal) l v vi ++ [d]).Perm ((v, vi) :: l) ∧ Desc (insS (F := Ideal) l v vi)
      ∧ ∀ x ∈ insS (F := Ideal) l v vi, d.1 ≤ x.1 := by
  induction l with
  | nil => exact fun v vi _ => ⟨(v, vi), List.Perm.refl _, List.Pairwise.nil, fun x h => nomatch h⟩
  | cons p l ih =>
    obtain ⟨m, mi⟩ := p
    intro v vi hl
    have hl' := List.pairwise_cons.mp hl
    show ∃ d : Entry, (((Scalar.select (FloatOps.cmpf (F := Ideal) (φ := .f32) .ogt v m) v m, Scalar.select (FloatOps.cmpf (F := Ideal) (φ := .f32) .ogt v m) vi mi) : Entry)
        :: insS (F := Ideal) l (Scalar.select (FloatOps.cmpf (F := Ideal) (φ := .f32) .ogt v m) m v) (Scalar.select (FloatOps.cmpf (F := Ideal) (φ := .f32) .ogt v m) mi vi) ++ [d]).Perm _ ∧
      Desc (((Scalar.select (FloatOps.cmpf (F := Ideal) (φ := .f32) .ogt v m) v m, Scalar.select (FloatOps.cmpf (F := Ideal) (φ := .f32) .ogt v m) vi mi) : Entry)
        :: insS (F := Ideal) l (Scalar.select (FloatOps.cmpf (F := Ideal) (φ := .f32) .ogt v m) m v) (Scalar.select (FloatOps.cmpf (F := Ideal) (φ := .f32) .ogt v m) mi vi)) ∧
      ∀ x ∈ ((Scalar.select (FloatOps.cmpf (F := Ideal) (φ := .f32) .ogt v m) v m, Scalar.select (FloatOps.cmpf (F := Ideal) (φ := .f32) .ogt v m) vi mi) : Entry)
        :: insS (F := Ideal) l (Scalar.select (FloatOps.cmpf (F := Ideal) (φ := .f32) .ogt v m) m v) (Scalar.select (FloatOps.cmpf (F := Ideal) (φ := .f32) .ogt v m) mi vi), d.1 ≤ x.1
    simp only [select_gt]
    by_cases h : m < v
    · simp only [h, if_true]
      obtain ⟨d, hp, hs, hd⟩ := ih m mi hl'.2
      have hmem : ∀ x, x ∈ insS (F := Ideal) l m mi ++ [d] → x.1 ≤ m := fun x hx => by
        rcases List.mem_cons.mp (hp.mem_iff.mp hx) with rfl | hx
        · exact le_refl _
        · exact hl'.1 x hx
      refine ⟨d, ?_, List.pairwise_cons.mpr ⟨fun x hx => ((hmem x (List.mem_append_left _ hx)).trans h.le), hs⟩, fun x hx => ?_⟩
      · exact (List.Perm.cons _ hp)
      · rcases List.mem_cons.mp hx with rfl | hx
        · exact (hmem d (List.mem_append_right _ List.mem_cons_self)).trans h.le
        · exact hd x hx
    · simp only [h, if_false]
      obtain ⟨d, hp, hs, hd⟩ := ih v vi hl'.2
      have hmem : ∀ x, x ∈ insS (F := Ideal) l v vi ++ [d] → x.1 ≤ m := fun x hx => by
        rcases List.mem_cons.mp (hp.mem_iff.mp hx) with rfl | hx
        · exact not_lt.mp h
        · exact hl'.1 x hx
      refine ⟨d, ?_, List.pairwise_cons.mpr ⟨fun x hx => hmem x (List.mem_append_left _ hx), hs⟩, fun x hx => ?_⟩
      · exact (List.Perm.cons _ hp).trans (List.Perm.swap _ _ _)
      · rcases List.mem_cons.mp hx with rfl | hx
        · exact hmem d (List.mem_append_right _ List.mem_cons_self)
        · exact hd x hx

theorem list_spec (lg : BitVec 32 → EReal) (es : List (BitVec 32)) : ∀ l : List Entry, Desc l →
    ∃ D : List Entry, (listS (F := Ideal) lg es l ++ D).Perm (es.map (fun e => (lg e, e)) ++ l) ∧ Desc (listS (F := Ideal) lg es l)
      ∧ ∀ d ∈ D, ∀ x ∈ listS (F := Ideal) lg es l, d.1 ≤ x.1 := by
  induction es using List.reverseRecOn with
  | nil => exact fun l h => ⟨[], by rw [List.append_nil]; exact List.Perm.refl _, h, fun d hd => nomatch hd⟩
  | append_singleton es e ih =>
    intro l hl
    obtain ⟨D, hp, hs, hD⟩ := ih l hl
    have hstep : listS (F := Ideal) lg (es ++ [e]) l = insS (F := Ideal) (listS (F := Ideal) lg es l) (lg e) e := by
      unfold listS
      rw [List.foldl_append]
      rfl
    rw [hstep]
    obtain ⟨d, hp', hs', hd'⟩ := ins_spec (listS (F := Ideal) lg es l) (lg e) e hs
    refine ⟨d :: D, ?_, hs', fun a ha x hx => ?_⟩
    · have h1 : (insS (F := Ideal) (listS (F := Ideal) lg es l) (lg e) e ++ d :: D).Perm ((lg e, e) :: (listS (F := Ideal) lg es l ++ D)) := by
        rw [show insS (F := Ideal) (listS (F := Ideal) lg es l) (lg e) e ++ d :: D = (insS (F := Ideal) (listS (F := Ideal) lg es l) (lg e) e ++ [d]) ++ D by simp]
        exact hp'.append_right D
      refine h1.trans ((hp.cons _).trans ?_)
      rw [List.map_append, List.append_assoc]
      exact (List.perm_middle (l₁ := es.map fun e => (lg e, e)) (a := ((lg e, e) : Entry)) (l₂ := l)).symm
    · rcases List.mem_cons.mp ha with rfl | haD
      · exact hd' x hx
      · rcases List.mem_cons.mp (hp'.mem_iff.mp (List.mem_append_right _ List.mem_cons_self)) with h | h
        · subst h
          have : (insS (F := Ideal) (listS (F := Ideal) lg es l) (lg e) e).Perm (listS (F := Ideal) lg es l) :=
            List.Perm.cons_inv ((List.perm_append_singleton _ _).symm.trans hp')
          exact hD a haD x (this.mem_iff.mp hx)
        · exact (hD a haD d h).trans (hd' x hx)

theorem ninf_eq : (ninf : Ideal .f32) = (⊥ : EReal) := by
  show Ideal.ofBits .f32 0xFF800000#32 = ⊥
  simp [Ideal.ofBits, Ideal.ieee]

theorem fzero_eq : (fzero : Ideal .f32) = (0 : EReal) := Ideal.ofBits_zero_f32

theorem fone_eq : (fone : Ideal .f32) = (1 : EReal) := by
  show Ideal.ofBits .f32 0x3F800000#32 = 1
  simp [Ideal.ofBits, Ideal.ieee, -EReal.coe_mul]
  norm_num

theorem length_ins (l : List Entry) : ∀ (v : EReal) (vi : BitVec 32), (insS (F := Ideal) l v vi).length = l.length := by
  induction l with
  | nil => intro _ _; rfl
  | cons p l ih => intro v vi; exact congrArg (· + 1) (ih _ _)

theorem length_list (lg : BitVec 32 → EReal) (es : List (BitVec 32)) : ∀ l : List Entry, (listS (F := Ideal) lg es l).length = l.length := by
  induction es with
  | nil => intro _; rfl
  | cons e es ih => intro l; exact (ih _).trans (length_ins _ _ _)

/-- A half's list: eight of its entries in descending order, no other entry above them. -/
theorem half_spec (lg : BitVec 32 → EReal) (es : List (BitVec 32)) (hes : es.Nodup) (hlen : 8 < es.length) (hlg : ∀ e ∈ es, lg e ≠ ⊥) :
    ∃ D : List Entry, (listS (F := Ideal) lg es (tops0S (F := Ideal)) ++ D).Perm (es.map fun e => (lg e, e)) ∧ Desc (listS (F := Ideal) lg es (tops0S (F := Ideal)))
      ∧ (∀ d ∈ D, ∀ x ∈ listS (F := Ideal) lg es (tops0S (F := Ideal)), d.1 ≤ x.1) ∧ (listS (F := Ideal) lg es (tops0S (F := Ideal))).length = 8 := by
  have ht : (tops0S (F := Ideal) : List Entry) = List.replicate 8 (⊥, 0#32) := by
    rw [← ninf_eq]; rfl
  obtain ⟨D, hp, hs, hD⟩ := list_spec lg es (tops0S (F := Ideal)) (by
    rw [ht]
    exact List.pairwise_replicate.mpr (Or.inr (le_refl _)))
  have hL : (listS (F := Ideal) lg es (tops0S (F := Ideal))).length = 8 := (length_list lg es _).trans rfl
  generalize listS (F := Ideal) lg es (tops0S (F := Ideal)) = A at hp hs hD hL ⊢
  have hX : ((es.map fun e => ((lg e, e) : Entry))).Nodup := hes.map fun a b h => (Prod.mk.inj h).2
  have hXne : ∀ x ∈ es.map (fun e => ((lg e, e) : Entry)), x.1 ≠ ⊥ := fun x hx => by
    obtain ⟨e, he, rfl⟩ := List.mem_map.mp hx
    exact hlg e he
  have hne : ∀ x ∈ A, x.1 ≠ ⊥ := by
    intro x hx h0
    have hsub : es.map (fun e => ((lg e, e) : Entry)) ⊆ A := fun y hy => by
      rcases List.mem_append.mp (hp.mem_iff.mpr (List.mem_append_left _ hy)) with h | h
      · exact h
      · exact absurd (le_bot_iff.mp ((hD y h x hx).trans h0.le)) (hXne y hy)
    have := (List.subperm_of_subset hX hsub).length_le
    rw [List.length_map, hL] at this
    omega
  have hnil : (tops0S (F := Ideal) : List Entry).filter (fun x : Entry => decide (x.1 ≠ ⊥)) = [] := by
    rw [ht]
    exact List.filter_eq_nil_iff.mpr fun x hx => by rw [List.eq_of_mem_replicate hx]; simp
  have hf := hp.filter (fun x : Entry => decide (x.1 ≠ ⊥))
  rw [List.filter_append, List.filter_append, List.filter_eq_self.mpr (fun x hx => decide_eq_true (hne x hx)),
    List.filter_eq_self.mpr (fun x hx => decide_eq_true (hXne x hx)),
    hnil, List.append_nil] at hf
  exact ⟨_, hf, hs, fun d hd => hD d (List.mem_filter.mp hd).1, hL⟩

/-! ## The merge -/

/-- A merge of a descending list against an ascending one of the same length drops an entry only when as many others are at least it. -/
theorem merge_spec (a : List Entry) : ∀ b : List Entry, a.length = b.length → Desc a → (b.Pairwise fun x y => x.1 ≤ y.1) →
    ∃ R : List Entry, (mergeS (F := Ideal) a b ++ R).Perm (a ++ b) ∧ (mergeS (F := Ideal) a b).length = a.length ∧ ∀ r ∈ R, (∃ z ∈ a, r.1 ≤ z.1) ∧
      ∃ W : List Entry, W.length = a.length ∧ (r :: W).Subperm (a ++ b) ∧ ∀ w ∈ W, r.1 ≤ w.1 := by
  induction a with
  | nil =>
    intro b hb _ _
    obtain rfl := List.length_eq_zero_iff.mp hb.symm
    exact ⟨[], List.Perm.refl _, rfl, fun r h => nomatch h⟩
  | cons x a ih =>
    intro b hb ha hbs
    cases b with
    | nil => exact nomatch hb
    | cons y b =>
      have ha' := List.pairwise_cons.mp ha
      have hb' := List.pairwise_cons.mp hbs
      have hlen : a.length = b.length := Nat.succ.inj hb
      obtain ⟨R, hp, hl, hR⟩ := ih b hlen ha'.2 hb'.2
      obtain ⟨m, mi⟩ := x
      obtain ⟨n, ni⟩ := y
      have hm : mergeS (F := Ideal) ((m, mi) :: a) ((n, ni) :: b) = (if n ≤ m then ((m, mi) : Entry) else (n, ni)) :: mergeS (F := Ideal) a b := by
        show ((Scalar.select (FloatOps.cmpf (F := Ideal) (φ := .f32) .oge m n) m n, Scalar.select (FloatOps.cmpf (F := Ideal) (φ := .f32) .oge m n) mi ni) : Entry) :: mergeS (F := Ideal) a b = _
        rw [select_ge, select_ge]
        split <;> rfl
      rw [hm]
      refine ⟨(if n ≤ m then ((n, ni) : Entry) else (m, mi)) :: R, ?_, congrArg (· + 1) hl, fun r hr => ?_⟩
      · by_cases h : n ≤ m
        · simp only [h, if_true]
          refine List.Perm.cons _ ?_
          refine List.perm_middle.trans ((hp.cons _).trans ?_)
          exact List.perm_middle.symm
        · simp only [h, if_false]
          refine ((List.perm_middle.trans (hp.cons _)).cons _).trans ?_
          refine (List.Perm.swap _ _ _).trans (List.Perm.cons _ List.perm_middle.symm)
      · rcases List.mem_cons.mp hr with rfl | hr
        · by_cases h : n ≤ m
          · simp only [h, if_true]
            refine ⟨⟨(m, mi), List.mem_cons_self, h⟩, (m, mi) :: b, by simp [hlen], ?_, fun w hw => ?_⟩
            · refine (List.Perm.swap _ _ _).subperm.trans ?_
              exact (List.sublist_append_right a _).cons_cons _ |>.subperm
            · rcases List.mem_cons.mp hw with rfl | hw
              · exact h
              · exact hb'.1 w hw
          · simp only [h, if_false]
            refine ⟨⟨(m, mi), List.mem_cons_self, le_refl _⟩, (n, ni) :: b, by simp [hlen], ?_, fun w hw => ?_⟩
            · exact (List.sublist_append_right a _).cons_cons _ |>.subperm
            · rcases List.mem_cons.mp hw with rfl | hw
              · exact (not_le.mp h).le
              · exact (not_le.mp h).le.trans (hb'.1 w hw)
        · obtain ⟨⟨z, hz, hrz⟩, W, hW, hsub, hge⟩ := hR r hr
          have hrm : r.1 ≤ m := hrz.trans (ha'.1 z hz)
          refine ⟨⟨(m, mi), List.mem_cons_self, hrm⟩, (m, mi) :: W, by simp [hW], ?_, fun w hw => ?_⟩
          · refine (List.Perm.swap _ _ _).subperm.trans ?_
            refine (List.subperm_cons _).mpr (hsub.trans ?_)
            exact (List.Sublist.append_left (List.sublist_cons_self _ _) a).subperm
          · rcases List.mem_cons.mp hw with rfl | hw
            · exact hrm
            · exact hge w hw

end Cert.KernelIdeal.Gen.Tile

end
-- ==== Proof.Value.Choice.lean ====
/- The merged list is the set of the eight greatest, and what the weights, gates and products of a token's list come to. -/
module

public import proofs.«01_k».proof.Proof.Value.Select

@[expose] public section

noncomputable section

namespace Cert.KernelIdeal.Gen.Tile

open Idealize.ShloMosaic

/-- An expert's entry. -/
def entry (ℓ : Fin 64 → EReal) (e : Fin 64) : Entry := (ℓ e, BitVec.ofNat 32 e.val)

/-- Eight experts whose values are above all others'. -/
def Best (ℓ : Fin 64 → EReal) (S : Finset (Fin 64)) : Prop := S.card = 8 ∧ ∀ a ∈ S, ∀ b, b ∉ S → ℓ b < ℓ a

theorem low_eq : lowExperts = (((List.finRange 64).filter fun e => e.val < 32).map fun e => BitVec.ofNat 32 e.val) := by decide
theorem high_eq : highExperts = (((List.finRange 64).filter fun e => ¬ e.val < 32).map fun e => BitVec.ofNat 32 e.val) := by decide

theorem entry_inj (ℓ : Fin 64 → EReal) : Function.Injective (entry ℓ) := fun a b h => by
  have h2 := congrArg BitVec.toNat (Prod.mk.inj h).2
  rw [BitVec.toNat_ofNat, BitVec.toNat_ofNat, Nat.mod_eq_of_lt (by have := a.isLt; omega), Nat.mod_eq_of_lt (by have := b.isLt; omega)] at h2
  exact Fin.ext h2

section
variable (lg : BitVec 32 → EReal) (ℓ : Fin 64 → EReal) (hlg : ∀ e : Fin 64, lg (BitVec.ofNat 32 e.val) = ℓ e)
include hlg

theorem map_low : (lowExperts.map fun e => ((lg e, e) : Entry)) = ((List.finRange 64).filter fun e => e.val < 32).map (entry ℓ) := by
  rw [low_eq, List.map_map]
  exact List.map_congr_left fun e _ => Prod.ext (hlg e) rfl

theorem map_high : (highExperts.map fun e => ((lg e, e) : Entry)) = ((List.finRange 64).filter fun e => ¬ e.val < 32).map (entry ℓ) := by
  rw [high_eq, List.map_map]
  exact List.map_congr_left fun e _ => Prod.ext (hlg e) rfl

end

/-- Nine different experts, all at least one of the best, are too many. -/
theorem too_many (ℓ : Fin 64 → EReal) (S : Finset (Fin 64)) (hS : Best ℓ S) (e : Fin 64) (he : e ∈ S) (W : List Entry) (hW : W.length = 8)
    (hsub : (entry ℓ e :: W).Subperm ((List.finRange 64).map (entry ℓ))) (hge : ∀ w ∈ W, ℓ e ≤ w.1) : False := by
  have hU : ((List.finRange 64).map (entry ℓ)).Nodup := (List.nodup_finRange 64).map (entry_inj ℓ)
  have hnd : (entry ℓ e :: W).Nodup := by
    obtain ⟨l, hl, hp⟩ := hsub
    exact hl.nodup_iff.mp (hU.sublist hp)
  have hs : (entry ℓ e :: W) ⊆ S.toList.map (entry ℓ) := fun w hw => by
    obtain ⟨f, _, rfl⟩ := List.mem_map.mp (hsub.subset hw)
    refine List.mem_map.mpr ⟨f, Finset.mem_toList.mpr ?_, rfl⟩
    by_contra hf
    have hlt := hS.2 e he f hf
    rcases List.mem_cons.mp hw with h | h
    · exact hf (entry_inj ℓ h ▸ he)
    · exact absurd (hge _ h) (not_le.mpr hlt)
  have := (List.subperm_of_subset hnd hs).length_le
  rw [List.length_map, Finset.length_toList, hS.1, List.length_cons, hW] at this
  omega

section
variable (lg : BitVec 32 → EReal) (ℓ : Fin 64 → EReal) (hlg : ∀ e : Fin 64, lg (BitVec.ofNat 32 e.val) = ℓ e) (hne : ∀ e, ℓ e ≠ ⊥)
include hlg hne

theorem low_half : ∃ D : List Entry, (lowS (F := Ideal) lg ++ D).Perm (((List.finRange 64).filter fun e => e.val < 32).map (entry ℓ))
    ∧ Desc (lowS (F := Ideal) lg) ∧ (∀ d ∈ D, ∀ x ∈ lowS (F := Ideal) lg, d.1 ≤ x.1) ∧ (lowS (F := Ideal) lg).length = 8 := by
  rw [← map_low lg ℓ hlg]
  refine half_spec lg lowExperts (by decide) (by decide) fun e he => ?_
  rw [low_eq] at he
  obtain ⟨f, _, rfl⟩ := List.mem_map.mp he
  rw [hlg]; exact hne f

theorem high_half : ∃ D : List Entry, (highS (F := Ideal) lg ++ D).Perm (((List.finRange 64).filter fun e => ¬ e.val < 32).map (entry ℓ))
    ∧ Desc (highS (F := Ideal) lg) ∧ (∀ d ∈ D, ∀ x ∈ highS (F := Ideal) lg, d.1 ≤ x.1) ∧ (highS (F := Ideal) lg).length = 8 := by
  rw [← map_high lg ℓ hlg]
  refine half_spec lg highExperts (by decide) (by decide) fun e he => ?_
  rw [high_eq] at he
  obtain ⟨f, _, rfl⟩ := List.mem_map.mp he
  rw [hlg]; exact hne f

/-- The merged list is the best eight. -/
theorem chosen_perm (S : Finset (Fin 64)) (hS : Best ℓ S) :
    (mergeS (F := Ideal) (lowS lg) (highS lg).reverse : List Entry).Perm (S.toList.map (entry ℓ)) := by
  obtain ⟨DA, hA, hsA, hdA, hlA⟩ := low_half lg ℓ hlg hne
  obtain ⟨DB, hB, hsB, hdB, hlB⟩ := high_half lg ℓ hlg hne
  generalize lowS (F := Ideal) lg = A at hA hsA hdA hlA ⊢
  generalize highS (F := Ideal) lg = B at hB hsB hdB hlB ⊢
  obtain ⟨R, hR, hlC, hr⟩ := merge_spec A B.reverse (by rw [List.length_reverse, hlA, hlB]) hsA (List.pairwise_reverse.mpr hsB)
  have hU : ((((List.finRange 64).filter fun e => decide (e.val < 32)).map (entry ℓ)) ++ (((List.finRange 64).filter fun e => decide (¬ e.val < 32)).map (entry ℓ))).Perm
      ((List.finRange 64).map (entry ℓ)) := by
    rw [← List.map_append]
    refine List.Perm.map _ ?_
    simpa only [decide_not] using List.filter_append_perm (fun e : Fin 64 => decide (e.val < 32)) (List.finRange 64)
  have hAB : (A ++ B).Subperm ((List.finRange 64).map (entry ℓ)) :=
    ((List.sublist_append_left A DA).append (List.sublist_append_left B DB)).subperm.trans ((hA.append hB).trans hU).subperm
  have hAB' : (A ++ B.reverse).Subperm ((List.finRange 64).map (entry ℓ)) :=
    ((List.reverse_perm B).append_left A).subperm.trans hAB
  have hmem : S.toList.map (entry ℓ) ⊆ mergeS (F := Ideal) A B.reverse := fun x hx => by
    obtain ⟨e, he, rfl⟩ := List.mem_map.mp hx
    have he := Finset.mem_toList.mp he
    have hx : entry ℓ e ∈ (A ++ DA) ++ (B ++ DB) :=
      ((hA.append hB).trans hU).mem_iff.mpr (List.mem_map.mpr ⟨e, List.mem_finRange _, rfl⟩)
    have hkeep : entry ℓ e ∈ A ++ B.reverse → entry ℓ e ∈ mergeS (F := Ideal) A B.reverse := fun h => by
      rcases List.mem_append.mp (hR.mem_iff.mpr h) with h | h
      · exact h
      · obtain ⟨_, W, hW, hsub, hge⟩ := hr _ h
        exact (too_many ℓ S hS e he W (hW.trans hlA) (hsub.trans hAB') hge).elim
    rcases List.mem_append.mp hx with h | h
    · rcases List.mem_append.mp h with h | h
      · exact hkeep (List.mem_append_left _ h)
      · refine (too_many ℓ S hS e he A hlA ?_ (hdA _ h)).elim
        refine (List.perm_append_singleton _ _).symm.subperm.trans ?_
        refine ((List.singleton_sublist.mpr h).append_left A).subperm.trans ?_
        exact hA.subperm.trans ((List.sublist_append_left _ _).subperm.trans hU.subperm)
    · rcases List.mem_append.mp h with h | h
      · exact hkeep (List.mem_append_right _ (List.mem_reverse.mpr h))
      · refine (too_many ℓ S hS e he B hlB ?_ (hdB _ h)).elim
        refine (List.perm_append_singleton _ _).symm.subperm.trans ?_
        refine ((List.singleton_sublist.mpr h).append_left B).subperm.trans ?_
        exact hB.subperm.trans ((List.sublist_append_right _ _).subperm.trans hU.subperm)
  have hnd : (S.toList.map (entry ℓ)).Nodup := (Finset.nodup_toList S).map (entry_inj ℓ)
  refine ((List.subperm_of_subset hnd hmem).perm_of_length_le ?_).symm
  rw [hlC, hlA, List.length_map, Finset.length_toList, hS.1]

/-- The greatest of each half is some expert's value. -/
theorem top_low : ∃ e, topS (F := Ideal) (lowS lg) = ℓ e := by
  obtain ⟨D, hA, _, _, hl⟩ := low_half lg ℓ hlg hne
  cases h : lowS (F := Ideal) lg with
  | nil => rw [h] at hl; exact nomatch hl
  | cons x l =>
    rw [h] at hA
    obtain ⟨e, _, he⟩ := List.mem_map.mp (hA.mem_iff.mp List.mem_cons_self)
    exact ⟨e, congrArg Prod.fst he.symm⟩

theorem top_high : ∃ e, topS (F := Ideal) (highS lg) = ℓ e := by
  obtain ⟨D, hA, _, _, hl⟩ := high_half lg ℓ hlg hne
  cases h : highS (F := Ideal) lg with
  | nil => rw [h] at hl; exact nomatch hl
  | cons x l =>
    rw [h] at hA
    obtain ⟨e, _, he⟩ := List.mem_map.mp (hA.mem_iff.mp List.mem_cons_self)
    exact ⟨e, congrArg Prod.fst he.symm⟩

end

end Cert.KernelIdeal.Gen.Tile

end
-- ==== Proof.Value.TopK.lean ====
/- What the eight greatest entries of a row are, read from the positions a sort by "greater" puts first. -/
module

public import proofs.«01_k».proof.Proof.Value.Choice
public import Idealize.ShloMosaic.Lib.SortFacts
public import Idealize.ShloMosaic.Lib.ValueIdx

@[expose] public section

noncomputable section

namespace Cert.ReferenceIdeal.Value

open Idealize.ShloMosaic Idealize.ShloMosaic.ValueIdx
open Cert.KernelIdeal.Gen.Tile (Best)

/-- Whether entry `a` of a row sorts before entry `b`: it is the greater. -/
def before (ℓ : Fin 64 → EReal) (a b : Fin 64) : Bool := Ideal.cmp .ogt (ℓ a) (ℓ b) == 1#1

theorem before_iff (ℓ : Fin 64 → EReal) (a b : Fin 64) : before ℓ a b = true ↔ ℓ b < ℓ a := by
  unfold before Ideal.cmp
  by_cases h : ℓ b < ℓ a <;> simp [h]

/-- The entry at place `k` of the sorted row. -/
def place (ℓ : Fin 64 → EReal) (k : Fin 64) : Fin 64 := sortedFrom (before ℓ) k

theorem place_inj (ℓ : Fin 64 → EReal) : Function.Injective (place ℓ) := sortedFrom_injective _
theorem place_surj (ℓ : Fin 64 → EReal) : Function.Surjective (place ℓ) := sortedFrom_surjective _

theorem place_desc (ℓ : Fin 64 → EReal) (i j : Fin 64) (h : i ≤ j) : ℓ (place ℓ j) ≤ ℓ (place ℓ i) := by
  have no : ∀ a b, before ℓ a b = false ↔ ℓ a ≤ ℓ b := fun a b => by
    rw [← not_lt, ← before_iff, Bool.not_eq_true]
  rcases h.lt_or_eq with h | rfl
  · refine (no _ _).1 (sortedFrom_noInversion (before ℓ) (before ℓ) (fun a b q => ?_) (fun _ _ q => q) (fun a b c q r => ?_) i j h)
    · exact (no _ _).2 ((before_iff ℓ a b).1 q).le
    · exact (no _ _).2 (((no _ _).1 q).trans ((no _ _).1 r))
  · exact le_rfl

/-- The entries at the first eight places. -/
def firsts (ℓ : Fin 64 → EReal) : Finset (Fin 64) := (Finset.univ.filter fun k : Fin 64 => k.val < 8).image (place ℓ)

theorem mem_firsts (ℓ : Fin 64 → EReal) (e : Fin 64) : e ∈ firsts ℓ ↔ ∃ k : Fin 64, k.val < 8 ∧ place ℓ k = e := by
  simp [firsts]

/-- With the eighth greatest above the ninth the first eight are above all others. -/
theorem best_firsts (ℓ : Fin 64 → EReal) (h : ℓ (place ℓ 8) < ℓ (place ℓ 7)) : Best ℓ (firsts ℓ) := by
  refine ⟨?_, fun a ha b hb => ?_⟩
  · rw [firsts, Finset.card_image_of_injective _ (place_inj ℓ)]
    decide
  · obtain ⟨k, hk, rfl⟩ := (mem_firsts ℓ a).1 ha
    obtain ⟨n, rfl⟩ := place_surj ℓ b
    have hn : ¬ n.val < 8 := fun q => hb ((mem_firsts ℓ _).2 ⟨n, q, rfl⟩)
    exact ((place_desc ℓ 8 n (Fin.le_def.2 (by simpa using hn))).trans_lt h).trans_le
      (place_desc ℓ k 7 (Fin.le_def.2 (by show k.val ≤ 7; omega)))

abbrev rowsBy (n : Nat) : Shape := ⟨2, ![4096, n]⟩

/-- The row `b` of the table of logits. -/
def rowOf (x : (rowsBy 64).Idx → EReal) (b : Fin 4096) : Fin 64 → EReal := fun e => x (ix2 b e)

theorem along_ix2 (b : Fin 4096) (k : Fin 64) (e : Fin 64) : Shape.Idx.along (s := rowsBy 64) (ix2 b e) (1 : Fin 2) k = ix2 b k := by
  funext q
  fin_cases q <;> rfl

theorem fiber_eq (x : (rowsBy 64).Idx → EReal) (b : Fin 4096) (e : Fin 64) :
    (fun k k' : Fin 64 => Ideal.cmp .ogt (x (Shape.Idx.along (s := rowsBy 64) (ix2 b e) (1 : Fin 2) k)) (x (Shape.Idx.along (s := rowsBy 64) (ix2 b e) (1 : Fin 2) k')) == 1#1)
      = before (rowOf x b) := by
  funext k k'
  unfold before rowOf
  rw [along_ix2, along_ix2]

theorem topK_val {K : Nat} (hK : K ≤ 64) (x : (rowsBy 64).Idx → EReal) (h : (rowsBy 64).Slices (fun _ => 0) (rowsBy K)) (b : Fin 4096) (k : Fin K) :
    (Host.topK (rowsBy K) 1 (Ideal.cmp .ogt) x h).1 (ix2 b k) = rowOf x b (place (rowOf x b) ⟨k.val, k.isLt.trans_le hK⟩) := by
  have e : (fun a => ⟨0 + ((ix2 b k : (rowsBy K).Idx) (a.cast h.1.symm)).val, Nat.lt_of_lt_of_le (Nat.add_lt_add_left ((ix2 b k : (rowsBy K).Idx) _).isLt _) (h.2 a)⟩ : (rowsBy 64).Idx)
      = ix2 b ⟨k.val, k.isLt.trans_le hK⟩ := by
    funext q
    fin_cases q <;> exact Fin.ext (Nat.zero_add _)
  unfold Host.topK extractStridedSlice
  dsimp only
  rw [e]
  unfold Host.sort2
  rw [dif_pos (by decide)]
  dsimp only
  refine (congrArg x (along_ix2 b _ _)).trans (congrArg (fun f => x (ix2 b (sortedFrom f _))) (fiber_eq x b _))

theorem topK_pos {K : Nat} (hK : K ≤ 64) (x : (rowsBy 64).Idx → EReal) (h : (rowsBy 64).Slices (fun _ => 0) (rowsBy K)) (b : Fin 4096) (k : Fin K) :
    (Host.topK (rowsBy K) 1 (Ideal.cmp .ogt) x h).2 (ix2 b k) = BitVec.ofNat 32 (place (rowOf x b) ⟨k.val, k.isLt.trans_le hK⟩).val := by
  have e : (fun a => ⟨0 + ((ix2 b k : (rowsBy K).Idx) (a.cast h.1.symm)).val, Nat.lt_of_lt_of_le (Nat.add_lt_add_left ((ix2 b k : (rowsBy K).Idx) _).isLt _) (h.2 a)⟩ : (rowsBy 64).Idx)
      = ix2 b ⟨k.val, k.isLt.trans_le hK⟩ := by
    funext q
    fin_cases q <;> exact Fin.ext (Nat.zero_add _)
  unfold Host.topK extractStridedSlice
  dsimp only
  rw [e]
  unfold Host.sort2
  rw [dif_pos (by decide)]
  dsimp only
  rw [dif_pos (by decide)]
  exact (congrArg (fun i : (rowsBy 64).Idx => BitVec.ofNat 32 (i (1 : Fin 2)).val) (along_ix2 b _ _)).trans
    (congrArg (fun f => BitVec.ofNat 32 (sortedFrom f ⟨k.val, k.isLt.trans_le hK⟩).val) (fiber_eq x b _))

end Cert.ReferenceIdeal.Value
-- ==== Proof.Value.Softmax.lean ====
/- A token's weights, gates and products over its best eight experts, the logits being real numbers. -/
module

public import proofs.«01_k».proof.Proof.Value.Choice

@[expose] public section

noncomputable section

namespace Cert.KernelIdeal.Gen.Tile

open Idealize.ShloMosaic

/-- The softmax of `r` over the experts of `S`. -/
def soft (r : Fin 64 → ℝ) (S : Finset (Fin 64)) (e : Fin 64) : ℝ := Real.exp (r e) / ∑ s ∈ S, Real.exp (r s)

/-- A shift of all the numbers changes nothing. -/
theorem soft_shift (r : Fin 64 → ℝ) (S : Finset (Fin 64)) (M : ℝ) (e : Fin 64) :
    Real.exp (r e - M) / ∑ s ∈ S, Real.exp (r s - M) = soft r S e := by
  simp only [Real.exp_sub, ← Finset.sum_div]
  exact div_div_div_cancel_right₀ (Real.exp_ne_zero M) _ _

theorem sum_exp_pos (r : Fin 64 → ℝ) (S : Finset (Fin 64)) (hS : S.Nonempty) (M : ℝ) : 0 < ∑ s ∈ S, Real.exp (r s - M) :=
  Finset.sum_pos (fun _ _ => Real.exp_pos _) hS

theorem coe_sum {ι : Type} (S : Finset ι) (f : ι → ℝ) : ∑ s ∈ S, ((f s : ℝ) : EReal) = ((∑ s ∈ S, f s : ℝ) : EReal) := by
  classical
  induction S using Finset.induction_on with
  | empty => simp
  | insert a S ha ih => rw [Finset.sum_insert ha, Finset.sum_insert ha, ih, EReal.coe_add]

theorem div_coe_coe (x y : ℝ) (hy : y ≠ 0) : Ideal.div (x : EReal) (y : EReal) = ((x / y : ℝ) : EReal) := by
  unfold Ideal.div
  rw [if_neg (by exact_mod_cast hy), ← EReal.coe_inv, ← EReal.coe_mul, div_eq_mul_inv]

/-! ## The lists' folds -/

theorem expo_eq (M : EReal) (l : List Entry) : (expoS (F := Ideal) M l : List Entry) = l.map fun p => (Ideal.exp (p.1 - M), p.2) := by
  induction l with
  | nil => rfl
  | cons p l ih => exact congrArg (_ :: ·) ih

theorem total_eq (l : List Entry) : ∀ z : EReal, totalS (F := Ideal) z l = z + (l.map Prod.fst).sum := by
  induction l with
  | nil => intro z; exact (add_zero z).symm
  | cons p l ih => intro z; rw [List.map_cons, List.sum_cons, ← add_assoc]; exact ih _

theorem total_top (l : List Entry) (hl : l ≠ []) : totalS (F := Ideal) (topS l) l.tail = (l.map Prod.fst).sum := by
  cases l with
  | nil => exact absurd rfl hl
  | cons p l => exact total_eq l _

theorem fold_pick (l : List Entry) (k : BitVec 32 → Prop) [DecidablePred k] (f : Entry → EReal) (v : EReal) : ∀ g : EReal,
    (∀ p ∈ l, k p.2 → f p = v) → l.foldl (fun g p => if k p.2 then f p else g) g = if ∃ p ∈ l, k p.2 then v else g := by
  induction l with
  | nil => intro g _; simp
  | cons p l ih =>
    intro g h
    rw [List.foldl_cons, ih _ fun q hq => h q (List.mem_cons_of_mem _ hq)]
    by_cases hl : ∃ q ∈ l, k q.2
    · rw [if_pos hl, if_pos (by obtain ⟨q, hq, hk⟩ := hl; exact ⟨q, List.mem_cons_of_mem _ hq, hk⟩)]
    · rw [if_neg hl]
      by_cases hp : k p.2
      · rw [if_pos hp, if_pos ⟨p, List.mem_cons_self, hp⟩, h p List.mem_cons_self hp]
      · rw [if_neg hp, if_neg]
        rintro ⟨q, hq, hk⟩
        rcases List.mem_cons.mp hq with rfl | hq
        · exact hp hk
        · exact hl ⟨q, hq, hk⟩

theorem fold_sum (l : List Entry) (f : Entry → EReal) : ∀ a : EReal, l.foldl (fun a p => a + f p) a = a + (l.map f).sum := by
  induction l with
  | nil => intro a; exact (add_zero a).symm
  | cons p l ih => intro a; rw [List.foldl_cons, ih, List.map_cons, List.sum_cons, add_assoc]

section
variable (lg : BitVec 32 → EReal) (r : Fin 64 → ℝ) (hlg : ∀ e : Fin 64, lg (BitVec.ofNat 32 e.val) = (r e : EReal))
  (S : Finset (Fin 64)) (hS : Best (fun e => (r e : EReal)) S)
include hlg hS

theorem best_nonempty : S.Nonempty := Finset.card_pos.mp (by rw [hS.1]; decide)

/-- The weights, in some order, for some shift. -/
theorem weights_perm : ∃ M : ℝ, (weightsS (F := Ideal) lg : List Entry).Perm
    (S.toList.map fun e => (((Real.exp (r e - M) : ℝ) : EReal), BitVec.ofNat 32 e.val)) := by
  obtain ⟨a, ha⟩ := top_low lg (fun e => (r e : EReal)) hlg fun e => EReal.coe_ne_bot _
  obtain ⟨b, hb⟩ := top_high lg (fun e => (r e : EReal)) hlg fun e => EReal.coe_ne_bot _
  refine ⟨max (r a) (r b), ?_⟩
  unfold weightsS
  rw [expo_eq, ha, hb, show (FloatOps.maximumf (F := Ideal) (φ := .f32) ((r a : ℝ) : EReal) ((r b : ℝ) : EReal)) = ((max (r a) (r b) : ℝ) : EReal) from
    (EReal.coe_strictMono.monotone.map_max).symm]
  refine ((chosen_perm lg _ hlg (fun e => EReal.coe_ne_bot _) S hS).map _).trans ?_
  rw [List.map_map]
  refine List.Perm.of_eq (List.map_congr_left fun e _ => Prod.ext ?_ rfl)
  show Ideal.exp ((r e : EReal) - ((max (r a) (r b) : ℝ) : EReal)) = _
  rw [← EReal.coe_sub]
  rfl

theorem inv_perm (M : ℝ) (hw : (weightsS (F := Ideal) lg : List Entry).Perm
    (S.toList.map fun e => (((Real.exp (r e - M) : ℝ) : EReal), BitVec.ofNat 32 e.val))) :
    invS (F := Ideal) lg = ((1 / ∑ s ∈ S, Real.exp (r s - M) : ℝ) : EReal) := by
  unfold invS
  have hne : (weightsS (F := Ideal) lg : List Entry) ≠ [] := fun h => by
    have := hw.length_eq
    rw [h, List.length_map, Finset.length_toList, hS.1] at this
    exact nomatch this
  rw [total_top _ hne, (hw.map Prod.fst).sum_eq, List.map_map, fone_eq]
  have : ((S.toList.map (Prod.fst ∘ fun e => ((((Real.exp (r e - M) : ℝ) : EReal), BitVec.ofNat 32 e.val) : Entry))).sum : EReal)
      = ((∑ s ∈ S, Real.exp (r s - M) : ℝ) : EReal) := by
    rw [← coe_sum]
    exact Finset.sum_map_toList S fun e => ((Real.exp (r e - M) : ℝ) : EReal)
  rw [this]
  exact div_coe_coe 1 _ (sum_exp_pos r S (best_nonempty lg r hlg S hS) M).ne'

/-- A token's gate of an expert. -/
theorem gate_eq (e : Fin 64) : gateS (F := Ideal) lg e.val = if e ∈ S then ((soft r S e : ℝ) : EReal) else 0 := by
  obtain ⟨M, hw⟩ := weights_perm lg r hlg S hS
  unfold gateS
  rw [inv_perm lg r hlg S hS M hw, fzero_eq]
  have hmem : ∀ p : Entry, p ∈ (weightsS (F := Ideal) lg : List Entry) ↔ ∃ f ∈ S, (((Real.exp (r f - M) : ℝ) : EReal), BitVec.ofNat 32 f.val) = p := fun p => by
    rw [hw.mem_iff, List.mem_map]
    simp only [Finset.mem_toList]
  have hk : ∀ f : Fin 64, (BitVec.ofNat 32 f.val).toNat = f.val := fun f => by
    rw [BitVec.toNat_ofNat]; exact Nat.mod_eq_of_lt (by have := f.isLt; omega)
  refine (fold_pick (weightsS (F := Ideal) lg) (fun w => w.toNat = e.val) (fun p => p.1 * ((1 / ∑ s ∈ S, Real.exp (r s - M) : ℝ) : EReal)) ((soft r S e : ℝ) : EReal) 0 ?_).trans ?_
  · intro p hp hpe
    obtain ⟨f, hf, rfl⟩ := (hmem p).mp hp
    obtain rfl : f = e := Fin.ext ((hk f).symm.trans hpe)
    rw [← soft_shift r S M f, ← EReal.coe_mul, mul_one_div]
  · refine if_congr ⟨fun ⟨p, hp, hpe⟩ => ?_, fun he => ⟨_, (hmem _).mpr ⟨e, he, rfl⟩, hk e⟩⟩ rfl rfl
    obtain ⟨f, hf, rfl⟩ := (hmem p).mp hp
    exact (Fin.ext ((hk f).symm.trans hpe) : f = e) ▸ hf

/-- A token's product with the experts' values. -/
theorem act_eq (q : BitVec 32 → EReal) : actS (F := Ideal) lg q = ∑ e ∈ S, ((soft r S e : ℝ) : EReal) * q (BitVec.ofNat 32 e.val) := by
  obtain ⟨M, hw⟩ := weights_perm lg r hlg S hS
  unfold actS
  rw [inv_perm lg r hlg S hS M hw, fzero_eq]
  refine (fold_sum (weightsS (F := Ideal) lg) (fun p => p.1 * ((1 / ∑ s ∈ S, Real.exp (r s - M) : ℝ) : EReal) * q p.2) 0).trans ?_
  rw [zero_add, (hw.map _).sum_eq, List.map_map]
  refine (Finset.sum_map_toList S _).trans (Finset.sum_congr rfl fun e _ => ?_)
  show ((Real.exp (r e - M) : ℝ) : EReal) * _ * _ = _
  rw [← soft_shift r S M e, ← EReal.coe_mul, mul_one_div]

end

/-! ## The softmax of a row that is minus infinity off the best eight -/

section
variable (r : Fin 64 → ℝ) (S : Finset (Fin 64)) (hS : S.Nonempty) (w : Fin 64 → EReal) (hw : ∀ e, w e = if e ∈ S then (r e : EReal) else ⊥)
include hS hw

theorem row_max : ∃ M : ℝ, Finset.univ.fold max ⊥ w = (M : EReal) := by
  have hsup : Finset.univ.fold max ⊥ w = Finset.univ.sup w := rfl
  obtain ⟨e, _, he⟩ := Finset.exists_mem_eq_sup Finset.univ ⟨0, Finset.mem_univ _⟩ w
  obtain ⟨a, ha⟩ := hS
  have hle : w a ≤ Finset.univ.sup w := Finset.le_sup (Finset.mem_univ a)
  rw [hsup]
  rw [he] at hle ⊢
  rw [hw a, if_pos ha] at hle
  rw [hw e] at hle ⊢
  by_cases h : e ∈ S
  · rw [if_pos h]; exact ⟨r e, rfl⟩
  · rw [if_neg h] at hle; exact absurd (le_bot_iff.mp hle) (EReal.coe_ne_bot _)

theorem row_exp (M : ℝ) (e : Fin 64) : Ideal.exp (w e - (M : EReal)) = if e ∈ S then ((Real.exp (r e - M) : ℝ) : EReal) else 0 := by
  rw [hw e]
  by_cases h : e ∈ S
  · rw [if_pos h, if_pos h, ← EReal.coe_sub]; rfl
  · rw [if_neg h, if_neg h, EReal.bot_sub]; rfl

theorem row_soft (e : Fin 64) : Ideal.div (Ideal.exp (w e - max ⊥ (Finset.univ.fold max ⊥ w))) (0 + ∑ k, Ideal.exp (w k - max ⊥ (Finset.univ.fold max ⊥ w)))
    = if e ∈ S then ((soft r S e : ℝ) : EReal) else 0 := by
  obtain ⟨M, hM⟩ := row_max r S hS w hw
  have hsum : ∑ k, Ideal.exp (w k - (M : EReal)) = ((∑ s ∈ S, Real.exp (r s - M) : ℝ) : EReal) := by
    rw [← coe_sum, Finset.sum_congr rfl fun k _ => row_exp r S hS w hw M k, Finset.sum_ite_mem, Finset.univ_inter]
  rw [hM, max_eq_right bot_le, zero_add, hsum, row_exp r S hS w hw M e]
  have hz := (sum_exp_pos r S hS M).ne'
  by_cases h : e ∈ S
  · rw [if_pos h, if_pos h, div_coe_coe _ _ hz, soft_shift]
  · rw [if_neg h, if_neg h]
    exact (div_coe_coe 0 _ hz).trans (by rw [zero_div]; rfl)

end

/-- The gates off the best eight being zero, the whole sum is theirs. -/
theorem sum_gates (S : Finset (Fin 64)) (g : Fin 64 → EReal) (q : Fin 64 → EReal) :
    ∑ e, (if e ∈ S then g e else 0) * q e = ∑ e ∈ S, g e * q e := by
  rw [← Finset.sum_filter_add_sum_filter_not Finset.univ (fun e => e ∈ S)]
  rw [Finset.sum_congr (s₁ := Finset.univ.filter fun e => ¬ e ∈ S) rfl fun e he => by
    rw [if_neg (Finset.mem_filter.mp he).2, zero_mul], Finset.sum_const_zero, add_zero]
  rw [Finset.filter_mem_eq_inter, Finset.univ_inter]
  exact Finset.sum_congr rfl fun e he => by rw [if_pos he]

end Cert.KernelIdeal.Gen.Tile

end
-- ==== Proof.Value.RefRead.lean ====
/- The reference's results, element by element. -/
module

public import proofs.«01_k».proof.Proof.Value.RefTerm
public import proofs.«01_k».proof.Proof.Value.TopK
public import proofs.«01_k».proof.Proof.Value.Softmax
public import Idealize.ShloMosaic.Lib.Routing.OpsPair
public import Idealize.ShloMosaic.Lib.Routing.OpsSet
public import Idealize.ShloMosaic.Lib.Pointwise
public import Idealize.ShloMosaic.Lib.Tactic.CleanTypes

@[expose] public section

set_option maxRecDepth 16384

noncomputable section

namespace Cert.ReferenceIdeal.Value

open Idealize.ShloMosaic hiding ix1 ix2 ix3
open Cert.ReferenceIdeal Cert.ReferenceIdeal.Gen Idealize.ShloMosaic.TcCoe Idealize.ShloMosaic.ValueIdx Idealize.ShloMosaic.Routing
open Cert.KernelIdeal.Gen.Tile (Best)

theorem tokenPart_at (x0 : FVec Ideal S4096x68 .f32) (x4 : FVec Ideal S256x68 .f32) (x5 : FVec Ideal S256 .f32) (b : Fin 4096) (h : Fin 256) :
    tokenPart x0 x4 x5 (ix2 b h) = (∑ k : Fin 68, x0 (ix2 b k) * x4 (ix2 h k)) + x5 (ix1 h) := by
  unfold tokenPart
  pointwise
  simp only [ix1_eq_valueIdx, ix2_eq_valueIdx]

/-- Feature `k` of expert `e`'s token `b`: the plan's, the reward's or the risk's. -/
def feat (x1 : FVec Ideal S4096x64x3 .f32) (x2 x3 : FVec Ideal S4096x64x2 .f32) (b : Fin 4096) (e : Fin 64) (k : Fin 7) : EReal :=
  if h : k.val < 3 then x1 (ix3 b e ⟨k.val, h⟩)
  else if h' : k.val - 3 < 2 then x2 (ix3 b e ⟨k.val - 3, h'⟩) else x3 (ix3 b e ⟨k.val - 3 - 2, by omega⟩)

theorem expertPart_at (x1 : FVec Ideal S4096x64x3 .f32) (x2 x3 : FVec Ideal S4096x64x2 .f32) (x6 : FVec Ideal S256x7 .f32) (x7 : FVec Ideal S256 .f32)
    (b : Fin 4096) (e : Fin 64) (h : Fin 256) :
    expertPart x1 x2 x3 x6 x7 (ix3 b e h) = (∑ k : Fin 7, feat x1 x2 x3 b e k * x6 (ix2 h k)) + x7 (ix1 h) := by
  unfold expertPart
  pointwise
  simp only [ix1_eq_valueIdx, ix2_eq_valueIdx, ix3_eq_valueIdx]
  rfl

theorem logits_at (x0 : FVec Ideal S4096x68 .f32) (x1 : FVec Ideal S4096x64x3 .f32) (x2 x3 : FVec Ideal S4096x64x2 .f32) (x4 : FVec Ideal S256x68 .f32)
    (x5 : FVec Ideal S256 .f32) (x6 : FVec Ideal S256x7 .f32) (x7 : FVec Ideal S256 .f32) (x8 : FVec Ideal S1x512 .f32) (x9 : FVec Ideal S1 .f32)
    (b : Fin 4096) (e : Fin 64) :
    logits x0 x1 x2 x3 x4 x5 x6 x7 x8 x9 (ix2 b e)
      = ((∑ h : Fin 256, ((∑ k : Fin 7, feat x1 x2 x3 b e k * x6 (ix2 h k)) + x7 (ix1 h)) * x8 (ix2 0 ⟨h.val, by omega⟩))
          + ∑ h : Fin 256, ((∑ k : Fin 68, x0 (ix2 b k) * x4 (ix2 h k)) + x5 (ix1 h)) * x8 (ix2 0 ⟨256 + h.val, by omega⟩)) + x9 (ix1 0) := by
  unfold logits
  have hE := expertPart_at x1 x2 x3 x6 x7 b e
  have hT := tokenPart_at x0 x4 x5 b
  generalize expertPart x1 x2 x3 x6 x7 = E at hE ⊢
  generalize tokenPart x0 x4 x5 = T at hT ⊢
  simp only [← hE, ← hT]
  pointwise
  simp only [ix1_eq_valueIdx, ix2_eq_valueIdx, ix3_eq_valueIdx]

theorem rowIdx_at (b : Fin 4096) : rowIdx (ix2 b 0) = BitVec.ofNat 32 b.val := by
  have h : (rowNo (ix2 b 0) : BitVec 32) = BitVec.ofNat 32 b.val := rfl
  show Scalar.select (IntOp.cmpi .slt (rowNo (ix2 b 0)) 0#32) _ (rowNo (ix2 b 0)) = _
  rw [h, wrap_of_lt _ _ (by rw [BitVec.toNat_ofNat]; have := b.isLt; omega)]

theorem expertIdx_at (i : IVec S4096x8 32) (j : S4096x8.Idx) (h : (i j).toNat < 2 ^ 31) : expertIdx i j = i j := by
  show Scalar.select (IntOp.cmpi .slt (i j) 0#32) _ (i j) = _
  rw [wrap_of_lt _ _ h]

theorem places_row (i : IVec S4096x8 32) (b : Fin 4096) (k : Fin 8) : places i (ix3 b k 0) = BitVec.ofNat 32 b.val := by
  rw [← rowIdx_at b]
  rfl

theorem places_expert (i : IVec S4096x8 32) (b : Fin 4096) (k : Fin 8) (h : (i (ix2 b k)).toNat < 2 ^ 31) : places i (ix3 b k 1) = i (ix2 b k) := by
  rw [← expertIdx_at i _ h]
  unfold places
  generalize expertIdx i = v
  generalize rowIdx = r
  pointwise
  simp only [ix2_eq_valueIdx]

theorem ofNat_place (n : ℕ) (h : n < 4096) : (BitVec.ofNat 32 n).toInt = n := StableHlo.Predicate.toInt_ofNat_small _ (by omega)

/-- The kept row: the logit at the first eight entries, minus infinity elsewhere. -/
theorem kept_at (l : FVec Ideal S4096x64 .f32) (b : Fin 4096) (e : Fin 64) :
    kept l (ix2 b e) = if e ∈ firsts (rowOf l b) then rowOf l b e else ⊥ := by
  unfold kept
  have hv := fun b k => topK_val (K := 8) (by decide) l sliceFits_S4096x64_S4096x8 b k
  have hp := fun b k => topK_pos (K := 8) (by decide) l sliceFits_S4096x64_S4096x8 b k
  change ∀ b k, (Host.topK S4096x8 1 (FloatOps.cmpfTotal (F := Ideal) (φ := .f32) .gt) l sliceFits_S4096x64_S4096x8).1 (ix2 b k) = _ at hv
  change ∀ b k, (Host.topK S4096x8 1 (FloatOps.cmpfTotal (F := Ideal) (φ := .f32) .gt) l sliceFits_S4096x64_S4096x8).2 (ix2 b k) = _ at hp
  generalize Host.topK S4096x8 1 (FloatOps.cmpfTotal (F := Ideal) (φ := .f32) .gt) l sliceFits_S4096x64_S4096x8 = T at hv hp ⊢
  have hs : ∀ (b : Fin 4096) (k : Fin 8), (T.2 (ix2 b k)).toNat < 2 ^ 31 := fun b k => by
    rw [hp, BitVec.toNat_ofNat]
    have := (place (rowOf l b) ⟨k.val, k.isLt.trans_le (by decide)⟩).isLt
    omega
  have lands : ∀ (a : Fin 4096) (k : Fin 8), scatter_S4096x64_S4096x8x2_S4096x8_n_01_01_2.resultIdx? (ix2 a k) (places T.2) = some (ix2 b e)
      ↔ a = b ∧ place (rowOf l a) ⟨k.val, k.isLt.trans_le (by decide)⟩ = e := fun a k => by
    rw [scatter_lands2 scatter_S4096x64_S4096x8x2_S4096x8_n_01_01_2 rfl rfl rfl (places T.2) a k b e, places_row, places_expert _ _ _ (hs a k), hp,
      ofNat_place _ a.isLt, ofNat_place _ ((Fin.isLt _).trans_le (by decide))]
    constructor
    · rintro ⟨h1, h2⟩; exact ⟨Fin.ext (by omega), Fin.ext (by omega)⟩
    · rintro ⟨rfl, rfl⟩; exact ⟨rfl, rfl⟩
  have ex : ∀ k : S4096x8.Idx, ∃ (a : Fin 4096) (n : Fin 8), k = ix2 a n := fun k => ⟨k 0, k 1, by funext q; fin_cases q <;> rfl⟩
  split_ifs with h
  · obtain ⟨k, hk, hke⟩ := (mem_firsts _ _).1 h
    refine scatter_set_hit _ _ _ _ _ _ (fun j hj => ?_) (ix2 b (⟨k.val, hk⟩ : Fin 8)) ((lands b ⟨k.val, hk⟩).2 ⟨rfl, hke⟩)
    obtain ⟨a, n, rfl⟩ := ex j
    obtain ⟨rfl, hn⟩ := (lands a n).1 hj
    rw [hv, hn]
  · refine (scatter_set_miss _ _ _ _ _ fun j hj => h ?_).trans ?_
    · obtain ⟨a, n, rfl⟩ := ex j
      obtain ⟨rfl, hn⟩ := (lands a n).1 hj
      exact (mem_firsts _ _).2 ⟨⟨n.val, n.isLt.trans_le (by decide)⟩, n.isLt, hn⟩
    · exact Cert.KernelIdeal.Gen.Tile.ninf_eq

theorem expo_at (w : FVec Ideal S4096x64 .f32) (b : Fin 4096) (e : Fin 64) :
    expo w (ix2 b e) = Ideal.exp (rowOf w b e - max ⊥ (Finset.univ.fold max ⊥ (rowOf w b))) := by
  unfold expo
  clean_types
  pointwise
  have e : Ideal.ofBits FTy.f32 4286578688#32 = ⊥ := Cert.KernelIdeal.Gen.Tile.ninf_eq
  simp only [ix2_eq_valueIdx, e]
  rfl

theorem softRows_at (w : FVec Ideal S4096x64 .f32) (b : Fin 4096) (e : Fin 64) :
    softRows w (ix2 b e) = Ideal.div (expo w (ix2 b e)) (0 + ∑ k, expo w (ix2 b k)) := by
  unfold softRows
  generalize expo w = v
  rw [zero_add]
  pointwise
  simp only [ix2_eq_valueIdx]

theorem action_at (l : FVec Ideal S4096x64 .f32) (x1 : FVec Ideal S4096x64x3 .f32) (b : Fin 4096) (q : Fin 3) :
    action l x1 (ix2 b q) = ∑ e : Fin 64, gates l (ix2 b e) * x1 (ix3 b e q) := by
  unfold action
  generalize gates l = g
  pointwise
  simp only [ix2_eq_valueIdx, ix3_eq_valueIdx]

/-- In a row of finite logits whose best eight are `S`, the gates are the softmax over `S`. -/
theorem gates_at (l : FVec Ideal S4096x64 .f32) (b : Fin 4096) (r : Fin 64 → ℝ) (hr : ∀ e, rowOf l b e = (r e : EReal))
    (hS : (firsts (rowOf l b)).Nonempty) (e : Fin 64) :
    gates l (ix2 b e) = if e ∈ firsts (rowOf l b) then ((Cert.KernelIdeal.Gen.Tile.soft r (firsts (rowOf l b)) e : ℝ) : EReal) else 0 := by
  unfold gates
  rw [softRows_at]
  simp only [expo_at]
  exact Cert.KernelIdeal.Gen.Tile.row_soft r _ hS (rowOf (kept l) b) (fun e => by rw [← hr]; exact kept_at l b e) e

theorem action_sum (l : FVec Ideal S4096x64 .f32) (x1 : FVec Ideal S4096x64x3 .f32) (b : Fin 4096) (r : Fin 64 → ℝ) (hr : ∀ e, rowOf l b e = (r e : EReal))
    (hS : (firsts (rowOf l b)).Nonempty) (q : Fin 3) :
    action l x1 (ix2 b q) = ∑ e ∈ firsts (rowOf l b), ((Cert.KernelIdeal.Gen.Tile.soft r (firsts (rowOf l b)) e : ℝ) : EReal) * x1 (ix3 b e q) := by
  rw [action_at]
  simp only [gates_at l b r hr hS]
  exact Cert.KernelIdeal.Gen.Tile.sum_gates _ (fun e => ((Cert.KernelIdeal.Gen.Tile.soft r (firsts (rowOf l b)) e : ℝ) : EReal)) fun e => x1 (ix3 b e q)

end Cert.ReferenceIdeal.Value
-- ==== Proof.Value.KernelRead.lean ====
/- The kernel's logits and action values, element by element: the reference's. -/
module

public import proofs.«01_k».proof.Proof.Value.Arrays
public import proofs.«01_k».proof.Proof.Value.RefRead

@[expose] public section

set_option maxRecDepth 16384

noncomputable section

namespace Cert.KernelIdeal.Gen.Tile

open Idealize.ShloMosaic hiding ix1 ix2 ix3
open Idealize.ShloMosaic.TcCoe Idealize.ShloMosaic.ValueIdx
open Cert.ReferenceIdeal.Value (feat logits logits_at rowOf firsts)

/-- A column of a table of one column per expert's token. -/
def col (b : Fin 4096) (e : Fin 64) : Fin 262144 := ⟨e.val * 4096 + b.val, by have := b.isLt; have := e.isLt; omega⟩

/-- A table with its tokens first, turned round and its last two axes joined, read at a column. -/
theorem turned_at {n : ℕ} (x : (⟨3, ![4096, 64, n]⟩ : Shape).Idx → EReal) (h : (⟨3, ![4096, 64, n]⟩ : Shape).Transposes [2, 1, 0] ⟨3, ![n, 64, 4096]⟩)
    (h' : (⟨3, ![n, 64, 4096]⟩ : Shape).ShapeCasts ⟨2, ![n, 262144]⟩) (k : Fin n) (b : Fin 4096) (e : Fin 64) :
    shapeCast ⟨2, ![n, 262144]⟩ (transpose ⟨3, ![n, 64, 4096]⟩ [2, 1, 0] x h) h' (ix2 k (col b e)) = x (ix3 b e k) := by
  rw [shapeCast_apply _ h' (ix2 k (col b e)) (ix3 k e b) (by
    rw [Shape.rowMajor_val_two, Shape.rowMajor_val_three]
    show (k.val * 64 + e.val) * 4096 + b.val = k.val * 262144 + (e.val * 4096 + b.val)
    omega)]
  exact congrArg x (by funext a; fin_cases a <;> rfl)

theorem feats_at (x1 : Vec Ideal S4096x64x3 .f32) (x2 x3 : Vec Ideal S4096x64x2 .f32) (k : Fin 7) (b : Fin 4096) (e : Fin 64) :
    feats x1 x2 x3 (ix2 k (col b e)) = feat x1 x2 x3 b e k := by
  unfold feats
  have h1 := fun k => turned_at x1 transposes_S4096x64x3_S3x64x4096_2_1_0 shapeCasts_S3x64x4096_S3x262144 k b e
  have h2 := fun k => turned_at x2 transposes_S4096x64x2_S2x64x4096_2_1_0 shapeCasts_S2x64x4096_S2x262144 k b e
  have h3 := fun k => turned_at x3 transposes_S4096x64x2_S2x64x4096_2_1_0 shapeCasts_S2x64x4096_S2x262144 k b e
  change ∀ k, (shapeCast S3x262144 _ _ : Vec Ideal S3x262144 .f32) _ = _ at h1
  change ∀ k, (shapeCast S2x262144 _ _ : Vec Ideal S2x262144 .f32) _ = _ at h2
  change ∀ k, (shapeCast S2x262144 _ _ : Vec Ideal S2x262144 .f32) _ = _ at h3
  generalize (shapeCast S3x262144 (transpose S3x64x4096 [2, 1, 0] x1 transposes_S4096x64x3_S3x64x4096_2_1_0) shapeCasts_S3x64x4096_S3x262144 : Vec Ideal S3x262144 .f32) = y1 at h1 ⊢
  generalize (shapeCast S2x262144 (transpose S2x64x4096 [2, 1, 0] x2 transposes_S4096x64x2_S2x64x4096_2_1_0) shapeCasts_S2x64x4096_S2x262144 : Vec Ideal S2x262144 .f32) = y2 at h2 ⊢
  generalize (shapeCast S2x262144 (transpose S2x64x4096 [2, 1, 0] x3 transposes_S4096x64x2_S2x64x4096_2_1_0) shapeCasts_S2x64x4096_S2x262144 : Vec Ideal S2x262144 .f32) = y3 at h3 ⊢
  pointwise
  simp only [ix2_eq_valueIdx]
  unfold feat
  simp only [← h1, ← h2, ← h3]

variable (m : (ℓ : Loc nD τ sig) → Buf (Elt Ideal) ℓ) (d : Dev nD)

theorem opS_at (b : Fin 4096) (e : Fin 64) : opS m d (ix2 e b) = expertScores m d (ix2 0 (col b e)) := by
  unfold opS
  refine shapeCast_apply _ _ (ix2 e b) (ix2 0 (col b e)) ?_
  rw [Shape.rowMajor_val_two, Shape.rowMajor_val_two]
  show 0 * 262144 + (e.val * 4096 + b.val) = e.val * 4096 + b.val
  omega

theorem opC_at (b : Fin 4096) : opC m d (ix1 b) = tokenTerms m d (ix2 0 b) := by
  unfold opC
  refine shapeCast_apply _ _ (ix1 b) (ix2 0 b) ?_
  rw [Shape.rowMajor_val_one, Shape.rowMajor_val_two]
  show 0 * 4096 + b.val = b.val
  omega

theorem plans_at (q : Fin 3) (e : Fin 64) (b : Fin 4096) : plans m d (ix3 q e b) = m ((SparseCore.T d).loc main_arg1) (ix3 b e q) := by
  unfold plans
  rw [shapeCast_apply _ _ (ix3 q e b) (ix2 q (col b e)) (by
    rw [Shape.rowMajor_val_two, Shape.rowMajor_val_three]
    show q.val * 262144 + (e.val * 4096 + b.val) = (q.val * 64 + e.val) * 4096 + b.val
    omega)]
  have h := fun k => feats_at (m ((SparseCore.T d).loc main_arg1)) (m ((SparseCore.T d).loc main_arg2)) (m ((SparseCore.T d).loc main_arg3)) k b e
  generalize feats (m ((SparseCore.T d).loc main_arg1)) (m ((SparseCore.T d).loc main_arg2)) (m ((SparseCore.T d).loc main_arg3)) = y at h ⊢
  have hs : extractStridedSlice S3x262144 ![0, 0] y slices_S7x262144_S3x262144_0_0 (ix2 q (col b e)) = y (ix2 ⟨q.val, by omega⟩ (col b e)) := by
    pointwise
    simp only [ix2_eq_valueIdx]
  refine hs.trans ((h _).trans ?_)
  unfold feat
  exact dif_pos q.isLt

/-- An expert's number as the tiles write it. -/
theorem word_val (e : Fin 64) : (BitVec.ofNat 32 e.val).toNat % 64 = e.val := by
  rw [BitVec.toNat_ofNat]; have := e.isLt; omega

theorem ix15_at (b : Fin 4096) (e : Fin 64) : ix15 (BitVec.ofNat 32 e.val) b.val = ix2 e b := by
  funext a
  fin_cases a
  · exact Fin.ext (word_val e)
  · exact Fin.ext (Nat.mod_eq_of_lt b.isLt)

theorem ix16_at (b : Fin 4096) : ix16 b.val = ix1 b := by
  funext a
  fin_cases a
  exact Fin.ext (Nat.mod_eq_of_lt b.isLt)

theorem ix18_at (q : Fin 3) (b : Fin 4096) (e : Fin 64) : ix18 q.val (BitVec.ofNat 32 e.val) b.val = ix3 q e b := by
  funext a
  fin_cases a
  · exact Fin.ext (Nat.mod_eq_of_lt q.isLt)
  · exact Fin.ext (word_val e)
  · exact Fin.ext (Nat.mod_eq_of_lt b.isLt)

/-- The logits of the arguments. -/
def logitsOf : Vec Ideal S4096x64 .f32 :=
  logits (m ((SparseCore.T d).loc main_arg0)) (m ((SparseCore.T d).loc main_arg1)) (m ((SparseCore.T d).loc main_arg2))
    (m ((SparseCore.T d).loc main_arg3)) (m ((SparseCore.T d).loc main_arg4)) (m ((SparseCore.T d).loc main_arg5))
    (m ((SparseCore.T d).loc main_arg6)) (m ((SparseCore.T d).loc main_arg7)) (m ((SparseCore.T d).loc main_arg8)) (m ((SparseCore.T d).loc main_arg9))

theorem scores_args (x1 : Vec Ideal S4096x64x3 .f32) (x2 x3 : Vec Ideal S4096x64x2 .f32) (x6 : Vec Ideal S256x7 .f32) (x7 : Vec Ideal S256 .f32) (x8 : Vec Ideal S1x512 .f32)
    (b : Fin 4096) (e : Fin 64) :
    scores (feats x1 x2 x3) x6 (shapeCast S256x1 x7 shapeCasts_S256_S256x1) (extractStridedSlice S1x256 ![0, 0] x8 slices_S1x512_S1x256_0_0) (ix2 0 (col b e))
      = ∑ h : Fin 256, ((∑ k : Fin 7, feat x1 x2 x3 b e k * x6 (ix2 h k)) + x7 (ix1 h)) * x8 (ix2 0 ⟨h.val, by omega⟩) := by
  unfold scores
  refine Finset.sum_congr rfl fun h _ => ?_
  rw [mul_comm]
  have hb : shapeCast S256x1 x7 shapeCasts_S256_S256x1 (ix2 h 0) = x7 (ix1 h) := by
    pointwise
    simp only [ix1_eq_valueIdx]
  have hs : extractStridedSlice S1x256 ![0, 0] x8 slices_S1x512_S1x256_0_0 (ix2 0 h) = x8 (ix2 0 ⟨h.val, by omega⟩) := by
    pointwise
    simp only [ix2_eq_valueIdx]
  rw [hb, hs]
  congr 2
  refine Finset.sum_congr rfl fun k _ => ?_
  rw [mul_comm]
  exact congrArg (· * _) (feats_at x1 x2 x3 k b e)

theorem ctxs_args (x0 : Vec Ideal S4096x68 .f32) (x4 : Vec Ideal S256x68 .f32) (x5 : Vec Ideal S256 .f32) (x8 : Vec Ideal S1x512 .f32) (x9 : Vec Ideal S1 .f32) (b : Fin 4096) :
    ctxs (transpose S68x4096 [1, 0] x0 transposes_S4096x68_S68x4096_1_0) x4 (shapeCast S256x1 x5 shapeCasts_S256_S256x1)
        (extractStridedSlice S1x256 ![0, 256] x8 slices_S1x512_S1x256_0_256) (shapeCast S1x1 x9 shapeCasts_S1_S1x1) (ix2 0 b)
      = (∑ h : Fin 256, ((∑ k : Fin 68, x0 (ix2 b k) * x4 (ix2 h k)) + x5 (ix1 h)) * x8 (ix2 0 ⟨256 + h.val, by omega⟩)) + x9 (ix1 0) := by
  unfold ctxs
  have hz : shapeCast S1x1 x9 shapeCasts_S1_S1x1 (ix2 0 0) = x9 (ix1 0) := by
    pointwise
    simp only [ix1_eq_valueIdx]
  rw [hz]
  refine congrArg (· + _) (Finset.sum_congr rfl fun h _ => ?_)
  rw [mul_comm]
  have hb : shapeCast S256x1 x5 shapeCasts_S256_S256x1 (ix2 h 0) = x5 (ix1 h) := by
    pointwise
    simp only [ix1_eq_valueIdx]
  have hs : extractStridedSlice S1x256 ![0, 256] x8 slices_S1x512_S1x256_0_256 (ix2 0 h) = x8 (ix2 0 ⟨256 + h.val, by omega⟩) := by
    pointwise
    simp only [ix2_eq_valueIdx]
  have ht : ∀ k, transpose S68x4096 [1, 0] x0 transposes_S4096x68_S68x4096_1_0 (ix2 k b) = x0 (ix2 b k) := fun k => by
    pointwise
    simp only [ix2_eq_valueIdx]
  rw [hb, hs]
  congr 2
  refine Finset.sum_congr rfl fun k _ => ?_
  rw [mul_comm]
  exact congrArg (· * _) (ht k)

/-- A token's score of an expert is the reference's logit. -/
theorem score_logit (b : Fin 4096) (e : Fin 64) : scoreT (opS m d) (opC m d) b.val (BitVec.ofNat 32 e.val) = logitsOf m d (ix2 b e) := by
  unfold scoreT
  rw [ix15_at, ix16_at, opS_at, opC_at]
  refine (congrArg₂ (fun u v : EReal => u + v) (scores_args _ _ _ _ _ _ b e) (ctxs_args _ _ _ _ _ b)).trans (Eq.trans ?_ (logits_at _ _ _ _ _ _ _ _ _ _ b e).symm)
  exact (add_assoc _ _ _).symm

theorem row_at (b : Fin 4096) (e : Fin 64) : rowOf (logitsOf m d) b e = logitsOf m d (ix2 b e) := rfl

end Cert.KernelIdeal.Gen.Tile

end
-- ==== Proof.Value.Pre.lean ====
/- The condition on the arguments, read: every logit is a real number, and in every row the eighth greatest is above the ninth. -/
module

public import proofs.«01_k».proof.Proof.Value.TopK
public import proofs.«01_k».proof.Proof.Value.RefTerm
public import Idealize.ShloMosaic.Lib.ReduceAll
public import Idealize.ShloMosaic.Lib.Affine
public import Idealize.ShloMosaic.Lib.Pointwise

@[expose] public section

set_option maxRecDepth 16384

noncomputable section

/-- The shapes the condition's operations relate. -/
instance Cert.Pre_separated.facts : Cert.Pre_separated.Facts := by
  constructor <;> decide

namespace Cert.ReferenceIdeal.Value

open Idealize.ShloMosaic hiding ix1 ix2 ix3
open Cert.ReferenceIdeal Cert.ReferenceIdeal.Gen Idealize.ShloMosaic.TcCoe Idealize.ShloMosaic.ValueIdx

/-- The condition on a table of logits. -/
def Separated (l : FVec Ideal S4096x64 .f32) : Prop :=
  (∀ b e, max (l (ix2 b e)) (-(l (ix2 b e))) < (⊤ : EReal)) ∧ ∀ b, rowOf l b (place (rowOf l b) 8) < rowOf l b (place (rowOf l b) 7)

instance : Subsingleton (Cert.Pre_separated.S_).Idx := ⟨fun a b => funext fun q => q.elim0⟩

/-- The greatest of a row, and the value the absolute values stay below. -/
def tops (l : FVec Ideal S4096x64 .f32) : FVec Ideal Cert.Pre_separated.S4096x9 .f32 :=
  (Host.topK Cert.Pre_separated.S4096x9 1 (FloatOps.cmpfTotal (F := Ideal) (φ := .f32) .gt) l Cert.Pre_separated.Facts.sliceFits_S4096x64_S4096x9).1

theorem lt_of_olt {a b : EReal} (h : Ideal.cmp .olt a b = 1#1) : a < b := by
  by_contra hn
  simp [Ideal.cmp, hn] at h

theorem lt_of_ogt {a b : EReal} (h : Ideal.cmp .ogt a b = 1#1) : b < a := by
  by_contra hn
  simp [Ideal.cmp, hn] at h

theorem separated_part (l : FVec Ideal S4096x64 .f32)
    (h : Cert.Pre_separated.fn_part1 (F := Ideal) (tops l) (Host.absf l) (constant Cert.Pre_separated.S_ .f32 0x7F800000#32) = fun _ => 1#1) : Separated l := by
  have h0 := congrFun h fun q => q.elim0
  dsimp only [Cert.Pre_separated.fn_part1] at h0
  obtain ⟨ha, hb⟩ := IntOp.andi_eq_one.mp h0
  have hA := Host.reduce_andi_all _ _ _ _ _ ha
  have hB := Host.reduce_andi_all _ _ _ _ _ hb
  refine ⟨fun b e => ?_, fun b => ?_⟩
  · have h1 := lt_of_olt (hA (ix2 b e))
    change max (l (ix2 b e)) (-(l (ix2 b e))) < Ideal.ofBits .f32 0x7F800000#32 at h1
    rwa [show Ideal.ofBits .f32 0x7F800000#32 = ⊤ from by simp [Ideal.ofBits, Ideal.ieee]] at h1
  · have h1 := lt_of_ogt (hB (ix2 b 0))
    have hv := fun k => topK_val (K := 9) (by decide) l (Cert.Pre_separated.Facts.sliceFits_S4096x64_S4096x9) b k
    have slice : ∀ (v : FVec Ideal Cert.Pre_separated.S4096x9 .f32), extractStridedSlice Cert.Pre_separated.S4096x1 ![0, 8] v Cert.Pre_separated.Facts.slices_S4096x9_S4096x1_0_8 (ix2 b 0) = v (ix2 b 8)
        ∧ extractStridedSlice Cert.Pre_separated.S4096x1 ![0, 7] v Cert.Pre_separated.Facts.slices_S4096x9_S4096x1_0_7 (ix2 b 0) = v (ix2 b 7) := fun v => by
      constructor
      · pointwise
        simp only [ix2_eq_valueIdx]
      · pointwise
        simp only [ix2_eq_valueIdx]
    rw [(slice _).1, (slice _).2] at h1
    have h8 : tops l (ix2 b 8) = _ := hv 8
    have h7 : tops l (ix2 b 7) = _ := hv 7
    rw [h8, h7] at h1
    exact h1

theorem separated_of (x0 : FVec Ideal S4096x68 .f32) (x1 : FVec Ideal S4096x64x3 .f32) (x2 x3 : FVec Ideal S4096x64x2 .f32) (x4 : FVec Ideal S256x68 .f32)
    (x5 : FVec Ideal S256 .f32) (x6 : FVec Ideal S256x7 .f32) (x7 : FVec Ideal S256 .f32) (x8 : FVec Ideal S1x512 .f32) (x9 : FVec Ideal S1 .f32)
    (h : Cert.Pre_separated.fn (F := Ideal) x0 x1 x2 x3 x4 x5 x6 x7 x8 x9 = fun _ => 1#1) : Separated (logits x0 x1 x2 x3 x4 x5 x6 x7 x8 x9) :=
  separated_part _ h

end Cert.ReferenceIdeal.Value

end
-- ==== Proof.Value.Equation.lean ====
/- The kernel's results are the reference's, on arguments that satisfy the condition. -/
module

public import proofs.«01_k».proof.Proof.Value.KernelRead
public import proofs.«01_k».proof.Proof.Value.Pre

@[expose] public section

set_option maxRecDepth 16384

noncomputable section

namespace Cert.KernelIdeal.Gen.Tile

open Idealize.ShloMosaic hiding ix1 ix2 ix3
open Idealize.ShloMosaic.TcCoe Idealize.ShloMosaic.ValueIdx
open Cert.ReferenceIdeal.Value (feat logits rowOf firsts best_firsts gates_at action_sum Separated separated_of)

variable (m : (ℓ : Loc nD τ sig) → Buf (Elt Ideal) ℓ) (d : Dev nD)

/-- A flat table of `n` entries a token, read at a token and an entry. -/
theorem flat_at {n N : ℕ} (x : (⟨1, ![N]⟩ : Shape).Idx → EReal) (h : (⟨1, ![N]⟩ : Shape).ShapeCasts ⟨2, ![4096, n]⟩) (hN : N = 4096 * n) (b : Fin 4096) (q : Fin n) :
    shapeCast ⟨2, ![4096, n]⟩ x h (ix2 b q) = x (ix1 ⟨b.val * n + q.val, by
      have h1 := b.isLt; have h2 := q.isLt
      have h3 : (b.val + 1) * n ≤ 4096 * n := Nat.mul_le_mul_right n h1
      have h4 : (b.val + 1) * n = b.val * n + n := Nat.succ_mul _ _
      omega⟩) := by
  refine shapeCast_apply x h (ix2 b q) _ ?_
  rw [Shape.rowMajor_val_one, Shape.rowMajor_val_two]
  rfl

theorem index2 {n : ℕ} (j : (⟨2, ![4096, n]⟩ : Shape).Idx) : ∃ (b : Fin 4096) (q : Fin n), j = ix2 b q := ⟨j 0, j 1, by funext a; fin_cases a <;> rfl⟩

theorem logits_eq : W7 m d (Proc.devRef .tc main_v22) = logitsOf m d := by
  rw [W7_22]
  funext j
  obtain ⟨b, e, rfl⟩ := index2 j
  refine (flat_at (outL (opS m d) (opC m d)) shapeCasts_S262144_S4096x64 rfl b e).trans ?_
  show scoreT (opS m d) (opC m d) ((b.val * 64 + e.val) / 64) (BitVec.ofNat 32 ((b.val * 64 + e.val) % 64)) = _
  rw [show (b.val * 64 + e.val) / 64 = b.val from by have := e.isLt; omega, show (b.val * 64 + e.val) % 64 = e.val from by have := e.isLt; omega]
  exact score_logit m d b e

section
variable (hs : Separated (logitsOf m d))

/-- A token's logits, as real numbers. -/
def reals (b : Fin 4096) (e : Fin 64) : ℝ := (logitsOf m d (ix2 b e)).toReal

include hs

theorem reals_eq (b : Fin 4096) (e : Fin 64) : rowOf (logitsOf m d) b e = (reals m d b e : EReal) := by
  have h := hs.1 b e
  refine (EReal.coe_toReal (x := logitsOf m d (ix2 b e)) (fun ht => ?_) (fun hb => ?_)).symm
  · rw [ht] at h; simp at h
  · rw [hb] at h; simp at h

theorem best (b : Fin 4096) : Best (fun e => (reals m d b e : EReal)) (firsts (rowOf (logitsOf m d) b)) := by
  have h := best_firsts _ (hs.2 b)
  have hr : rowOf (logitsOf m d) b = fun e => (reals m d b e : EReal) := funext fun e => reals_eq m d hs b e
  rwa [hr] at h ⊢

theorem scores_real (b : Fin 4096) (e : Fin 64) : scoreT (opS m d) (opC m d) b.val (BitVec.ofNat 32 e.val) = (reals m d b e : EReal) :=
  (score_logit m d b e).trans (reals_eq m d hs b e)

theorem gates_eq : W7 m d (Proc.devRef .tc main_v21) = Cert.ReferenceIdeal.Value.gates (logitsOf m d) := by
  rw [W7_21]
  funext j
  obtain ⟨b, e, rfl⟩ := index2 j
  have hb := best m d hs b
  refine (flat_at (outG (opS m d) (opC m d)) shapeCasts_S262144_S4096x64 rfl b e).trans ?_
  show gateS (scoreT (opS m d) (opC m d) ((b.val * 64 + e.val) / 64)) ((b.val * 64 + e.val) % 64) = _
  rw [show (b.val * 64 + e.val) / 64 = b.val from by have := e.isLt; omega, show (b.val * 64 + e.val) % 64 = e.val from by have := e.isLt; omega]
  rw [gates_at _ b (reals m d b) (reals_eq m d hs b) (best_nonempty _ (reals m d b) (scores_real m d hs b) _ hb) e]
  exact gate_eq _ (reals m d b) (scores_real m d hs b) _ hb e

theorem action_eq : W7 m d (Proc.devRef .tc main_v20) = Cert.ReferenceIdeal.Value.action (logitsOf m d) (m ((SparseCore.T d).loc main_arg1)) := by
  rw [W7_20]
  funext j
  obtain ⟨b, q, rfl⟩ := index2 j
  have hb := best m d hs b
  refine (flat_at (outA (opS m d) (opC m d) (plans m d)) shapeCasts_S12288_S4096x3 rfl b q).trans ?_
  show actS (scoreT (opS m d) (opC m d) ((b.val * 3 + q.val) / 3)) (fun e => plans m d (ix18 ((b.val * 3 + q.val) % 3) e ((b.val * 3 + q.val) / 3))) = _
  rw [show (b.val * 3 + q.val) / 3 = b.val from by have := q.isLt; omega, show (b.val * 3 + q.val) % 3 = q.val from by have := q.isLt; omega]
  rw [action_sum _ _ b (reals m d b) (reals_eq m d hs b) (best_nonempty _ (reals m d b) (scores_real m d hs b) _ hb) q]
  refine (act_eq _ (reals m d b) (scores_real m d hs b) _ hb _).trans (Finset.sum_congr rfl fun e _ => ?_)
  rw [ix18_at, plans_at]

end

end Cert.KernelIdeal.Gen.Tile

end
-- ==== Proof.lean ====
module

public import proofs.«01_k».proof.Proof.Gen.ReferenceIdeal.Run
public import proofs.«01_k».proof.Defs
public import proofs.«01_k».proof.Proof.Kept
public import proofs.«01_k».proof.Proof.Ideal.Kept
public import proofs.«01_k».proof.Proof.Value.Equation
public import proofs.«01_k».proof.Proof.Gen.Kernel
public import proofs.«01_k».proof.Proof.Gen.KernelIdeal
public import proofs.«01_k».proof.Proof.Gen.ReferenceIdeal
public import Idealize.ShloMosaic.Adequacy
public import Idealize.ShloMosaic.Init

@[expose] public section

noncomputable section

namespace Cert.Proof

open Idealize.ShloMosaic Idealize.SL.Sem

theorem frame_k : Cert.quiescent_Kernel := fun m ρ _ =>
  (θ_run Cert.Kernel.defs _ _).mono (fun _ h => Cert.Kernel.Gen.Tile.args_quiet m h) (Cert.Kernel.Gen.Tile.run_main (F := Bits) m ρ)

theorem frame_ki : Cert.quiescent_KernelIdeal := fun m ρ _ =>
  (θ_run Cert.KernelIdeal.defs _ _).mono (fun _ h => Cert.KernelIdeal.Gen.Tile.args_quiet m h)
    (Cert.KernelIdeal.Gen.Tile.run_main (F := Ideal) m ρ)

/-- The reference declares no semaphore. -/
theorem frame_r : Cert.quiescent_ReferenceIdeal := fun m ρ _ =>
  (θ_run Cert.ReferenceIdeal.defs _ _).mono (fun r h => ⟨fun c => (h c).2.2.2, Idealize.ShloMosaic.sem_eq_zero_of_no_sems (by decide) r.2⟩)
    (Cert.ReferenceIdeal.Value.run (F := Ideal) m ρ)

theorem frame_ki_separated : Cert.quiescent_KernelIdeal_pre_separated := fun m ρ _ => frame_ki m ρ trivial

theorem frame_r_separated : Cert.quiescent_ReferenceIdeal_pre_separated := fun m ρ _ => frame_r m ρ trivial

/-- The reference's logits, of arguments equal to the kernel's. -/
theorem logits_same (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) :
    Cert.ReferenceIdeal.Value.logitsOf m' c = Cert.KernelIdeal.Gen.Tile.logitsOf m c := by
  obtain ⟨h0, h1, h2, h3, h4, h5, h6, h7, h8, h9⟩ := h
  unfold Cert.ReferenceIdeal.Value.logitsOf
  rw [h0, h1, h2, h3, h4, h5, h6, h7, h8, h9]
  rfl

/-- On arguments that satisfy the condition the kernel's action, gates and logits are the reference's. -/
theorem same_values : Cert.algebraic_KernelIdeal_ReferenceIdeal_pre_separated := fun m ρ m' ρ' hp hm => by
  have hs : ∀ c, Cert.ReferenceIdeal.Value.Separated (Cert.KernelIdeal.Gen.Tile.logitsOf m c) := fun c =>
    Cert.ReferenceIdeal.Value.separated_of _ _ _ _ _ _ _ _ _ _ (hp c)
  refine ⟨fun c => Cert.KernelIdeal.Gen.Tile.W7 m c (Proc.devRef .tc Cert.KernelIdeal.main_v20),
    fun c => Cert.KernelIdeal.Gen.Tile.W7 m c (Proc.devRef .tc Cert.KernelIdeal.main_v21),
    fun c => Cert.KernelIdeal.Gen.Tile.W7 m c (Proc.devRef .tc Cert.KernelIdeal.main_v22),
    (θ_run Cert.KernelIdeal.defs _ _).mono (fun r h c => ?_) (Cert.KernelIdeal.Gen.Tile.run_main (F := Ideal) m ρ),
    (θ_run Cert.ReferenceIdeal.defs _ _).mono (fun r h c => ?_) (Cert.ReferenceIdeal.Value.ref_run m' ρ')⟩
  · exact ⟨h.1 c Cert.KernelIdeal.main_v20 rfl, h.1 c Cert.KernelIdeal.main_v21 rfl, h.1 c Cert.KernelIdeal.main_v22 rfl,
      (Cert.KernelIdeal.Gen.Tile.args_quiet m h).1 c⟩
  · obtain ⟨ha, hg, hl, hr⟩ := h c
    have same := logits_same m m' c (hm c)
    refine ⟨ha.trans ?_, hg.trans ?_, hl.trans ?_, hr⟩
    · rw [same, (hm c).2.1]; exact (Cert.KernelIdeal.Gen.Tile.action_eq m c (hs c)).symm
    · rw [same]; exact (Cert.KernelIdeal.Gen.Tile.gates_eq m c (hs c)).symm
    · rw [same]; exact (Cert.KernelIdeal.Gen.Tile.logits_eq m c).symm

theorem claim : Cert.Claim := ⟨Cert.Kernel.Gen.facts, Cert.KernelIdeal.Gen.facts, Cert.ReferenceIdeal.Gen.facts, Cert.Pre_separated.facts,
  frame_k, frame_ki, frame_ki_separated, frame_r, frame_r_separated, trivial, same_values⟩

end Cert.Proof

end
